-- ==== Defs.lean ====
def Pre_Pack (m : (ℓ : Loc Cert.Pack.nD Cert.Pack.τ Cert.Pack.sig) → Buf (Elt Bits) ℓ) : Prop :=
  True

def Pre_PackRef (m : (ℓ : Loc Cert.PackRef.nD Cert.PackRef.τ Cert.PackRef.sig) → Buf (Elt Bits) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_keys [hPre_finite_queries_keys : Cert.Pre_finite_queries_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_queries_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_keys [hPre_finite_queries_keys : Cert.Pre_finite_queries_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_queries_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_weights [hPre_finite_weights : Cert.Pre_finite_weights.Facts] (m : (ℓ : Loc Cert.InProjIdeal.nD Cert.InProjIdeal.τ Cert.InProjIdeal.sig) → Buf (Elt Ideal) ℓ) : Prop :=
  ∀ c : Dev Cert.InProjIdeal.nD,
    (Cert.Pre_finite_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_finite_weights.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_weights [hPre_finite_weights : Cert.Pre_finite_weights.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_weights.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_finite_weights.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackRef [hPackRef : Cert.PackRef.Facts] : Prop :=
  ∀ (m : (ℓ : Loc Cert.PackRef.nD Cert.PackRef.τ Cert.PackRef.sig) → Buf (Elt Bits) ℓ) (g : Dev Cert.PackRef.nD → PrngReg), Pre_PackRef m →
    θ_run (Cert.PackRef.defs (F := Bits)) (onTc (τ := Cert.PackRef.τ) (Cert.PackRef.main (F := Bits))) ⟨m, fun _ => 0, g⟩ (fun r => (∀ c : Dev Cert.PackRef.nD,
      r.2.mem ((c.tc : Thread Cert.PackRef.nD Cert.PackRef.τ).loc Cert.PackRef.main_arg0) = m ((c.tc : Thread Cert.PackRef.nD Cert.PackRef.τ).loc Cert.PackRef.main_arg0))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_queries_keys [hAttnIdeal : Cert.AttnIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_queries_keys [hAttnRefIdeal : Cert.AttnRefIdeal.Facts] [hPre_finite_queries_keys : Cert.Pre_finite_queries_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite_weights [hInProjIdeal : Cert.InProjIdeal.Facts] [hPre_finite_weights : Cert.Pre_finite_weights.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_weights m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_finite_weights [hInProjRefIdeal : Cert.InProjRefIdeal.Facts] [hPre_finite_weights : Cert.Pre_finite_weights.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_weights m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def bitexact_Pack_PackRef [hPack : Cert.Pack.Facts] [hPackRef : Cert.PackRef.Facts] : Prop :=
  ∀ (m : (ℓ : Loc Cert.Pack.nD Cert.Pack.τ Cert.Pack.sig) → Buf (Elt Bits) ℓ) (g : Dev Cert.Pack.nD → PrngReg)
    (m' : (ℓ : Loc Cert.PackRef.nD Cert.PackRef.τ Cert.PackRef.sig) → Buf (Elt Bits) ℓ) (g' : Dev Cert.PackRef.nD → PrngReg), Pre_Pack m →
    (∀ c : Dev Cert.Pack.nD,
      m' ((c.tc : Thread Cert.PackRef.nD Cert.PackRef.τ).loc Cert.PackRef.main_arg0) = m ((c.tc : Thread Cert.Pack.nD Cert.Pack.τ).loc Cert.Pack.main_arg0)) →
    ∃ (v0 : (c : Dev Cert.Pack.nD) → Buf (Elt Bits) ((c.tc : Thread Cert.Pack.nD Cert.Pack.τ).loc Cert.Pack.main_v0)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v0) = v0 c
          ∧ r.2.mem ((c.tc : Thread Cert.Pack.nD Cert.Pack.τ).loc Cert.Pack.main_arg0) = m ((c.tc : Thread Cert.Pack.nD Cert.Pack.τ).loc Cert.Pack.main_arg0))
      ∧ θ_run (Cert.PackRef.defs (F := Bits)) (onTc (τ := Cert.PackRef.τ) (Cert.PackRef.main (F := Bits))) ⟨m', fun _ => 0, g'⟩ (fun r => ∀ c : Dev Cert.PackRef.nD,
          r.2.mem ((c.tc : Thread Cert.PackRef.nD Cert.PackRef.τ).loc Cert.PackRef.main_v9) = v0 c
          ∧ r.2.mem ((c.tc : Thread Cert.PackRef.nD Cert.PackRef.τ).loc Cert.PackRef.main_arg0) = m' ((c.tc : Thread Cert.PackRef.nD Cert.PackRef.τ).loc Cert.PackRef.main_arg0))

def preserves_Attn_AttnIdeal : Prop :=
  True

def algebraic_AttnIdeal_AttnRefIdeal_pre_finite_queries_keys [hAttnIdeal : Cert.AttnIdeal.Facts] [hAttnRefIdeal : Cert.AttnRefIdeal.Facts] [hPre_finite_queries_keys : Cert.Pre_finite_queries_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v21)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v21) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v16) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_InProj_InProjIdeal : Prop :=
  True

def algebraic_InProjIdeal_InProjRefIdeal_pre_finite_weights [hInProjIdeal : Cert.InProjIdeal.Facts] [hInProjRefIdeal : Cert.InProjRefIdeal.Facts] [hPre_finite_weights : Cert.Pre_finite_weights.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_weights m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v58_0)) (v1 : (c : Dev Cert.InProjIdeal.nD) → Buf (Elt Ideal) ((c.tc : Thread Cert.InProjIdeal.nD Cert.InProjIdeal.τ).loc Cert.InProjIdeal.main_v58_1)) (v2 : (c : Dev Cert.InProjIdeal.nD) → Buf (Elt Ideal) ((c.tc : Thread Cert.InProjIdeal.nD Cert.InProjIdeal.τ).loc Cert.InProjIdeal.main_v58_2)) (v3 : (c : Dev Cert.InProjIdeal.nD) → Buf (Elt Ideal) ((c.tc : Thread Cert.InProjIdeal.nD Cert.InProjIdeal.τ).loc Cert.InProjIdeal.main_v58_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v58_0) = v0 c
          ∧ r.2.mem ((c.tc : Thread Cert.InProjIdeal.nD Cert.InProjIdeal.τ).loc Cert.InProjIdeal.main_v58_1) = v1 c
          ∧ r.2.mem ((c.tc : Thread Cert.InProjIdeal.nD Cert.InProjIdeal.τ).loc Cert.InProjIdeal.main_v58_2) = v2 c
          ∧ r.2.mem ((c.tc : Thread Cert.InProjIdeal.nD Cert.InProjIdeal.τ).loc Cert.InProjIdeal.main_v58_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v179) = v0 c
          ∧ r.2.mem ((c.tc : Thread Cert.InProjRefIdeal.nD Cert.InProjRefIdeal.τ).loc Cert.InProjRefIdeal.main_v187) = v1 c
          ∧ r.2.mem ((c.tc : Thread Cert.InProjRefIdeal.nD Cert.InProjRefIdeal.τ).loc Cert.InProjRefIdeal.main_v185) = v2 c
          ∧ r.2.mem ((c.tc : Thread Cert.InProjRefIdeal.nD Cert.InProjRefIdeal.τ).loc Cert.InProjRefIdeal.main_v188) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v12_0)) (v1 : (c : Dev Cert.MixIdeal.nD) → Buf (Elt Ideal) ((c.tc : Thread Cert.MixIdeal.nD Cert.MixIdeal.τ).loc Cert.MixIdeal.main_v12_1)) (v2 : (c : Dev Cert.MixIdeal.nD) → Buf (Elt Ideal) ((c.tc : Thread Cert.MixIdeal.nD Cert.MixIdeal.τ).loc Cert.MixIdeal.main_v12_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v12_0) = v0 c
          ∧ r.2.mem ((c.tc : Thread Cert.MixIdeal.nD Cert.MixIdeal.τ).loc Cert.MixIdeal.main_v12_1) = v1 c
          ∧ r.2.mem ((c.tc : Thread Cert.MixIdeal.nD Cert.MixIdeal.τ).loc Cert.MixIdeal.main_v12_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v265) = v0 c
          ∧ r.2.mem ((c.tc : Thread Cert.MixRefIdeal.nD Cert.MixRefIdeal.τ).loc Cert.MixRefIdeal.main_v261) = v1 c
          ∧ r.2.mem ((c.tc : Thread Cert.MixRefIdeal.nD Cert.MixRefIdeal.τ).loc Cert.MixRefIdeal.main_v264) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Route_RouteIdeal : Prop :=
  True

def Claim : Prop :=
  ∃ (hPack : Cert.Pack.Facts) (hPackRef : Cert.PackRef.Facts) (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMix : Cert.Mix.Facts) (hMixIdeal : Cert.MixIdeal.Facts) (hMixRefIdeal : Cert.MixRefIdeal.Facts) (hRoute : Cert.Route.Facts) (hRouteIdeal : Cert.RouteIdeal.Facts) (hPre_finite_queries_keys : Cert.Pre_finite_queries_keys.Facts) (hPre_finite_weights : Cert.Pre_finite_weights.Facts),
    quiescent_Pack (hPack := hPack)
    ∧ quiescent_PackRef (hPackRef := hPackRef)
    ∧ quiescent_Attn (hAttn := hAttn)
    ∧ quiescent_AttnIdeal (hAttnIdeal := hAttnIdeal)
    ∧ quiescent_AttnIdeal_pre_finite_queries_keys (hAttnIdeal := hAttnIdeal) (hPre_finite_queries_keys := hPre_finite_queries_keys)
    ∧ quiescent_AttnRefIdeal (hAttnRefIdeal := hAttnRefIdeal)
    ∧ quiescent_AttnRefIdeal_pre_finite_queries_keys (hAttnRefIdeal := hAttnRefIdeal) (hPre_finite_queries_keys := hPre_finite_queries_keys)
    ∧ quiescent_InProj (hInProj := hInProj)
    ∧ quiescent_InProjIdeal (hInProjIdeal := hInProjIdeal)
    ∧ quiescent_InProjIdeal_pre_finite_weights (hInProjIdeal := hInProjIdeal) (hPre_finite_weights := hPre_finite_weights)
    ∧ quiescent_InProjRefIdeal (hInProjRefIdeal := hInProjRefIdeal)
    ∧ quiescent_InProjRefIdeal_pre_finite_weights (hInProjRefIdeal := hInProjRefIdeal) (hPre_finite_weights := hPre_finite_weights)
    ∧ quiescent_Mix (hMix := hMix)
    ∧ quiescent_MixIdeal (hMixIdeal := hMixIdeal)
    ∧ quiescent_MixRefIdeal (hMixRefIdeal := hMixRefIdeal)
    ∧ quiescent_Route (hRoute := hRoute)
    ∧ quiescent_RouteIdeal (hRouteIdeal := hRouteIdeal)
    ∧ bitexact_Pack_PackRef (hPack := hPack) (hPackRef := hPackRef)
    ∧ preserves_Attn_AttnIdeal
    ∧ algebraic_AttnIdeal_AttnRefIdeal_pre_finite_queries_keys (hAttnIdeal := hAttnIdeal) (hAttnRefIdeal := hAttnRefIdeal) (hPre_finite_queries_keys := hPre_finite_queries_keys)
    ∧ preserves_InProj_InProjIdeal
    ∧ algebraic_InProjIdeal_InProjRefIdeal_pre_finite_weights (hInProjIdeal := hInProjIdeal) (hInProjRefIdeal := hInProjRefIdeal) (hPre_finite_weights := hPre_finite_weights)
    ∧ preserves_Mix_MixIdeal
    ∧ algebraic_MixIdeal_MixRefIdeal (hMixIdeal := hMixIdeal) (hMixRefIdeal := hMixRefIdeal)
    ∧ preserves_Route_RouteIdeal
-- ==== Pre_finite_queries_keys.lean ====
abbrev S4x8192x2x4x64 : Shape := ⟨5, ![4, 8192, 2, 4, 64]⟩
abbrev S4x8192x2x64 : Shape := ⟨4, ![4, 8192, 2, 64]⟩
abbrev S_ : Shape := ⟨0, ![]⟩

class Facts : Prop where
  bcast_S_S4x8192x2x4x64 : S_.BroadcastsInDim S4x8192x2x4x64 (![] : Fin 0 → Fin S4x8192x2x4x64.rank)
  bcast_S_S4x8192x2x64 : S_.BroadcastsInDim S4x8192x2x64 (![] : Fin 0 → Fin S4x8192x2x64.rank)

variable [Facts]

def fn {F : FTy → Type} [FloatOps F] (main_arg0 : FVec F S4x8192x2x4x64 .f32) (main_arg1 : FVec F S4x8192x2x64 .f32) (main_arg2 : FVec F S4x8192x2x64 .f32) : IVec S4x8192x2x4x64 1 × IVec S4x8192x2x64 1 :=
  let main_v0 : FVec F S4x8192x2x4x64 .f32 := Host.absf main_arg0
  let main_cst : FVec F S_ .f32 := constant S_ .f32 0x7F800000#32
  let main_v1 : FVec F S4x8192x2x4x64 .f32 := broadcastInDim S4x8192x2x4x64 ![] bcast_S_S4x8192x2x4x64 main_cst
  let main_v2 : IVec S4x8192x2x4x64 1 := cmpf .olt main_v0 main_v1
  let main_v3 : FVec F S4x8192x2x64 .f32 := Host.absf main_arg1
  let main_cst_0 : FVec F S_ .f32 := constant S_ .f32 0x7F800000#32
  let main_v4 : FVec F S4x8192x2x64 .f32 := broadcastInDim S4x8192x2x64 ![] bcast_S_S4x8192x2x64 main_cst_0
  let main_v5 : IVec S4x8192x2x64 1 := cmpf .olt main_v3 main_v4
  (main_v2, main_v5)
-- ==== Pre_finite_weights.lean ====
abbrev S4x8192x1024 : Shape := ⟨3, ![4, 8192, 1024]⟩
abbrev S1024 : Shape := ⟨1, ![1024]⟩
abbrev S1024x1792 : Shape := ⟨2, ![1024, 1792]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x1792 : S_.BroadcastsInDim S1024x1792 (![] : Fin 0 → Fin S1024x1792.rank)

variable [Facts]

def fn {F : FTy → Type} [FloatOps F] (main_arg0 : FVec F S4x8192x1024 .f32) (main_arg1 : FVec F S1024 .f32) (main_arg2 : FVec F S1024x1792 .f32) (main_arg3 : FVec F S64 .f32) (main_arg4 : FVec F S64 .f32) : IVec S1024 1 × IVec S1024x1792 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1792 .f32 := Host.absf main_arg2
  let main_cst_0 : FVec F S_ .f32 := constant S_ .f32 0x7F800000#32
  let main_v4 : FVec F S1024x1792 .f32 := broadcastInDim S1024x1792 ![] bcast_S_S1024x1792 main_cst_0
  let main_v5 : IVec S1024x1792 1 := cmpf .olt main_v3 main_v4
  (main_v2, main_v5)
-- ==== Pack.lean ====
abbrev S16384x1024 : Shape := ⟨2, ![16384, 1024]⟩
abbrev S65536x128 : Shape := ⟨2, ![65536, 128]⟩
abbrev S512x1024 : Shape := ⟨2, ![512, 1024]⟩
abbrev S2048x128 : Shape := ⟨2, ![2048, 128]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S65536x128, .i32⟩
  | .local _ .vmem, ⟨0, _⟩ => ⟨S512x1024, .f32⟩
  | .local _ .vmem, ⟨1, _⟩ => ⟨S512x1024, .f32⟩
  | .local _ .vmem, ⟨2, _⟩ => ⟨S2048x128, .i32⟩
  | .local _ .vmem, ⟨3, _⟩ => ⟨S2048x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackRef.lean ====
abbrev S16384x1024 : Shape := ⟨2, ![16384, 1024]⟩
abbrev S16384x512 : Shape := ⟨2, ![16384, 512]⟩
abbrev S_ : Shape := ⟨0, ![]⟩
abbrev S65536x128 : Shape := ⟨2, ![65536, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .i16⟩
  | .hbm, ⟨3, _⟩ => ⟨S16384x1024, .i32⟩
  | .hbm, ⟨4, _⟩ => ⟨S16384x512, .i32⟩
  | .hbm, ⟨5, _⟩ => ⟨S_, .i32⟩
  | .hbm, ⟨6, _⟩ => ⟨S16384x512, .i32⟩
  | .hbm, ⟨7, _⟩ => ⟨S16384x512, .i32⟩
  | .hbm, ⟨8, _⟩ => ⟨S16384x512, .i32⟩
  | .hbm, ⟨9, _⟩ => ⟨S16384x512, .i32⟩
  | .hbm, ⟨10, _⟩ => ⟨S16384x512, .i32⟩
  | .hbm, ⟨11, _⟩ => ⟨S65536x128, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [BitOps F]
-- ==== Attn.lean ====
abbrev S4x8192x2x4x64 : Shape := ⟨5, ![4, 8192, 2, 4, 64]⟩
abbrev S4x8192x2x64 : Shape := ⟨4, ![4, 8192, 2, 64]⟩
abbrev S_ : Shape := ⟨0, ![]⟩
abbrev S4x2x4x64x8192 : Shape := ⟨5, ![4, 2, 4, 64, 8192]⟩
abbrev S4x4x64x8192 : Shape := ⟨4, ![4, 4, 64, 8192]⟩
abbrev S4x1x4x64x8192 : Shape := ⟨5, ![4, 1, 4, 64, 8192]⟩
abbrev S4x4x128x8192 : Shape := ⟨4, ![4, 4, 128, 8192]⟩
abbrev S4x8x128x8192 : Shape := ⟨4, ![4, 8, 128, 8192]⟩
abbrev S32768x128 : Shape := ⟨2, ![32768, 128]⟩
abbrev S4x2x64x8192 : Shape := ⟨4, ![4, 2, 64, 8192]⟩
abbrev S4x2x1x8192 : Shape := ⟨4, ![4, 2, 1, 8192]⟩
abbrev S4x2x15x8192 : Shape := ⟨4, ![4, 2, 15, 8192]⟩
abbrev S4x2x16x8192 : Shape := ⟨4, ![4, 2, 16, 8192]⟩
abbrev S4x2x80x8192 : Shape := ⟨4, ![4, 2, 80, 8192]⟩
abbrev S32768x512 : Shape := ⟨2, ![32768, 512]⟩
abbrev S1x8x128x512 : Shape := ⟨4, ![1, 8, 128, 512]⟩
abbrev S1024x128 : Shape := ⟨2, ![1024, 128]⟩
abbrev S1x2x80x1024 : Shape := ⟨4, ![1, 2, 80, 1024]⟩
abbrev S512x512 : Shape := ⟨2, ![512, 512]⟩
abbrev S8x512 : Shape := ⟨2, ![8, 512]⟩
abbrev S8x80x512 : Shape := ⟨3, ![8, 80, 512]⟩
abbrev S1x1x128x512 : Shape := ⟨4, ![1, 1, 128, 512]⟩
abbrev S128x512 : Shape := ⟨2, ![128, 512]⟩
abbrev S1024x512 : Shape := ⟨2, ![1024, 512]⟩
abbrev S1x512 : Shape := ⟨2, ![1, 512]⟩
abbrev S512 : Shape := ⟨1, ![512]⟩
abbrev S1x1x80x1024 : Shape := ⟨4, ![1, 1, 80, 1024]⟩
abbrev S80x1024 : Shape := ⟨2, ![80, 1024]⟩
abbrev S80x512 : Shape := ⟨2, ![80, 512]⟩
abbrev S1x80x512 : Shape := ⟨3, ![1, 80, 512]⟩
abbrev S64x512 : Shape := ⟨2, ![64, 512]⟩

abbrev nBuf : Space → Nat
  | .hbm => 29
  | .vmem => 10
  | .smem => 0
  | _ => 0

abbrev bufTy : (tb : Table) → Fin (tcTables nBuf tb) → BufTy
  | .hbm, ⟨0, _⟩ => ⟨S4x8192x2x4x64, .f32⟩
  | .hbm, ⟨1, _⟩ => ⟨S4x8192x2x64, .f32⟩
  | .hbm, ⟨2, _⟩ => ⟨S4x8192x2x64, .f32⟩
  | .hbm, ⟨3, _⟩ => ⟨S_, .f32⟩
  | .hbm, ⟨4, _⟩ => ⟨S_, .f32⟩
  | .hbm, ⟨5, _⟩ => ⟨S4x8192x2x4x64, .f32⟩
  | .hbm, ⟨6, _⟩ => ⟨S4x8192x2x4x64, .f32⟩
  | .hbm, ⟨7, _⟩ => ⟨S4x2x4x64x8192, .f32⟩
  | .hbm, ⟨8, _⟩ => ⟨S4x2x4x64x8192, .bf16⟩
  | .hbm, ⟨9, _⟩ => ⟨S_, .bf16⟩
  | .hbm, ⟨10, _⟩ => ⟨S4x4x64x8192, .bf16⟩
  | .hbm, ⟨11, _⟩ => ⟨S4x1x4x64x8192, .bf16⟩
  | .hbm, ⟨12, _⟩ => ⟨S4x4x64x8192, .bf16⟩
  | .hbm, ⟨13, _⟩ => ⟨S4x4x128x8192, .bf16⟩
  | .hbm, ⟨14, _⟩ => ⟨S4x1x4x64x8192, .bf16⟩
  | .hbm, ⟨15, _⟩ => ⟨S4x4x64x8192, .bf16⟩
  | .hbm, ⟨16, _⟩ => ⟨S4x4x128x8192, .bf16⟩
  | .hbm, ⟨17, _⟩ => ⟨S4x8x128x8192, .bf16⟩
  | .hbm, ⟨18, _⟩ => ⟨S32768x128, .f32⟩
  | .hbm, ⟨19, _⟩ => ⟨S32768x128, .bf16⟩
  | .hbm, ⟨20, _⟩ => ⟨S4x2x64x8192, .f32⟩
  | .hbm, ⟨21, _⟩ => ⟨S4x2x64x8192, .bf16⟩
  | .hbm, ⟨22, _⟩ => ⟨S_, .bf16⟩
  | .hbm, ⟨23, _⟩ => ⟨S4x2x1x8192, .bf16⟩
  | .hbm, ⟨24, _⟩ => ⟨S_, .bf16⟩
  | .hbm, ⟨25, _⟩ => ⟨S4x2x15x8192, .bf16⟩
  | .hbm, ⟨26, _⟩ => ⟨S4x2x16x8192, .bf16⟩
  | .hbm, ⟨27, _⟩ => ⟨S4x2x80x8192, .bf16⟩
  | .hbm, ⟨28, _⟩ => ⟨S32768x512, .bf16⟩
  | .local _ .vmem, ⟨0, _⟩ => ⟨S1x8x128x512, .bf16⟩
  | .local _ .vmem, ⟨1, _⟩ => ⟨S1x8x128x512, .bf16⟩
  | .local _ .vmem, ⟨2, _⟩ => ⟨S1024x128, .bf16⟩
  | .local _ .vmem, ⟨3, _⟩ => ⟨S1024x128, .bf16⟩
  | .local _ .vmem, ⟨4, _⟩ => ⟨S1x2x80x1024, .bf16⟩
  | .local _ .vmem, ⟨5, _⟩ => ⟨S1x2x80x1024, .bf16⟩
  | .local _ .vmem, ⟨6, _⟩ => ⟨S512x512, .bf16⟩
  | .local _ .vmem, ⟨7, _⟩ => ⟨S512x512, .bf16⟩
  | .local _ .vmem, ⟨8, _⟩ => ⟨S8x512, .f32⟩
  | .local _ .vmem, ⟨9, _⟩ => ⟨S8x80x512, .f32⟩
  | _, _ => ⟨S4x8192x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v221 : BitVec 1 := Scalar.cmpi .eq arg2 c7_i32
  let v222 : BitVec 32 := Scalar.extui v221
  let c0_i32_162 : BitVec 32 := 0#32
  let v223 : BitVec 1 := Scalar.cmpi .ne v222 c0_i32_162
  v223

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2x80x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnRefIdeal.lean ====
abbrev S4x8192x2x4x64 : Shape := ⟨5, ![4, 8192, 2, 4, 64]⟩
abbrev S4x8192x2x64 : Shape := ⟨4, ![4, 8192, 2, 64]⟩
abbrev S4x2x8192x8192x4 : Shape := ⟨5, ![4, 2, 8192, 8192, 4]⟩
abbrev S4x2x4x8192x8192 : Shape := ⟨5, ![4, 2, 4, 8192, 8192]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S32768x512 : Shape := ⟨2, ![32768, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x2x4x64, .f32⟩
  | .hbm, ⟨1, _⟩ => ⟨S4x8192x2x64, .f32⟩
  | .hbm, ⟨2, _⟩ => ⟨S4x8192x2x64, .f32⟩
  | .hbm, ⟨3, _⟩ => ⟨S4x2x8192x8192x4, .f32⟩
  | .hbm, ⟨4, _⟩ => ⟨S4x2x4x8192x8192, .f32⟩
  | .hbm, ⟨5, _⟩ => ⟨S_, .f32⟩
  | .hbm, ⟨6, _⟩ => ⟨S4x2x4x8192, .f32⟩
  | .hbm, ⟨7, _⟩ => ⟨S_, .f32⟩
  | .hbm, ⟨8, _⟩ => ⟨S4x2x4x8192, .f32⟩
  | .hbm, ⟨9, _⟩ => ⟨S4x2x4x8192, .f32⟩
  | .hbm, ⟨10, _⟩ => ⟨S4x2x4x8192x1, .f32⟩
  | .hbm, ⟨11, _⟩ => ⟨S4x2x4x8192x8192, .f32⟩
  | .hbm, ⟨12, _⟩ => ⟨S4x2x4x8192x8192, .f32⟩
  | .hbm, ⟨13, _⟩ => ⟨S4x2x4x8192x8192, .f32⟩
  | .hbm, ⟨14, _⟩ => ⟨S_, .f32⟩
  | .hbm, ⟨15, _⟩ => ⟨S4x2x4x8192, .f32⟩
  | .hbm, ⟨16, _⟩ => ⟨S4x2x4x8192x1, .f32⟩
  | .hbm, ⟨17, _⟩ => ⟨S4x2x4x8192x8192, .f32⟩
  | .hbm, ⟨18, _⟩ => ⟨S4x2x4x8192x8192, .f32⟩
  | .hbm, ⟨19, _⟩ => ⟨S4x2x64x4x8192, .f32⟩
  | .hbm, ⟨20, _⟩ => ⟨S4x8192x2x4x64, .f32⟩
  | .hbm, ⟨21, _⟩ => ⟨S32768x512, .f32⟩
  | .hbm, ⟨22, _⟩ => ⟨S32768x512, .bf16⟩
  | _, _ => ⟨S4x8192x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== InProj.lean ====
abbrev S4x8192x1024 : Shape := ⟨3, ![4, 8192, 1024]⟩
abbrev S1024 : Shape := ⟨1, ![1024]⟩
abbrev S1024x1792 : Shape := ⟨2, ![1024, 1792]⟩
abbrev S64 : Shape := ⟨1, ![64]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32768x1024 : Shape := ⟨2, ![32768, 1024]⟩
abbrev S1x1024 : Shape := ⟨2, ![1, 1024]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S4x8x128x8192 : Shape := ⟨4, ![4, 8, 128, 8192]⟩
abbrev S32768x128 : Shape := ⟨2, ![32768, 128]⟩
abbrev S4x2x80x8192 : Shape := ⟨4, ![4, 2, 80, 8192]⟩
abbrev S32768x512 : Shape := ⟨2, ![32768, 512]⟩
abbrev S512x1024 : Shape := ⟨2, ![512, 1024]⟩
abbrev S512x128 : Shape := ⟨2, ![512, 128]⟩
abbrev S1x8x128x512 : Shape := ⟨4, ![1, 8, 128, 512]⟩
abbrev S1x2x80x512 : Shape := ⟨4, ![1, 2, 80, 512]⟩
abbrev S512x1792 : Shape := ⟨2, ![512, 1792]⟩
abbrev S128x128 : Shape := ⟨2, ![128, 128]⟩
abbrev S64x512 : Shape := ⟨2, ![64, 512]⟩
abbrev S1x1x64x512 : Shape := ⟨4, ![1, 1, 64, 512]⟩
abbrev S128x512 : Shape := ⟨2, ![128, 512]⟩
abbrev S16x512 : Shape := ⟨2, ![16, 512]⟩
abbrev S1x1x16x512 : Shape := ⟨4, ![1, 1, 16, 512]⟩

abbrev nBuf : Space → Nat
  | .hbm => 124
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1792, .f32⟩
  | .hbm, ⟨3, _⟩ => ⟨S64, .f32⟩
  | .hbm, ⟨4, _⟩ => ⟨S64, .f32⟩
  | .hbm, ⟨5, _⟩ => ⟨S8192, .i32⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S_, .i1⟩
  | .hbm, ⟨41, _⟩ => ⟨S8192, .i1⟩
  | .hbm, ⟨42, _⟩ => ⟨S8192, .i1⟩
  | .hbm, ⟨43, _⟩ => ⟨S8192, .i1⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S8192x1, .f32⟩
  | .hbm, ⟨57, _⟩ => ⟨S1x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x1, .f32⟩
  | .hbm, ⟨62, _⟩ => ⟨S1x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x64, .f32⟩
  | .hbm, ⟨71, _⟩ => ⟨S8192x16, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x64, .f32⟩
  | .hbm, ⟨78, _⟩ => ⟨S1x8192x1x64, .f32⟩
  | .hbm, ⟨79, _⟩ => ⟨S1x8192x2x64, .f32⟩
  | .hbm, ⟨80, _⟩ => ⟨S8192x128, .f32⟩
  | .hbm, ⟨81, _⟩ => ⟨S1x8192x1x64, .f32⟩
  | .hbm, ⟨82, _⟩ => ⟨S1x8192x2x64, .f32⟩
  | .hbm, ⟨83, _⟩ => ⟨S8192x128, .f32⟩
  | .hbm, ⟨84, _⟩ => ⟨S512, .i32⟩
  | .hbm, ⟨85, _⟩ => ⟨S_, .i32⟩
  | .hbm, ⟨86, _⟩ => ⟨S_, .i32⟩
  | .hbm, ⟨87, _⟩ => ⟨S512, .i32⟩
  | .hbm, ⟨88, _⟩ => ⟨S512, .i32⟩
  | .hbm, ⟨89, _⟩ => ⟨S512, .i32⟩
  | .hbm, ⟨90, _⟩ => ⟨S_, .i32⟩
  | .hbm, ⟨91, _⟩ => ⟨S512, .i32⟩
  | .hbm, ⟨92, _⟩ => ⟨S512, .i1⟩
  | .hbm, ⟨93, _⟩ => ⟨S512, .i32⟩
  | .hbm, ⟨94, _⟩ => ⟨S512, .i32⟩
  | .hbm, ⟨95, _⟩ => ⟨S_, .i32⟩
  | .hbm, ⟨96, _⟩ => ⟨S512, .i32⟩
  | .hbm, ⟨97, _⟩ => ⟨S512, .i1⟩
  | .hbm, ⟨98, _⟩ => ⟨S512, .i1⟩
  | .hbm, ⟨99, _⟩ => ⟨S_, .i32⟩
  | .hbm, ⟨100, _⟩ => ⟨S512, .i32⟩
  | .hbm, ⟨101, _⟩ => ⟨S512, .i32⟩
  | .hbm, ⟨102, _⟩ => ⟨S512, .i32⟩
  | .hbm, ⟨103, _⟩ => ⟨S512x1, .i32⟩
  | .hbm, ⟨104, _⟩ => ⟨S1x512, .i32⟩
  | .hbm, ⟨105, _⟩ => ⟨S512x512, .i32⟩
  | .hbm, ⟨106, _⟩ => ⟨S512x512, .i32⟩
  | .hbm, ⟨107, _⟩ => ⟨S512x512, .i1⟩
  | .hbm, ⟨108, _⟩ => ⟨S512x512, .bf16⟩
  | .hbm, ⟨109, _⟩ => ⟨S32768x1024, .f32⟩
  | .hbm, ⟨110, _⟩ => ⟨S1x1024, .f32⟩
  | .hbm, ⟨111, _⟩ => ⟨S1024x1792, .bf16⟩
  | .hbm, ⟨112, _⟩ => ⟨S1x64, .f32⟩
  | .hbm, ⟨113, _⟩ => ⟨S8x64, .f32⟩
  | .hbm, ⟨114, _⟩ => ⟨S512, .f32⟩
  | .hbm, ⟨115, _⟩ => ⟨S1x512, .f32⟩
  | .hbm, ⟨116, _⟩ => ⟨S1x64, .f32⟩
  | .hbm, ⟨117, _⟩ => ⟨S2x64, .f32⟩
  | .hbm, ⟨118, _⟩ => ⟨S128, .f32⟩
  | .hbm, ⟨119, _⟩ => ⟨S1x128, .f32⟩
  | .hbm, ⟨120, _⟩ => ⟨S4x8x128x8192, .bf16⟩
  | .hbm, ⟨121, _⟩ => ⟨S32768x128, .bf16⟩
  | .hbm, ⟨122, _⟩ => ⟨S4x2x80x8192, .bf16⟩
  | .hbm, ⟨123, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1x512, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S1x8x128x512, .bf16⟩
  | .local _ .vmem, ⟨12, _⟩ => ⟨S1x8x128x512, .bf16⟩
  | .local _ .vmem, ⟨13, _⟩ => ⟨S512x128, .bf16⟩
  | .local _ .vmem, ⟨14, _⟩ => ⟨S512x128, .bf16⟩
  | .local _ .vmem, ⟨15, _⟩ => ⟨S1x2x80x512, .bf16⟩
  | .local _ .vmem, ⟨16, _⟩ => ⟨S1x2x80x512, .bf16⟩
  | .local _ .vmem, ⟨17, _⟩ => ⟨S512x512, .f32⟩
  | .local _ .vmem, ⟨18, _⟩ => ⟨S512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_v8 : Ref sig .tc := ⟨.hbm, 52, rfl⟩
abbrev main_cst_1 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_c_2 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_c : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_0 : Ref sig .tc := ⟨.hbm, 99, rfl⟩
abbrev main_call2_v12 : Ref sig .tc := ⟨.hbm, 100, rfl⟩
abbrev main_call2_v13 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58_0 : Ref sig .tc := ⟨.hbm, 120, rfl⟩
abbrev main_v58_1 : Ref sig .tc := ⟨.hbm, 121, rfl⟩
abbrev main_v58_2 : Ref sig .tc := ⟨.hbm, 122, rfl⟩
abbrev main_v58_3 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjRefIdeal.lean ====
abbrev S4x8192x1024 : Shape := ⟨3, ![4, 8192, 1024]⟩
abbrev S1024 : Shape := ⟨1, ![1024]⟩
abbrev S1024x1792 : Shape := ⟨2, ![1024, 1792]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1792 : Shape := ⟨3, ![4, 8192, 1792]⟩
abbrev S4x8192x512 : Shape := ⟨3, ![4, 8192, 512]⟩
abbrev S4x8192x8x64 : Shape := ⟨4, ![4, 8192, 8, 64]⟩
abbrev S4x8192x128 : Shape := ⟨3, ![4, 8192, 128]⟩
abbrev S4x8192x2x64 : Shape := ⟨4, ![4, 8192, 2, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x32 : Shape := ⟨4, ![4, 8192, 8, 32]⟩
abbrev S8192x1x16 : Shape := ⟨3, ![8192, 1, 16]⟩
abbrev S4x8192x8x16 : Shape := ⟨4, ![4, 8192, 8, 16]⟩
abbrev S1x8192x1x16 : Shape := ⟨4, ![1, 8192, 1, 16]⟩
abbrev S4x8192x2 : Shape := ⟨3, ![4, 8192, 2]⟩
abbrev S4x8192x2x1 : Shape := ⟨4, ![4, 8192, 2, 1]⟩
abbrev S4x8192x2x32 : Shape := ⟨4, ![4, 8192, 2, 32]⟩
abbrev S4x8192x2x16 : Shape := ⟨4, ![4, 8192, 2, 16]⟩
abbrev S4x8x64x8192 : Shape := ⟨4, ![4, 8, 64, 8192]⟩
abbrev S4x4x64x8192 : Shape := ⟨4, ![4, 4, 64, 8192]⟩
abbrev S4x4x128x8192 : Shape := ⟨4, ![4, 4, 128, 8192]⟩
abbrev S4x8x128x8192 : Shape := ⟨4, ![4, 8, 128, 8192]⟩
abbrev S4x2x64x8192 : Shape := ⟨4, ![4, 2, 64, 8192]⟩
abbrev S4x2x1x8192 : Shape := ⟨4, ![4, 2, 1, 8192]⟩
abbrev S4x2x15x8192 : Shape := ⟨4, ![4, 2, 15, 8192]⟩
abbrev S4x2x16x8192 : Shape := ⟨4, ![4, 2, 16, 8192]⟩
abbrev S4x2x80x8192 : Shape := ⟨4, ![4, 2, 80, 8192]⟩
abbrev S32768x128 : Shape := ⟨2, ![32768, 128]⟩
abbrev S32768x512 : Shape := ⟨2, ![32768, 512]⟩

abbrev nBuf : Space → Nat
  | .hbm => 211
  | .vmem => 0
  | .smem => 0
  | _ => 0

abbrev hbmTy0_0 (i : Nat) : BufTy := match i % 128 with
  | 0 => ⟨S4x8192x1024, .f32⟩
  | 1 => ⟨S1024, .f32⟩
  | 2 => ⟨S1024x1792, .f32⟩
  | 3 => ⟨S64, .f32⟩
  | 4 => ⟨S64, .f32⟩
  | 5 => ⟨S128, .i32⟩
  | 6 => ⟨S128x64, .i32⟩
  | 7 => ⟨S8192, .i32⟩
  | 8 => ⟨S8192, .f32⟩
  | 9 => ⟨S64, .i32⟩
  | 10 => ⟨S1x64, .i32⟩
  | 11 => ⟨S128x64, .i32⟩
  | 12 => ⟨S8192, .i32⟩
  | 13 => ⟨S8192, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S8192x1, .f32⟩
  | 23 => ⟨S1x16, .f32⟩
  | 24 => ⟨S8192x16, .f32⟩
  | 25 => ⟨S8192x16, .f32⟩
  | 26 => ⟨S8192x16, .f32⟩
  | 27 => ⟨S8192x1, .f32⟩
  | 28 => ⟨S1x16, .f32⟩
  | 29 => ⟨S8192x16, .f32⟩
  | 30 => ⟨S8192x16, .f32⟩
  | 31 => ⟨S8192x16, .f32⟩
  | 32 => ⟨S4x8192x1024, .f32⟩
  | 33 => ⟨S_, .f32⟩
  | 34 => ⟨S4x8192, .f32⟩
  | 35 => ⟨S4x8192x1, .f32⟩
  | 36 => ⟨S_, .f32⟩
  | 37 => ⟨S4x8192x1, .f32⟩
  | 38 => ⟨S4x8192x1, .f32⟩
  | 39 => ⟨S_, .f32⟩
  | 40 => ⟨S4x8192x1, .f32⟩
  | 41 => ⟨S4x8192x1, .f32⟩
  | 42 => ⟨S4x8192x1, .f32⟩
  | 43 => ⟨S4x8192x1024, .f32⟩
  | 44 => ⟨S4x8192x1024, .f32⟩
  | 45 => ⟨S1x1x1024, .f32⟩
  | 46 => ⟨S4x8192x1024, .f32⟩
  | 47 => ⟨S4x8192x1024, .f32⟩
  | 48 => ⟨S4x8192x1792, .f32⟩
  | 49 => ⟨S4x8192x512, .f32⟩
  | 50 => ⟨S4x8192x8x64, .f32⟩
  | 51 => ⟨S4x8192x128, .f32⟩
  | 52 => ⟨S4x8192x2x64, .f32⟩
  | 53 => ⟨S4x8192x128, .f32⟩
  | 54 => ⟨S4x8192x2x64, .f32⟩
  | 55 => ⟨S4x8192x8x64, .f32⟩
  | 56 => ⟨S_, .f32⟩
  | 57 => ⟨S4x8192x8, .f32⟩
  | 58 => ⟨S4x8192x8x1, .f32⟩
  | 59 => ⟨S_, .f32⟩
  | 60 => ⟨S4x8192x8x1, .f32⟩
  | 61 => ⟨S4x8192x8x1, .f32⟩
  | 62 => ⟨S_, .f32⟩
  | 63 => ⟨S4x8192x8x1, .f32⟩
  | 64 => ⟨S4x8192x8x1, .f32⟩
  | 65 => ⟨S4x8192x8x1, .f32⟩
  | 66 => ⟨S4x8192x8x64, .f32⟩
  | 67 => ⟨S4x8192x8x64, .f32⟩
  | 68 => ⟨S1x1x1x64, .f32⟩
  | 69 => ⟨S4x8192x8x64, .f32⟩
  | 70 => ⟨S4x8192x8x64, .f32⟩
  | 71 => ⟨S4x8192x8x32, .f32⟩
  | 72 => ⟨S8192x16, .f32⟩
  | 73 => ⟨S8192x1x16, .f32⟩
  | 74 => ⟨S8192x16, .f32⟩
  | 75 => ⟨S8192x1x16, .f32⟩
  | 76 => ⟨S4x8192x8x16, .f32⟩
  | 77 => ⟨S4x8192x8x16, .f32⟩
  | 78 => ⟨S1x8192x1x16, .f32⟩
  | 79 => ⟨S4x8192x8x16, .f32⟩
  | 80 => ⟨S4x8192x8x16, .f32⟩
  | 81 => ⟨S1x8192x1x16, .f32⟩
  | 82 => ⟨S4x8192x8x16, .f32⟩
  | 83 => ⟨S4x8192x8x16, .f32⟩
  | 84 => ⟨S4x8192x8x16, .f32⟩
  | 85 => ⟨S1x8192x1x16, .f32⟩
  | 86 => ⟨S4x8192x8x16, .f32⟩
  | 87 => ⟨S4x8192x8x16, .f32⟩
  | 88 => ⟨S1x8192x1x16, .f32⟩
  | 89 => ⟨S4x8192x8x16, .f32⟩
  | 90 => ⟨S4x8192x8x16, .f32⟩
  | 91 => ⟨S4x8192x8x16, .f32⟩
  | 92 => ⟨S4x8192x8x32, .f32⟩
  | 93 => ⟨S4x8192x8x32, .f32⟩
  | 94 => ⟨S8192x16, .f32⟩
  | 95 => ⟨S8192x1x16, .f32⟩
  | 96 => ⟨S8192x16, .f32⟩
  | 97 => ⟨S8192x1x16, .f32⟩
  | 98 => ⟨S4x8192x8x16, .f32⟩
  | 99 => ⟨S4x8192x8x16, .f32⟩
  | 100 => ⟨S1x8192x1x16, .f32⟩
  | 101 => ⟨S4x8192x8x16, .f32⟩
  | 102 => ⟨S4x8192x8x16, .f32⟩
  | 103 => ⟨S1x8192x1x16, .f32⟩
  | 104 => ⟨S4x8192x8x16, .f32⟩
  | 105 => ⟨S4x8192x8x16, .f32⟩
  | 106 => ⟨S4x8192x8x16, .f32⟩
  | 107 => ⟨S1x8192x1x16, .f32⟩
  | 108 => ⟨S4x8192x8x16, .f32⟩
  | 109 => ⟨S4x8192x8x16, .f32⟩
  | 110 => ⟨S1x8192x1x16, .f32⟩
  | 111 => ⟨S4x8192x8x16, .f32⟩
  | 112 => ⟨S4x8192x8x16, .f32⟩
  | 113 => ⟨S4x8192x8x16, .f32⟩
  | 114 => ⟨S4x8192x8x32, .f32⟩
  | 115 => ⟨S4x8192x8x64, .f32⟩
  | 116 => ⟨S_, .f32⟩
  | 117 => ⟨S4x8192x8x64, .f32⟩
  | 118 => ⟨S4x8192x8x64, .f32⟩
  | 119 => ⟨S4x8192x2x64, .f32⟩
  | 120 => ⟨S_, .f32⟩
  | 121 => ⟨S4x8192x2, .f32⟩
  | 122 => ⟨S4x8192x2x1, .f32⟩
  | 123 => ⟨S_, .f32⟩
  | 124 => ⟨S4x8192x2x1, .f32⟩
  | 125 => ⟨S4x8192x2x1, .f32⟩
  | 126 => ⟨S_, .f32⟩
  | 127 => ⟨S4x8192x2x1, .f32⟩
  | _ => ⟨S4x8192x1024, .f32⟩

abbrev hbmTy0_1 (i : Nat) : BufTy := match i % 128 with
  | 0 => ⟨S4x8192x2x1, .f32⟩
  | 1 => ⟨S4x8192x2x1, .f32⟩
  | 2 => ⟨S4x8192x2x64, .f32⟩
  | 3 => ⟨S4x8192x2x64, .f32⟩
  | 4 => ⟨S1x1x1x64, .f32⟩
  | 5 => ⟨S4x8192x2x64, .f32⟩
  | 6 => ⟨S4x8192x2x64, .f32⟩
  | 7 => ⟨S4x8192x2x32, .f32⟩
  | 8 => ⟨S8192x16, .f32⟩
  | 9 => ⟨S8192x1x16, .f32⟩
  | 10 => ⟨S8192x16, .f32⟩
  | 11 => ⟨S8192x1x16, .f32⟩
  | 12 => ⟨S4x8192x2x16, .f32⟩
  | 13 => ⟨S4x8192x2x16, .f32⟩
  | 14 => ⟨S1x8192x1x16, .f32⟩
  | 15 => ⟨S4x8192x2x16, .f32⟩
  | 16 => ⟨S4x8192x2x16, .f32⟩
  | 17 => ⟨S1x8192x1x16, .f32⟩
  | 18 => ⟨S4x8192x2x16, .f32⟩
  | 19 => ⟨S4x8192x2x16, .f32⟩
  | 20 => ⟨S4x8192x2x16, .f32⟩
  | 21 => ⟨S1x8192x1x16, .f32⟩
  | 22 => ⟨S4x8192x2x16, .f32⟩
  | 23 => ⟨S4x8192x2x16, .f32⟩
  | 24 => ⟨S1x8192x1x16, .f32⟩
  | 25 => ⟨S4x8192x2x16, .f32⟩
  | 26 => ⟨S4x8192x2x16, .f32⟩
  | 27 => ⟨S4x8192x2x16, .f32⟩
  | 28 => ⟨S4x8192x2x32, .f32⟩
  | 29 => ⟨S4x8192x2x32, .f32⟩
  | 30 => ⟨S8192x16, .f32⟩
  | 31 => ⟨S8192x1x16, .f32⟩
  | 32 => ⟨S8192x16, .f32⟩
  | 33 => ⟨S8192x1x16, .f32⟩
  | 34 => ⟨S4x8192x2x16, .f32⟩
  | 35 => ⟨S4x8192x2x16, .f32⟩
  | 36 => ⟨S1x8192x1x16, .f32⟩
  | 37 => ⟨S4x8192x2x16, .f32⟩
  | 38 => ⟨S4x8192x2x16, .f32⟩
  | 39 => ⟨S1x8192x1x16, .f32⟩
  | 40 => ⟨S4x8192x2x16, .f32⟩
  | 41 => ⟨S4x8192x2x16, .f32⟩
  | 42 => ⟨S4x8192x2x16, .f32⟩
  | 43 => ⟨S1x8192x1x16, .f32⟩
  | 44 => ⟨S4x8192x2x16, .f32⟩
  | 45 => ⟨S4x8192x2x16, .f32⟩
  | 46 => ⟨S1x8192x1x16, .f32⟩
  | 47 => ⟨S4x8192x2x16, .f32⟩
  | 48 => ⟨S4x8192x2x16, .f32⟩
  | 49 => ⟨S4x8192x2x16, .f32⟩
  | 50 => ⟨S4x8192x2x32, .f32⟩
  | 51 => ⟨S4x8192x2x64, .f32⟩
  | 52 => ⟨S4x8192x512, .f32⟩
  | 53 => ⟨S4x8192x512, .f32⟩
  | 54 => ⟨S4x8192x512, .f32⟩
  | 55 => ⟨S4x8192x512, .f32⟩
  | 56 => ⟨S_, .f32⟩
  | 57 => ⟨S4x8192x512, .f32⟩
  | 58 => ⟨S4x8192x512, .f32⟩
  | 59 => ⟨S_, .f32⟩
  | 60 => ⟨S4x8192x512, .f32⟩
  | 61 => ⟨S4x8192x512, .f32⟩
  | 62 => ⟨S4x8192x512, .f32⟩
  | 63 => ⟨S4x8x64x8192, .f32⟩
  | 64 => ⟨S4x8x64x8192, .bf16⟩
  | 65 => ⟨S_, .bf16⟩
  | 66 => ⟨S4x4x64x8192, .bf16⟩
  | 67 => ⟨S4x4x64x8192, .bf16⟩
  | 68 => ⟨S4x4x128x8192, .bf16⟩
  | 69 => ⟨S4x4x64x8192, .bf16⟩
  | 70 => ⟨S4x4x128x8192, .bf16⟩
  | 71 => ⟨S4x8x128x8192, .bf16⟩
  | 72 => ⟨S4x2x64x8192, .f32⟩
  | 73 => ⟨S4x2x64x8192, .bf16⟩
  | 74 => ⟨S_, .bf16⟩
  | 75 => ⟨S4x2x1x8192, .bf16⟩
  | 76 => ⟨S_, .bf16⟩
  | 77 => ⟨S4x2x15x8192, .bf16⟩
  | 78 => ⟨S4x2x16x8192, .bf16⟩
  | 79 => ⟨S4x2x80x8192, .bf16⟩
  | 80 => ⟨S32768x128, .f32⟩
  | 81 => ⟨S32768x128, .bf16⟩
  | 82 => ⟨S32768x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_cst_7 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_8 : Ref sig .tc := ⟨.hbm, 120, rfl⟩
abbrev main_v106 : Ref sig .tc := ⟨.hbm, 121, rfl⟩
abbrev main_v107 : Ref sig .tc := ⟨.hbm, 122, rfl⟩
abbrev main_cst_9 : Ref sig .tc := ⟨.hbm, 123, rfl⟩
abbrev main_v108 : Ref sig .tc := ⟨.hbm, 124, rfl⟩
abbrev main_v109 : Ref sig .tc := ⟨.hbm, 125, rfl⟩
abbrev main_cst_10 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_cst_11 : Ref sig .tc := ⟨.hbm, 184, rfl⟩
abbrev main_v167 : Ref sig .tc := ⟨.hbm, 185, rfl⟩
abbrev main_v168 : Ref sig .tc := ⟨.hbm, 186, rfl⟩
abbrev main_cst_12 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_cst_13 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_cst_14 : Ref sig .tc := ⟨.hbm, 202, rfl⟩
abbrev main_v182 : Ref sig .tc := ⟨.hbm, 203, rfl⟩
abbrev main_cst_15 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩

abbrev nD : Nat := 1
abbrev τ : Topo := Topo.v7x

variable {F : FTy → Type} [FloatOps F]
-- ==== Mix.lean ====
abbrev S4x8192x512 : Shape := ⟨3, ![4, 8192, 512]⟩
abbrev S31x1x512 : Shape := ⟨3, ![31, 1, 512]⟩
abbrev S512 : Shape := ⟨1, ![512]⟩
abbrev S1024x1024 : Shape := ⟨2, ![1024, 1024]⟩
abbrev S4x8192x1024 : Shape := ⟨3, ![4, 8192, 1024]⟩
abbrev S1024 : Shape := ⟨1, ![1024]⟩
abbrev S31x512 : Shape := ⟨2, ![31, 512]⟩
abbrev S_ : Shape := ⟨0, ![]⟩
abbrev S1x512 : Shape := ⟨2, ![1, 512]⟩
abbrev S32x512 : Shape := ⟨2, ![32, 512]⟩
abbrev S32768x512 : Shape := ⟨2, ![32768, 512]⟩
abbrev S32768x1024 : Shape := ⟨2, ![32768, 1024]⟩
abbrev S1x1024 : Shape := ⟨2, ![1, 1024]⟩
abbrev S32768x8x128 : Shape := ⟨3, ![32768, 8, 128]⟩
abbrev S512x512 : Shape := ⟨2, ![512, 512]⟩
abbrev S16x512 : Shape := ⟨2, ![16, 512]⟩
abbrev S512x1024 : Shape := ⟨2, ![512, 1024]⟩
abbrev S512x8x128 : Shape := ⟨3, ![512, 8, 128]⟩
abbrev S544x512 : Shape := ⟨2, ![544, 512]⟩
abbrev S64x128 : Shape := ⟨2, ![64, 128]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S512x1 : Shape := ⟨2, ![512, 1]⟩
abbrev S512x128 : Shape := ⟨2, ![512, 128]⟩
abbrev S512x1x128 : Shape := ⟨3, ![512, 1, 128]⟩

abbrev nBuf : Space → Nat
  | .hbm => 25
  | .vmem => 24
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S31x1x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S4x8192x1024, .f32⟩
  | .hbm, ⟨8, _⟩ => ⟨S1024, .f32⟩
  | .hbm, ⟨9, _⟩ => ⟨S31x512, .f32⟩
  | .hbm, ⟨10, _⟩ => ⟨S_, .f32⟩
  | .hbm, ⟨11, _⟩ => ⟨S1x512, .f32⟩
  | .hbm, ⟨12, _⟩ => ⟨S32x512, .f32⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1024x1024, .bf16⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x8x128, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x8x128, .f32⟩
  | .local _ .vmem, ⟨21, _⟩ => ⟨S512x8x128, .f32⟩
  | .local _ .vmem, ⟨22, _⟩ => ⟨S544x512, .f32⟩
  | .local _ .vmem, ⟨23, _⟩ => ⟨S512x512, .bf16⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_21 : BitVec 32 := 0#32
  let c8_i32 : BitVec 32 := 8#32
  let v43 : BitVec 32 := Scalar.addi c0_i32_21 c8_i32
  let c1_i32_22 : BitVec 32 := 1#32
  ⟨c0_i32_21, v43, c1_i32_22⟩
def k0_mult1 (k0_t1 : Fin k0_t1_loop.trips) : BitVec 32 :=
  let c2_i32 : BitVec 32 := 2#32
  let c0_i32_21 : BitVec 32 := 0#32
  let c1_i32_22 : BitVec 32 := 1#32
  let arg17 : BitVec 32 := Scf.iv c0_i32_21 c1_i32_22 k0_t1
  let v105 : BitVec 32 := Scalar.muli c2_i32 arg17
  let c32_i32 : BitVec 32 := 32#32
  let v106 : BitVec 32 := Scalar.muli v105 c32_i32
  v106
def k0_off1 (k0_t1 : Fin k0_t1_loop.trips) : Fin 2 → Nat :=
  let c2_i32 : BitVec 32 := 2#32
  let c0_i32_21 : BitVec 32 := 0#32
  let c1_i32_22 : BitVec 32 := 1#32
  let arg17 : BitVec 32 := Scf.iv c0_i32_21 c1_i32_22 k0_t1
  let v105 : BitVec 32 := Scalar.muli c2_i32 arg17
  let c32_i32 : BitVec 32 := 32#32
  let v106 : BitVec 32 := Scalar.muli v105 c32_i32
  let v107 : BitVec 32 := v106
  let v108 : Index := Scalar.indexCast v107
  let c0_60 : Index := 0#32
  ![v108.toNat, 0]
def k0_off2 (k0_t1 : Fin k0_t1_loop.trips) : Fin 2 → Nat :=
  let c2_i32 : BitVec 32 := 2#32
  let c0_i32_21 : BitVec 32 := 0#32
  let c1_i32_22 : BitVec 32 := 1#32
  let arg17 : BitVec 32 := Scf.iv c0_i32_21 c1_i32_22 k0_t1
  let v105 : BitVec 32 := Scalar.muli c2_i32 arg17
  let c32_i32 : BitVec 32 := 32#32
  let v106 : BitVec 32 := Scalar.muli v105 c32_i32
  let v107 : BitVec 32 := v106
  let v273 : Index := Scalar.indexCast v107
  let c128 : Index := 128#32
  ![v273.toNat, 128]
def k0_off3 (k0_t1 : Fin k0_t1_loop.trips) : Fin 2 → Nat :=
  let c2_i32 : BitVec 32 := 2#32
  let c0_i32_21 : BitVec 32 := 0#32
  let c1_i32_22 : BitVec 32 := 1#32
  let arg17 : BitVec 32 := Scf.iv c0_i32_21 c1_i32_22 k0_t1
  let v105 : BitVec 32 := Scalar.muli c2_i32 arg17
  let c32_i32 : BitVec 32 := 32#32
  let v106 : BitVec 32 := Scalar.muli v105 c32_i32
  let v107 : BitVec 32 := v106
  let v438 : Index := Scalar.indexCast v107
  let c256 : Index := 256#32
  ![v438.toNat, 256]
def k0_off4 (k0_t1 : Fin k0_t1_loop.trips) : Fin 2 → Nat :=
  let c2_i32 : BitVec 32 := 2#32
  let c0_i32_21 : BitVec 32 := 0#32
  let c1_i32_22 : BitVec 32 := 1#32
  let arg17 : BitVec 32 := Scf.iv c0_i32_21 c1_i32_22 k0_t1
  let v105 : BitVec 32 := Scalar.muli c2_i32 arg17
  let c32_i32 : BitVec 32 := 32#32
  let v106 : BitVec 32 := Scalar.muli v105 c32_i32
  let v107 : BitVec 32 := v106
  let v603 : Index := Scalar.indexCast v107
  let c384 : Index := 384#32
  ![v603.toNat, 384]
def k0_off5 (k0_t1 : Fin k0_t1_loop.trips) : Fin 2 → Nat :=
  let c2_i32 : BitVec 32 := 2#32
  let c0_i32_21 : BitVec 32 := 0#32
  let c1_i32_22 : BitVec 32 := 1#32
  let arg17 : BitVec 32 := Scf.iv c0_i32_21 c1_i32_22 k0_t1
  let v105 : BitVec 32 := Scalar.muli c2_i32 arg17
  let c32_i32 : BitVec 32 := 32#32
  let v106 : BitVec 32 := Scalar.muli v105 c32_i32
  let v107 : BitVec 32 := v106
  let v800 : Index := Scalar.indexCast v107
  let c0_94 : Index := 0#32
  ![v800.toNat, 0]
def k0_mult2 (k0_t1 : Fin k0_t1_loop.trips) : BitVec 32 :=
  let c2_i32_95 : BitVec 32 := 2#32
  let c0_i32_21 : BitVec 32 := 0#32
  let c1_i32_22 : BitVec 32 := 1#32
  let arg17 : BitVec 32 := Scf.iv c0_i32_21 c1_i32_22 k0_t1
  let v804 : BitVec 32 := Scalar.muli c2_i32_95 arg17
  let c1_i32_96 : BitVec 32 := 1#32
  let v805 : BitVec 32 := Scalar.addi v804 c1_i32_96
  let c32_i32_97 : BitVec 32 := 32#32
  let v806 : BitVec 32 := Scalar.muli v805 c32_i32_97
  v806
def k0_off6 (k0_t1 : Fin k0_t1_loop.trips) : Fin 2 → Nat :=
  let c2_i32_95 : BitVec 32 := 2#32
  let c0_i32_21 : BitVec 32 := 0#32
  let c1_i32_22 : BitVec 32 := 1#32
  let arg17 : BitVec 32 := Scf.iv c0_i32_21 c1_i32_22 k0_t1
  let v804 : BitVec 32 := Scalar.muli c2_i32_95 arg17
  let c1_i32_96 : BitVec 32 := 1#32
  let v805 : BitVec 32 := Scalar.addi v804 c1_i32_96
  let c32_i32_97 : BitVec 32 := 32#32
  let v806 : BitVec 32 := Scalar.muli v805 c32_i32_97
  let v807 : BitVec 32 := v806
  let v808 : Index := Scalar.indexCast v807
  let c0_98 : Index := 0#32
  ![v808.toNat, 0]
def k0_off7 (k0_t1 : Fin k0_t1_loop.trips) : Fin 2 → Nat :=
  let c2_i32_95 : BitVec 32 := 2#32
  let c0_i32_21 : BitVec 32 := 0#32
  let c1_i32_22 : BitVec 32 := 1#32
  let arg17 : BitVec 32 := Scf.iv c0_i32_21 c1_i32_22 k0_t1
  let v804 : BitVec 32 := Scalar.muli c2_i32_95 arg17
  let c1_i32_96 : BitVec 32 := 1#32
  let v805 : BitVec 32 := Scalar.addi v804 c1_i32_96
  let c32_i32_97 : BitVec 32 := 32#32
  let v806 : BitVec 32 := Scalar.muli v805 c32_i32_97
  let v807 : BitVec 32 := v806
  let v973 : Index := Scalar.indexCast v807
  let c128_107 : Index := 128#32
  ![v973.toNat, 128]
def k0_off8 (k0_t1 : Fin k0_t1_loop.trips) : Fin 2 → Nat :=
  let c2_i32_95 : BitVec 32 := 2#32
  let c0_i32_21 : BitVec 32 := 0#32
  let c1_i32_22 : BitVec 32 := 1#32
  let arg17 : BitVec 32 := Scf.iv c0_i32_21 c1_i32_22 k0_t1
  let v804 : BitVec 32 := Scalar.muli c2_i32_95 arg17
  let c1_i32_96 : BitVec 32 := 1#32
  let v805 : BitVec 32 := Scalar.addi v804 c1_i32_96
  let c32_i32_97 : BitVec 32 := 32#32
  let v806 : BitVec 32 := Scalar.muli v805 c32_i32_97
  let v807 : BitVec 32 := v806
  let v1138 : Index := Scalar.indexCast v807
  let c256_116 : Index := 256#32
  ![v1138.toNat, 256]
def k0_off9 (k0_t1 : Fin k0_t1_loop.trips) : Fin 2 → Nat :=
  let c2_i32_95 : BitVec 32 := 2#32
  let c0_i32_21 : BitVec 32 := 0#32
  let c1_i32_22 : BitVec 32 := 1#32
  let arg17 : BitVec 32 := Scf.iv c0_i32_21 c1_i32_22 k0_t1
  let v804 : BitVec 32 := Scalar.muli c2_i32_95 arg17
  let c1_i32_96 : BitVec 32 := 1#32
  let v805 : BitVec 32 := Scalar.addi v804 c1_i32_96
  let c32_i32_97 : BitVec 32 := 32#32
  let v806 : BitVec 32 := Scalar.muli v805 c32_i32_97
  let v807 : BitVec 32 := v806
  let v1303 : Index := Scalar.indexCast v807
  let c384_125 : Index := 384#32
  ![v1303.toNat, 384]
def k0_off10 (k0_t1 : Fin k0_t1_loop.trips) : Fin 2 → Nat :=
  let c2_i32_95 : BitVec 32 := 2#32
  let c0_i32_21 : BitVec 32 := 0#32
  let c1_i32_22 : BitVec 32 := 1#32
  let arg17 : BitVec 32 := Scf.iv c0_i32_21 c1_i32_22 k0_t1
  let v804 : BitVec 32 := Scalar.muli c2_i32_95 arg17
  let c1_i32_96 : BitVec 32 := 1#32
  let v805 : BitVec 32 := Scalar.addi v804 c1_i32_96
  let c32_i32_97 : BitVec 32 := 32#32
  let v806 : BitVec 32 := Scalar.muli v805 c32_i32_97
  let v807 : BitVec 32 := v806
  let v1500 : Index := Scalar.indexCast v807
  let c0_142 : Index := 0#32
  ![v1500.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixRefIdeal.lean ====
abbrev S4x8192x512 : Shape := ⟨3, ![4, 8192, 512]⟩
abbrev S31x1x512 : Shape := ⟨3, ![31, 1, 512]⟩
abbrev S512 : Shape := ⟨1, ![512]⟩
abbrev S1024x1024 : Shape := ⟨2, ![1024, 1024]⟩
abbrev S4x8192x1024 : Shape := ⟨3, ![4, 8192, 1024]⟩
abbrev S1024 : Shape := ⟨1, ![1024]⟩
abbrev S_ : Shape := ⟨0, ![]⟩
abbrev S4x8222x512 : Shape := ⟨3, ![4, 8222, 512]⟩
abbrev S1x1x512 : Shape := ⟨3, ![1, 1, 512]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x2x4x128 : Shape := ⟨4, ![32768, 2, 4, 128]⟩
abbrev S32768x4x2x128 : Shape := ⟨4, ![32768, 4, 2, 128]⟩
abbrev S32768x8x128 : Shape := ⟨3, ![32768, 8, 128]⟩

abbrev nBuf : Space → Nat
  | .hbm => 293
  | .vmem => 0
  | .smem => 0
  | _ => 0

abbrev hbmTy0_0 (i : Nat) : BufTy := match i % 128 with
  | 0 => ⟨S4x8192x512, .f32⟩
  | 1 => ⟨S4x8192x512, .f32⟩
  | 2 => ⟨S31x1x512, .f32⟩
  | 3 => ⟨S512, .f32⟩
  | 4 => ⟨S512, .f32⟩
  | 5 => ⟨S512, .f32⟩
  | 6 => ⟨S1024x1024, .f32⟩
  | 7 => ⟨S4x8192x1024, .f32⟩
  | 8 => ⟨S1024, .f32⟩
  | 9 => ⟨S_, .i32⟩
  | 10 => ⟨S_, .f32⟩
  | 11 => ⟨S4x8222x512, .f32⟩
  | 12 => ⟨S4x8192x512, .f32⟩
  | 13 => ⟨S1x1x512, .f32⟩
  | 14 => ⟨S512, .f32⟩
  | 15 => ⟨S1x1x512, .f32⟩
  | 16 => ⟨S4x8192x512, .f32⟩
  | 17 => ⟨S4x8192x512, .f32⟩
  | 18 => ⟨S4x8192x512, .f32⟩
  | 19 => ⟨S1x1x512, .f32⟩
  | 20 => ⟨S512, .f32⟩
  | 21 => ⟨S1x1x512, .f32⟩
  | 22 => ⟨S4x8192x512, .f32⟩
  | 23 => ⟨S4x8192x512, .f32⟩
  | 24 => ⟨S4x8192x512, .f32⟩
  | 25 => ⟨S4x8192x512, .f32⟩
  | 26 => ⟨S1x1x512, .f32⟩
  | 27 => ⟨S512, .f32⟩
  | 28 => ⟨S1x1x512, .f32⟩
  | 29 => ⟨S4x8192x512, .f32⟩
  | 30 => ⟨S4x8192x512, .f32⟩
  | 31 => ⟨S4x8192x512, .f32⟩
  | 32 => ⟨S4x8192x512, .f32⟩
  | 33 => ⟨S1x1x512, .f32⟩
  | 34 => ⟨S512, .f32⟩
  | 35 => ⟨S1x1x512, .f32⟩
  | 36 => ⟨S4x8192x512, .f32⟩
  | 37 => ⟨S4x8192x512, .f32⟩
  | 38 => ⟨S4x8192x512, .f32⟩
  | 39 => ⟨S4x8192x512, .f32⟩
  | 40 => ⟨S1x1x512, .f32⟩
  | 41 => ⟨S512, .f32⟩
  | 42 => ⟨S1x1x512, .f32⟩
  | 43 => ⟨S4x8192x512, .f32⟩
  | 44 => ⟨S4x8192x512, .f32⟩
  | 45 => ⟨S4x8192x512, .f32⟩
  | 46 => ⟨S4x8192x512, .f32⟩
  | 47 => ⟨S1x1x512, .f32⟩
  | 48 => ⟨S512, .f32⟩
  | 49 => ⟨S1x1x512, .f32⟩
  | 50 => ⟨S4x8192x512, .f32⟩
  | 51 => ⟨S4x8192x512, .f32⟩
  | 52 => ⟨S4x8192x512, .f32⟩
  | 53 => ⟨S4x8192x512, .f32⟩
  | 54 => ⟨S1x1x512, .f32⟩
  | 55 => ⟨S512, .f32⟩
  | 56 => ⟨S1x1x512, .f32⟩
  | 57 => ⟨S4x8192x512, .f32⟩
  | 58 => ⟨S4x8192x512, .f32⟩
  | 59 => ⟨S4x8192x512, .f32⟩
  | 60 => ⟨S4x8192x512, .f32⟩
  | 61 => ⟨S1x1x512, .f32⟩
  | 62 => ⟨S512, .f32⟩
  | 63 => ⟨S1x1x512, .f32⟩
  | 64 => ⟨S4x8192x512, .f32⟩
  | 65 => ⟨S4x8192x512, .f32⟩
  | 66 => ⟨S4x8192x512, .f32⟩
  | 67 => ⟨S4x8192x512, .f32⟩
  | 68 => ⟨S1x1x512, .f32⟩
  | 69 => ⟨S512, .f32⟩
  | 70 => ⟨S1x1x512, .f32⟩
  | 71 => ⟨S4x8192x512, .f32⟩
  | 72 => ⟨S4x8192x512, .f32⟩
  | 73 => ⟨S4x8192x512, .f32⟩
  | 74 => ⟨S4x8192x512, .f32⟩
  | 75 => ⟨S1x1x512, .f32⟩
  | 76 => ⟨S512, .f32⟩
  | 77 => ⟨S1x1x512, .f32⟩
  | 78 => ⟨S4x8192x512, .f32⟩
  | 79 => ⟨S4x8192x512, .f32⟩
  | 80 => ⟨S4x8192x512, .f32⟩
  | 81 => ⟨S4x8192x512, .f32⟩
  | 82 => ⟨S1x1x512, .f32⟩
  | 83 => ⟨S512, .f32⟩
  | 84 => ⟨S1x1x512, .f32⟩
  | 85 => ⟨S4x8192x512, .f32⟩
  | 86 => ⟨S4x8192x512, .f32⟩
  | 87 => ⟨S4x8192x512, .f32⟩
  | 88 => ⟨S4x8192x512, .f32⟩
  | 89 => ⟨S1x1x512, .f32⟩
  | 90 => ⟨S512, .f32⟩
  | 91 => ⟨S1x1x512, .f32⟩
  | 92 => ⟨S4x8192x512, .f32⟩
  | 93 => ⟨S4x8192x512, .f32⟩
  | 94 => ⟨S4x8192x512, .f32⟩
  | 95 => ⟨S4x8192x512, .f32⟩
  | 96 => ⟨S1x1x512, .f32⟩
  | 97 => ⟨S512, .f32⟩
  | 98 => ⟨S1x1x512, .f32⟩
  | 99 => ⟨S4x8192x512, .f32⟩
  | 100 => ⟨S4x8192x512, .f32⟩
  | 101 => ⟨S4x8192x512, .f32⟩
  | 102 => ⟨S4x8192x512, .f32⟩
  | 103 => ⟨S1x1x512, .f32⟩
  | 104 => ⟨S512, .f32⟩
  | 105 => ⟨S1x1x512, .f32⟩
  | 106 => ⟨S4x8192x512, .f32⟩
  | 107 => ⟨S4x8192x512, .f32⟩
  | 108 => ⟨S4x8192x512, .f32⟩
  | 109 => ⟨S4x8192x512, .f32⟩
  | 110 => ⟨S1x1x512, .f32⟩
  | 111 => ⟨S512, .f32⟩
  | 112 => ⟨S1x1x512, .f32⟩
  | 113 => ⟨S4x8192x512, .f32⟩
  | 114 => ⟨S4x8192x512, .f32⟩
  | 115 => ⟨S4x8192x512, .f32⟩
  | 116 => ⟨S4x8192x512, .f32⟩
  | 117 => ⟨S1x1x512, .f32⟩
  | 118 => ⟨S512, .f32⟩
  | 119 => ⟨S1x1x512, .f32⟩
  | 120 => ⟨S4x8192x512, .f32⟩
  | 121 => ⟨S4x8192x512, .f32⟩
  | 122 => ⟨S4x8192x512, .f32⟩
  | 123 => ⟨S4x8192x512, .f32⟩
  | 124 => ⟨S1x1x512, .f32⟩
  | 125 => ⟨S512, .f32⟩
  | 126 => ⟨S1x1x512, .f32⟩
  | 127 => ⟨S4x8192x512, .f32⟩
  | _ => ⟨S4x8192x512, .f32⟩

abbrev hbmTy0_1 (i : Nat) : BufTy := match i % 128 with
  | 0 => ⟨S4x8192x512, .f32⟩
  | 1 => ⟨S4x8192x512, .f32⟩
  | 2 => ⟨S4x8192x512, .f32⟩
  | 3 => ⟨S1x1x512, .f32⟩
  | 4 => ⟨S512, .f32⟩
  | 5 => ⟨S1x1x512, .f32⟩
  | 6 => ⟨S4x8192x512, .f32⟩
  | 7 => ⟨S4x8192x512, .f32⟩
  | 8 => ⟨S4x8192x512, .f32⟩
  | 9 => ⟨S4x8192x512, .f32⟩
  | 10 => ⟨S1x1x512, .f32⟩
  | 11 => ⟨S512, .f32⟩
  | 12 => ⟨S1x1x512, .f32⟩
  | 13 => ⟨S4x8192x512, .f32⟩
  | 14 => ⟨S4x8192x512, .f32⟩
  | 15 => ⟨S4x8192x512, .f32⟩
  | 16 => ⟨S4x8192x512, .f32⟩
  | 17 => ⟨S1x1x512, .f32⟩
  | 18 => ⟨S512, .f32⟩
  | 19 => ⟨S1x1x512, .f32⟩
  | 20 => ⟨S4x8192x512, .f32⟩
  | 21 => ⟨S4x8192x512, .f32⟩
  | 22 => ⟨S4x8192x512, .f32⟩
  | 23 => ⟨S4x8192x512, .f32⟩
  | 24 => ⟨S1x1x512, .f32⟩
  | 25 => ⟨S512, .f32⟩
  | 26 => ⟨S1x1x512, .f32⟩
  | 27 => ⟨S4x8192x512, .f32⟩
  | 28 => ⟨S4x8192x512, .f32⟩
  | 29 => ⟨S4x8192x512, .f32⟩
  | 30 => ⟨S4x8192x512, .f32⟩
  | 31 => ⟨S1x1x512, .f32⟩
  | 32 => ⟨S512, .f32⟩
  | 33 => ⟨S1x1x512, .f32⟩
  | 34 => ⟨S4x8192x512, .f32⟩
  | 35 => ⟨S4x8192x512, .f32⟩
  | 36 => ⟨S4x8192x512, .f32⟩
  | 37 => ⟨S4x8192x512, .f32⟩
  | 38 => ⟨S1x1x512, .f32⟩
  | 39 => ⟨S512, .f32⟩
  | 40 => ⟨S1x1x512, .f32⟩
  | 41 => ⟨S4x8192x512, .f32⟩
  | 42 => ⟨S4x8192x512, .f32⟩
  | 43 => ⟨S4x8192x512, .f32⟩
  | 44 => ⟨S4x8192x512, .f32⟩
  | 45 => ⟨S1x1x512, .f32⟩
  | 46 => ⟨S512, .f32⟩
  | 47 => ⟨S1x1x512, .f32⟩
  | 48 => ⟨S4x8192x512, .f32⟩
  | 49 => ⟨S4x8192x512, .f32⟩
  | 50 => ⟨S4x8192x512, .f32⟩
  | 51 => ⟨S4x8192x512, .f32⟩
  | 52 => ⟨S1x1x512, .f32⟩
  | 53 => ⟨S512, .f32⟩
  | 54 => ⟨S1x1x512, .f32⟩
  | 55 => ⟨S4x8192x512, .f32⟩
  | 56 => ⟨S4x8192x512, .f32⟩
  | 57 => ⟨S4x8192x512, .f32⟩
  | 58 => ⟨S4x8192x512, .f32⟩
  | 59 => ⟨S1x1x512, .f32⟩
  | 60 => ⟨S512, .f32⟩
  | 61 => ⟨S1x1x512, .f32⟩
  | 62 => ⟨S4x8192x512, .f32⟩
  | 63 => ⟨S4x8192x512, .f32⟩
  | 64 => ⟨S4x8192x512, .f32⟩
  | 65 => ⟨S4x8192x512, .f32⟩
  | 66 => ⟨S1x1x512, .f32⟩
  | 67 => ⟨S512, .f32⟩
  | 68 => ⟨S1x1x512, .f32⟩
  | 69 => ⟨S4x8192x512, .f32⟩
  | 70 => ⟨S4x8192x512, .f32⟩
  | 71 => ⟨S4x8192x512, .f32⟩
  | 72 => ⟨S4x8192x512, .f32⟩
  | 73 => ⟨S1x1x512, .f32⟩
  | 74 => ⟨S512, .f32⟩
  | 75 => ⟨S1x1x512, .f32⟩
  | 76 => ⟨S4x8192x512, .f32⟩
  | 77 => ⟨S4x8192x512, .f32⟩
  | 78 => ⟨S4x8192x512, .f32⟩
  | 79 => ⟨S4x8192x512, .f32⟩
  | 80 => ⟨S1x1x512, .f32⟩
  | 81 => ⟨S512, .f32⟩
  | 82 => ⟨S1x1x512, .f32⟩
  | 83 => ⟨S4x8192x512, .f32⟩
  | 84 => ⟨S4x8192x512, .f32⟩
  | 85 => ⟨S4x8192x512, .f32⟩
  | 86 => ⟨S4x8192x512, .f32⟩
  | 87 => ⟨S1x1x512, .f32⟩
  | 88 => ⟨S512, .f32⟩
  | 89 => ⟨S1x1x512, .f32⟩
  | 90 => ⟨S4x8192x512, .f32⟩
  | 91 => ⟨S4x8192x512, .f32⟩
  | 92 => ⟨S4x8192x512, .f32⟩
  | 93 => ⟨S4x8192x512, .f32⟩
  | 94 => ⟨S1x1x512, .f32⟩
  | 95 => ⟨S512, .f32⟩
  | 96 => ⟨S1x1x512, .f32⟩
  | 97 => ⟨S4x8192x512, .f32⟩
  | 98 => ⟨S4x8192x512, .f32⟩
  | 99 => ⟨S4x8192x512, .f32⟩
  | 100 => ⟨S1x1x512, .f32⟩
  | 101 => ⟨S4x8192x512, .f32⟩
  | 102 => ⟨S4x8192x512, .f32⟩
  | 103 => ⟨S_, .f32⟩
  | 104 => ⟨S4x8192, .f32⟩
  | 105 => ⟨S4x8192x1, .f32⟩
  | 106 => ⟨S_, .f32⟩
  | 107 => ⟨S4x8192x1, .f32⟩
  | 108 => ⟨S4x8192x1, .f32⟩
  | 109 => ⟨S4x8192x512, .f32⟩
  | 110 => ⟨S4x8192x512, .f32⟩
  | 111 => ⟨S4x8192x512, .f32⟩
  | 112 => ⟨S_, .f32⟩
  | 113 => ⟨S4x8192, .f32⟩
  | 114 => ⟨S4x8192x1, .f32⟩
  | 115 => ⟨S_, .f32⟩
  | 116 => ⟨S4x8192x1, .f32⟩
  | 117 => ⟨S4x8192x1, .f32⟩
  | 118 => ⟨S4x8192x512, .f32⟩
  | 119 => ⟨S4x8192x512, .f32⟩
  | 120 => ⟨S_, .f32⟩
  | 121 => ⟨S4x8192x1, .f32⟩
  | 122 => ⟨S4x8192x1, .f32⟩
  | 123 => ⟨S4x8192x1, .f32⟩
  | 124 => ⟨S4x8192x512, .f32⟩
  | 125 => ⟨S4x8192x512, .f32⟩
  | 126 => ⟨S1x1x512, .f32⟩
  | 127 => ⟨S4x8192x512, .f32⟩
  | _ => ⟨S4x8192x512, .f32⟩

abbrev hbmTy0_2 (i : Nat) : BufTy := match i % 128 with
  | 0 => ⟨S4x8192x512, .f32⟩
  | 1 => ⟨S1x1x512, .f32⟩
  | 2 => ⟨S4x8192x512, .f32⟩
  | 3 => ⟨S4x8192x512, .f32⟩
  | 4 => ⟨S4x8192x512, .f32⟩
  | 5 => ⟨S4x8192x512, .f32⟩
  | 6 => ⟨S_, .f32⟩
  | 7 => ⟨S4x8192x512, .f32⟩
  | 8 => ⟨S4x8192x512, .f32⟩
  | 9 => ⟨S_, .f32⟩
  | 10 => ⟨S4x8192x512, .f32⟩
  | 11 => ⟨S4x8192x512, .f32⟩
  | 12 => ⟨S4x8192x512, .f32⟩
  | 13 => ⟨S4x8192x1024, .f32⟩
  | 14 => ⟨S4x8192x1024, .f32⟩
  | 15 => ⟨S4x8192x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S32768x1024, .f32⟩
  | 33 => ⟨S32768x2x4x128, .f32⟩
  | 34 => ⟨S32768x4x2x128, .f32⟩
  | 35 => ⟨S32768x8x128, .f32⟩
  | 36 => ⟨S32768x1024, .f32⟩
  | _ => ⟨S4x8192x512, .f32⟩

abbrev hbmTy (i : Nat) : BufTy := match i / 128 with
  | 0 => hbmTy0_0 i
  | 1 => hbmTy0_1 i
  | 2 => hbmTy0_2 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_cst : Ref sig .tc := ⟨.hbm, 231, rfl⟩
abbrev main_v220 : Ref sig .tc := ⟨.hbm, 232, rfl⟩
abbrev main_v221 : Ref sig .tc := ⟨.hbm, 233, rfl⟩
abbrev main_cst_0 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_cst_1 : Ref sig .tc := ⟨.hbm, 240, rfl⟩
abbrev main_v227 : Ref sig .tc := ⟨.hbm, 241, rfl⟩
abbrev main_v228 : Ref sig .tc := ⟨.hbm, 242, rfl⟩
abbrev main_cst_2 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_cst_3 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_call1_v0 : Ref sig .tc := ⟨.hbm, 260, rfl⟩
abbrev main_call1_v1 : Ref sig .tc := ⟨.hbm, 261, rfl⟩
abbrev main_call1_cst : Ref sig .tc := ⟨.hbm, 262, rfl⟩
abbrev main_call1_v2 : Ref sig .tc := ⟨.hbm, 263, rfl⟩
abbrev main_call1_v3 : Ref sig .tc := ⟨.hbm, 264, rfl⟩
abbrev main_call1_cst_0 : Ref sig .tc := ⟨.hbm, 265, rfl⟩
abbrev main_call1_v4 : Ref sig .tc := ⟨.hbm, 266, rfl⟩
abbrev main_call1_v5 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_cst_4 : Ref sig .tc := ⟨.hbm, 273, rfl⟩
abbrev main_v249 : Ref sig .tc := ⟨.hbm, 274, rfl⟩
abbrev main_v250 : Ref sig .tc := ⟨.hbm, 275, rfl⟩
abbrev main_cst_5 : Ref sig .tc := ⟨.hbm, 276, rfl⟩
abbrev main_v251 : Ref sig .tc := ⟨.hbm, 277, rfl⟩
abbrev main_v252 : Ref sig .tc := ⟨.hbm, 278, rfl⟩
abbrev main_cst_6 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩

abbrev nD : Nat := 1
abbrev τ : Topo := Topo.v7x

variable {F : FTy → Type} [FloatOps F]
-- ==== Route.lean ====
abbrev S32768x1024 : Shape := ⟨2, ![32768, 1024]⟩
abbrev S1024x2048 : Shape := ⟨2, ![1024, 2048]⟩
abbrev S2x128x128 : Shape := ⟨3, ![2, 128, 128]⟩
abbrev S2048x1024 : Shape := ⟨2, ![2048, 1024]⟩
abbrev S32768x128 : Shape := ⟨2, ![32768, 128]⟩
abbrev S8x16x32768 : Shape := ⟨3, ![8, 16, 32768]⟩
abbrev S256x1024 : Shape := ⟨2, ![256, 1024]⟩
abbrev S256x128 : Shape := ⟨2, ![256, 128]⟩
abbrev S8x16x256 : Shape := ⟨3, ![8, 16, 256]⟩
abbrev S128x256 : Shape := ⟨2, ![128, 256]⟩
abbrev S2048x256 : Shape := ⟨2, ![2048, 256]⟩
abbrev S64x256 : Shape := ⟨2, ![64, 256]⟩
abbrev S1x128x128 : Shape := ⟨3, ![1, 128, 128]⟩
abbrev S128x128 : Shape := ⟨2, ![128, 128]⟩
abbrev S16x128 : Shape := ⟨2, ![16, 128]⟩
abbrev S8x128 : Shape := ⟨2, ![8, 128]⟩
abbrev S80x128 : Shape := ⟨2, ![80, 128]⟩
abbrev S128 : Shape := ⟨1, ![128]⟩
abbrev S1x128 : Shape := ⟨2, ![1, 128]⟩
abbrev S1x16x128 : Shape := ⟨3, ![1, 16, 128]⟩

abbrev nBuf : Space → Nat
  | .hbm => 8
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x2048, .f32⟩
  | .hbm, ⟨2, _⟩ => ⟨S2x128x128, .f32⟩
  | .hbm, ⟨3, _⟩ => ⟨S2048x1024, .f32⟩
  | .hbm, ⟨4, _⟩ => ⟨S2048x1024, .bf16⟩
  | .hbm, ⟨5, _⟩ => ⟨S2x128x128, .bf16⟩
  | .hbm, ⟨6, _⟩ => ⟨S32768x128, .i32⟩
  | .hbm, ⟨7, _⟩ => ⟨S8x16x32768, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S2x128x128, .bf16⟩
  | .local _ .vmem, ⟨4, _⟩ => ⟨S256x128, .i32⟩
  | .local _ .vmem, ⟨5, _⟩ => ⟨S256x128, .i32⟩
  | .local _ .vmem, ⟨6, _⟩ => ⟨S8x16x256, .f32⟩
  | .local _ .vmem, ⟨7, _⟩ => ⟨S8x16x256, .f32⟩
  | .local _ .vmem, ⟨8, _⟩ => ⟨S128x256, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.PackBody.lean ====
/- The packing kernel: what one grid point leaves in its output block, and the run of the whole grid. The stores are strided, so
   the body's triple and the proof data are written here; the set-up of the launch follows the generated frames. -/
module

public import proofs.«01_k».proof.Proof.Gen.Pack.Skeleton
public import proofs.«01_k».proof.Proof.Gen.Pack.Frame
public import Idealize.ShloMosaic.Lib.Claim
public import Idealize.ShloMosaic.Lib.Pipeline.Value

@[expose] public section

set_option maxRecDepth 16384

noncomputable section

namespace Cert.PackBody

open Cert.Pack Cert.Pack.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The four strided rectangles the body stores -/

/-- The rows ≡ 0, 1, 2 and 3 (mod 4) of the output block. -/
abbrev rows0 : Rect S2048x128 := ⟨⟨![0, 0], S512x128.size, ![4, 1], inb_S2048x128_S512x128_0_0_s_4_1⟩, spos_4_1⟩
abbrev rows1 : Rect S2048x128 := ⟨⟨![1, 0], S512x128.size, ![4, 1], inb_S2048x128_S512x128_1_0_s_4_1⟩, spos_4_1⟩
abbrev rows2 : Rect S2048x128 := ⟨⟨![2, 0], S512x128.size, ![4, 1], inb_S2048x128_S512x128_2_0_s_4_1⟩, spos_4_1⟩
abbrev rows3 : Rect S2048x128 := ⟨⟨![3, 0], S512x128.size, ![4, 1], inb_S2048x128_S512x128_3_0_s_4_1⟩, spos_4_1⟩

/-- Index `y`'s place in its strided rectangle: row `y 0 / 4`, the same lane. -/
def place (y : S2048x128.Idx) : S512x128.Idx := fun a => match a with
  | ⟨0, _⟩ => ⟨(y 0).val / 4, by have h : (y 0).val < 2048 := (y 0).isLt; show (y 0).val / 4 < 512; omega⟩
  | ⟨1, _⟩ => ⟨(y 1).val, (y 1).isLt⟩

/-- A rectangle of the rows ≡ `p` (mod 4), of stride 4, holds the indices of those rows only. -/
theorem not_mem_rows {p : ℕ} {r : Rect S2048x128} (hs : r.stride 0 = 4) (ho : r.off 0 = p) (hp : p < 4)
    {y : S2048x128.Idx} (h : (y 0).val % 4 ≠ p) : y ∉ r.set := by
  intro hy
  obtain ⟨j, -, e⟩ := r.toLoadRect.mem_set.mp hy 0
  rw [hs, ho] at e
  omega

theorem emb_rows0 {y : S2048x128.Idx} (h : (y 0).val % 4 = 0) : rows0.emb (place y) = y := by
  funext a; apply Fin.ext
  match a with
  | ⟨0, _⟩ => show 0 + 4 * ((y 0).val / 4) = (y 0).val; omega
  | ⟨1, _⟩ => show 0 + 1 * (y 1).val = (y 1).val; omega
theorem emb_rows1 {y : S2048x128.Idx} (h : (y 0).val % 4 = 1) : rows1.emb (place y) = y := by
  funext a; apply Fin.ext
  match a with
  | ⟨0, _⟩ => show 1 + 4 * ((y 0).val / 4) = (y 0).val; omega
  | ⟨1, _⟩ => show 0 + 1 * (y 1).val = (y 1).val; omega
theorem emb_rows2 {y : S2048x128.Idx} (h : (y 0).val % 4 = 2) : rows2.emb (place y) = y := by
  funext a; apply Fin.ext
  match a with
  | ⟨0, _⟩ => show 2 + 4 * ((y 0).val / 4) = (y 0).val; omega
  | ⟨1, _⟩ => show 0 + 1 * (y 1).val = (y 1).val; omega
theorem emb_rows3 {y : S2048x128.Idx} (h : (y 0).val % 4 = 3) : rows3.emb (place y) = y := by
  funext a; apply Fin.ext
  match a with
  | ⟨0, _⟩ => show 3 + 4 * ((y 0).val / 4) = (y 0).val; omega
  | ⟨1, _⟩ => show 0 + 1 * (y 1).val = (y 1).val; omega

/-- Four writes through the four rectangles cover the block. -/
theorem cover (p0 p1 p2 p3 : Vec F S512x128 .i32) (y : S2048x128.Idx) :
    ∃ pc ∈ ([⟨rows3, p3⟩, ⟨rows2, p2⟩, ⟨rows1, p1⟩, ⟨rows0, p0⟩] : List (View.Piece (Elt F) S2048x128 .i32)), y ∈ pc.1.set := by
  have hm : ∀ (r : Rect S2048x128) (x : r.shape.Idx), r.emb x = y → y ∈ r.set := fun r x e => e ▸ r.toLoadRect.idx_mem x
  have h4 : (y 0).val % 4 < 4 := Nat.mod_lt _ (by decide)
  by_cases h0 : (y 0).val % 4 = 0
  · exact ⟨_, .tail _ (.tail _ (.tail _ (.head _))), hm rows0 _ (emb_rows0 h0)⟩
  by_cases h1 : (y 0).val % 4 = 1
  · exact ⟨_, .tail _ (.tail _ (.head _)), hm rows1 _ (emb_rows1 h1)⟩
  by_cases h2 : (y 0).val % 4 = 2
  · exact ⟨_, .tail _ (.head _), hm rows2 _ (emb_rows2 h2)⟩
  · exact ⟨_, .head _, hm rows3 _ (emb_rows3 (by omega))⟩

/-- What such writes leave at an index: the payload of the index's residue, at its place. -/
theorem canon_rows (p : ℕ → Vec F S512x128 .i32) (y : S2048x128.Idx) :
    View.canon ([⟨rows3, p 3⟩, ⟨rows2, p 2⟩, ⟨rows1, p 1⟩, ⟨rows0, p 0⟩] : List (View.Piece (Elt F) S2048x128 .i32)) y
      = p ((y 0).val % 4) (place y) := by
  have h4 : (y 0).val % 4 < 4 := Nat.mod_lt _ (by decide)
  by_cases h3 : (y 0).val % 4 = 3
  · rw [h3]; conv_lhs => rw [← emb_rows3 h3]
    exact View.canon_cons_emb ..
  rw [View.canon_cons_of_not_mem _ _ (not_mem_rows (p := 3) rfl rfl (by omega) h3)]
  by_cases h2 : (y 0).val % 4 = 2
  · rw [h2]; conv_lhs => rw [← emb_rows2 h2]
    exact View.canon_cons_emb ..
  rw [View.canon_cons_of_not_mem _ _ (not_mem_rows (p := 2) rfl rfl (by omega) h2)]
  by_cases h1 : (y 0).val % 4 = 1
  · rw [h1]; conv_lhs => rw [← emb_rows1 h1]
    exact View.canon_cons_emb ..
  rw [View.canon_cons_of_not_mem _ _ (not_mem_rows (p := 1) rfl rfl (by omega) h1)]
  have h0 : (y 0).val % 4 = 0 := by omega
  rw [h0]; conv_lhs => rw [← emb_rows0 h0]
  exact View.canon_cons_emb ..

/-! ## What the body leaves -/

/-- The 128 columns of the input block from column `k`. -/
abbrev cols (k : ℕ) (h : ∀ a, (![0, k] : Fin 2 → Nat) a + S512x128.size a ≤ S512x1024.size a) (x : Vec F S512x1024 .f32) : Vec F S512x128 .f32 :=
  View.ld x (Rect.unit (s := S512x1024) ![0, k] S512x128.size h)

/-- The four groups of words the body stores, of the block `x`. -/
def words (x : Vec F S512x1024 .f32) : ℕ → Vec F S512x128 .i32
  | 0 => k0_pay1 (cols 0 inb_S512x1024_S512x128_0_0 x) (cols 512 inb_S512x1024_S512x128_0_512 x)
  | 1 => k0_pay2 (cols 128 inb_S512x1024_S512x128_0_128 x) (cols 640 inb_S512x1024_S512x128_0_640 x)
  | 2 => k0_pay3 (cols 256 inb_S512x1024_S512x128_0_256 x) (cols 768 inb_S512x1024_S512x128_0_768 x)
  | _ => k0_pay4 (cols 384 inb_S512x1024_S512x128_0_384 x) (cols 896 inb_S512x1024_S512x128_0_896 x)

/-- The output block after the body, from the input block. -/
def outBlock (x : Vec F S512x1024 .f32) : Vec F S2048x128 .i32 :=
  View.canon [⟨rows3, words x 3⟩, ⟨rows2, words x 2⟩, ⟨rows1, words x 1⟩, ⟨rows0, words x 0⟩]

/-- The word of two entries: the second rounded to bf16 in the high half, the first in the low half. -/
def word (lo hi : F .f32) : BitVec 32 :=
  BitOps.toBits (FloatOps.truncf .bf16 (by decide) hi) ++ BitOps.toBits (FloatOps.truncf .bf16 (by decide) lo)

/-- Where the low and the high half of word `y` of the output block come from. -/
def loAt (y : S2048x128.Idx) : S512x1024.Idx := fun a => match a with
  | ⟨0, _⟩ => ⟨(y 0).val / 4, by have h : (y 0).val < 2048 := (y 0).isLt; show (y 0).val / 4 < 512; omega⟩
  | ⟨1, _⟩ => ⟨(y 0).val % 4 * 128 + (y 1).val, by have h : (y 1).val < 128 := (y 1).isLt; show (y 0).val % 4 * 128 + (y 1).val < 1024; omega⟩
def hiAt (y : S2048x128.Idx) : S512x1024.Idx := fun a => match a with
  | ⟨0, _⟩ => ⟨(y 0).val / 4, by have h : (y 0).val < 2048 := (y 0).isLt; show (y 0).val / 4 < 512; omega⟩
  | ⟨1, _⟩ => ⟨512 + ((y 0).val % 4 * 128 + (y 1).val), by have h : (y 1).val < 128 := (y 1).isLt; show 512 + ((y 0).val % 4 * 128 + (y 1).val) < 1024; omega⟩

/-- The columns from `k`, read at a place. -/
theorem cols_place (k : ℕ) (h) (x : Vec F S512x1024 .f32) (y : S2048x128.Idx) (z : S512x1024.Idx)
    (h0 : (z 0).val = (y 0).val / 4) (h1 : (z 1).val = k + (y 1).val) : cols k h x (place y) = x z := by
  refine congrArg x (funext fun a => Fin.ext ?_)
  match a with
  | ⟨0, _⟩ => show 0 + 1 * ((y 0).val / 4) = (z 0).val; omega
  | ⟨1, _⟩ => show k + 1 * (y 1).val = (z 1).val; omega

/-- Word `y` of the output block. -/
theorem outBlock_apply (x : Vec F S512x1024 .f32) (y : S2048x128.Idx) : outBlock x y = word (x (loAt y)) (x (hiAt y)) := by
  have h4 : (y 0).val % 4 < 4 := Nat.mod_lt _ (by decide)
  refine (canon_rows (words x) y).trans ?_
  have key : ∀ (k k' : ℕ) (h) (h'), k = (y 0).val % 4 * 128 → k' = 512 + (y 0).val % 4 * 128 →
      packElementwise (cols k h x) (cols k' h' x) (place y) = word (x (loAt y)) (x (hiAt y)) := fun k k' h h' e e' => by
    show word (cols k h x (place y)) (cols k' h' x (place y)) = _
    rw [cols_place k h x y (loAt y) rfl (by show (y 0).val % 4 * 128 + (y 1).val = _; omega),
      cols_place k' h' x y (hiAt y) rfl (by show 512 + ((y 0).val % 4 * 128 + (y 1).val) = _; omega)]
  rcases (by omega : (y 0).val % 4 = 0 ∨ (y 0).val % 4 = 1 ∨ (y 0).val % 4 = 2 ∨ (y 0).val % 4 = 3) with e | e | e | e
  · have := key 0 512 inb_S512x1024_S512x128_0_0 inb_S512x1024_S512x128_0_512 (by omega) (by omega)
    rw [e]; exact this
  · have := key 128 640 inb_S512x1024_S512x128_0_128 inb_S512x1024_S512x128_0_640 (by omega) (by omega)
    rw [e]; exact this
  · have := key 256 768 inb_S512x1024_S512x128_0_256 inb_S512x1024_S512x128_0_768 (by omega) (by omega)
    rw [e]; exact this
  · have := key 384 896 inb_S512x1024_S512x128_0_384 inb_S512x1024_S512x128_0_896 (by omega) (by omega)
    rw [e]; exact this

/-! ## The body's triple -/

set_option maxHeartbeats 1000000 in
/-- The body on its input block at `x0` and its output block at anything ends with the output block at `outBlock x0`. -/
theorem kernel_triple (c : Dev nD) (E : Set ℕ) (i : grid0.Coords) (arg1 : Memref sig .tc .vmem S512x1024 .f32) (harg1 : arg1.IsWhole)
    (arg2 : Memref sig .tc .vmem S2048x128 .i32) (harg2 : arg2.IsWhole) (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0_pack_table i arg1 harg1 arg2 harg2) K := by
  simp only [cc0_pack_table_eq_skeleton]; unfold cc0_pack_table_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _ _ _ _)

/-! ## The proof data, the obligation of a point and the run -/

variable (m : (ℓ : Loc nD τ sig) → Buf (Elt F) ℓ) (ρ : Dev nD → PrngReg)

/-- The proof data of the pipeline: the arrays as launched; after a point the input's buffer at its block and the
    output's at `outBlock` of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem arrays_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

/-- The body at any point meets the pipeline's obligation. -/
theorem obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  have hbody : iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t))) := by
    unfold bodyAt0
    simp only [before0_0_of m (dats m 0 c) (arrays_eq m c 0) (after_in m c)]
    rw [show (dats m 0 c).Φ t.succ = (dats m 0 c).Φ t.castSucc from rfl,
      show (dats m 0 c).owesAt () t.succ = (dats m 0 c).owesAt () t.castSucc from rfl, after_in, after_out]
    iintro ⟨HΦ, Ho, ⟨%d0, H0⟩, ⟨%d1, H1⟩⟩
    iapply (kernel_triple c Set.univ (grid0.coords t) _ _ _ _ (iblk m c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  rw [bigSep_W0, bigSep_W0, hrow]
  exact triple_restated hbody rfl .rfl fun _ => .rfl

set_option backward.isDefEq.respectTransparency.types false in
set_option maxHeartbeats 800000 in
/-- The whole grid's run: the pipeline's arrays at what the proof data leave, and every semaphore counter at zero. -/
theorem run_arrays : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hΦ := fun _ _ => rfl)

/-- The frame: the argument array ends as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (arrays_eq m) ((θ_run defs _ _).mono (fun _ h => h.1) (run_arrays m ρ)))
    ((θ_run defs _ _).mono (fun _ h => h.2) (run_arrays m ρ))

/-! ## The result array -/

/-- The packed table of a table: row `4 r + p`, lane `l` holds the word of entries `p·128 + l` and `512 + p·128 + l` of row `r`. -/
def packed (x : Vec F S16384x1024 .f32) : Vec F S65536x128 .i32 := fun i =>
  word
    (x fun a => match a with
      | ⟨0, _⟩ => ⟨(i 0).val / 4, by have h : (i 0).val < 65536 := (i 0).isLt; show (i 0).val / 4 < 16384; omega⟩
      | ⟨1, _⟩ => ⟨(i 0).val % 4 * 128 + (i 1).val, by have h : (i 1).val < 128 := (i 1).isLt; show (i 0).val % 4 * 128 + (i 1).val < 1024; omega⟩)
    (x fun a => match a with
      | ⟨0, _⟩ => ⟨(i 0).val / 4, by have h : (i 0).val < 65536 := (i 0).isLt; show (i 0).val / 4 < 16384; omega⟩
      | ⟨1, _⟩ => ⟨512 + ((i 0).val % 4 * 128 + (i 1).val), by have h : (i 1).val < 128 := (i 1).isLt; show 512 + ((i 0).val % 4 * 128 + (i 1).val) < 1024; omega⟩)

/-- The index maps, decided over the grid: point `t` is on block `t` of rows of either array. -/
theorem index_facts : ∀ t : Fin cfg0.N, win0_1.index t (0 : Fin 2) = t.val ∧ win0_1.index t (1 : Fin 2) = 0
    ∧ win0_0.index t (0 : Fin 2) = t.val ∧ win0_0.index t (1 : Fin 2) = 0 :=
  (by decide +kernel : ∀ t : Fin grid0.N, _)

/-- What point `t` writes back is its block of the packed table. -/
theorem flushed_eq (c : Dev nD) (t : Fin cfg0.N) :
    (dats m 0 c).flushed 1 t = ((cfg0.win 1).blk t).view.read (Elt F) (packed (m ((c : Thread nD τ).loc main_arg0))) := by
  show (cfg0.win 1).cut (grid0.coords t) ((dats m 0 c).after 1 t) = _
  rw [after_out]
  obtain ⟨e0, e1, e2, e3⟩ := index_facts t
  funext y
  have hy0 : (y 0).val < 2048 := (y 0).isLt
  have hy1 : (y 1).val < 128 := (y 1).isLt
  have hb0 : (((cfg0.win 1).blk t).view.emb y 0).val = win0_1.index t (0 : Fin 2) * 2048 + 1 * (y 0).val := rfl
  have hb1 : (((cfg0.win 1).blk t).view.emb y 1).val = win0_1.index t (1 : Fin 2) * 128 + 1 * (y 1).val := rfl
  refine (outBlock_apply (iblk m c 0 t) ((cfg0.win 1).xinj (grid0.coords t) y)).trans ?_
  refine congrArg₂ word (congrArg (m ((c : Thread nD τ).loc main_arg0)) (funext fun a => Fin.ext ?_))
    (congrArg (m ((c : Thread nD τ).loc main_arg0)) (funext fun a => Fin.ext ?_))
  · match a with
    | ⟨0, _⟩ => show win0_0.index t (0 : Fin 2) * 512 + 1 * ((y 0).val / 4) = (((cfg0.win 1).blk t).view.emb y 0).val / 4; omega
    | ⟨1, _⟩ => show win0_0.index t (1 : Fin 2) * 1024 + 1 * ((y 0).val % 4 * 128 + (y 1).val) = (((cfg0.win 1).blk t).view.emb y 0).val % 4 * 128 + (((cfg0.win 1).blk t).view.emb y 1).val; omega
  · match a with
    | ⟨0, _⟩ => show win0_0.index t (0 : Fin 2) * 512 + 1 * ((y 0).val / 4) = (((cfg0.win 1).blk t).view.emb y 0).val / 4; omega
    | ⟨1, _⟩ => show win0_0.index t (1 : Fin 2) * 1024 + 1 * (512 + ((y 0).val % 4 * 128 + (y 1).val)) = 512 + ((((cfg0.win 1).blk t).view.emb y 0).val % 4 * 128 + (((cfg0.win 1).blk t).view.emb y 1).val); omega

/-- An index of the result is in point `t`'s block: the rows of block `t`. -/
theorem mem_block (t : Fin cfg0.N) (i : S65536x128.Idx) :
    i ∈ ((cfg0.win 1).blk t).view.set ↔ t.val * 2048 ≤ (i 0 : Nat) ∧ (i 0 : Nat) < t.val * 2048 + 2048 := by
  show i ∈ ((View.whole main_v0).slice (win0_1.rect t)).set ↔ _
  rw [View.set_slice_whole, Rect.mem_set_unit]
  obtain ⟨e0, e1, -, -⟩ := index_facts t
  have h1 : (i 1 : Nat) < 128 := (i 1).isLt
  refine ⟨fun h => ?_, fun h a => ?_⟩
  · have : win0_1.index t (0 : Fin 2) * 2048 ≤ (i 0 : Nat) ∧ (i 0 : Nat) < win0_1.index t (0 : Fin 2) * 2048 + 2048 := h 0
    rw [e0] at this; exact this
  · match a with
    | ⟨0, _⟩ => show win0_1.index t (0 : Fin 2) * 2048 ≤ (i 0 : Nat) ∧ (i 0 : Nat) < win0_1.index t (0 : Fin 2) * 2048 + 2048
                rw [e0]; exact h
    | ⟨1, _⟩ => show win0_1.index t (1 : Fin 2) * 128 ≤ (i 1 : Nat) ∧ (i 1 : Nat) < win0_1.index t (1 : Fin 2) * 128 + 128
                rw [e1]; omega

/-- Every index of the result is in some point's block. -/
theorem covered (i : S65536x128.Idx) : ∃ t : Fin cfg0.N, (cfg0.win 1).flush t = true ∧ i ∈ ((cfg0.win 1).blk t).view.set := by
  have h0 : (i 0 : Nat) < 65536 := (i 0).isLt
  have hN : cfg0.N = 32 := N_0
  have ht : (i 0 : Nat) / 2048 < cfg0.N := by omega
  refine ⟨⟨(i 0 : Nat) / 2048, ht⟩, flush0_1 _, ?_⟩
  rw [mem_block]
  dsimp only
  omega

/-- The run, read: the result array is the packed table of the argument, which ends as it was. -/
theorem run : θ_run defs (onTc (τ := τ) (main (F := F))) ⟨m, fun _ => 0, ρ⟩ (fun r => ∀ c : Dev nD,
      r.2.mem ((c.tc : Thread nD τ).loc main_v0) = packed (m ((c.tc : Thread nD τ).loc main_arg0))
      ∧ r.2.mem ((c.tc : Thread nD τ).loc main_arg0) = m ((c.tc : Thread nD τ).loc main_arg0)) :=
  (θ_run defs _ _).mono (fun _ h c => ⟨((h.1 c).1 1).trans ((dats m 0 c).arrAt_eq_of_cover 1 _ (fun t _ => flushed_eq m c t) covered),
      ((h.1 c).1 0).trans ((dats m 0 c).arrAt_in 0 rfl _)⟩)
    (run_arrays m ρ)

end Cert.PackBody

end
-- ==== Proof.PackEq.lean ====
/- The packing kernel against its reference, bit for bit: the word the kernel writes is the word the host arithmetic builds. -/
module

public import proofs.«01_k».proof.Proof.PackBody
public import proofs.«01_k».proof.Proof.Gen.PackRef.Read

@[expose] public section

noncomputable section

namespace Cert.PackEq

open Idealize.ShloMosaic Idealize.ShloMosaic.TcCoe Idealize.SL.Sem
open Cert.PackRef Cert.PackRef.Gen Cert.PackRef.Read

/-- Two 16-bit halves side by side are the high one shifted up, or-ed with the low one. -/
theorem append_eq_or (hi lo : BitVec 16) : hi ++ lo = (hi.setWidth 32 <<< 16) ||| lo.setWidth 32 := by
  ext j hj
  simp only [BitVec.getElem_append, BitVec.getElem_or, BitVec.getElem_shiftLeft, BitVec.getElem_setWidth]
  by_cases h : j < 16
  · simp [h]
  · simp only [h, dite_false, decide_false, Bool.not_false, Bool.true_and]
    rw [BitVec.getLsbD_of_ge lo j (by omega), Bool.or_false]
    simp [h, BitVec.getLsbD, BitVec.getElem_eq_testBit_toNat]

variable {F : FTy → Type} [BitOps F]

/-- The kernel's packed table is the reference's. -/
theorem packed_eq (x : Vec F S16384x1024 .f32) : Cert.PackBody.packed x = val_main_v9 x := by
  funext i
  have h0 : (i 0).val < 65536 := (i 0).isLt
  have h1 : (i 1).val < 128 := (i 1).isLt
  rw [val_main_v9_apply, val_main_v8_apply, val_main_v7_apply, val_main_v5_apply, val_main_v4_apply, val_main_c_apply,
    val_main_v3_apply, val_main_v6_apply, val_main_v2_apply, val_main_v2_apply, val_main_v1_apply, val_main_v1_apply,
    val_main_v0_apply, val_main_v0_apply]
  refine (append_eq_or _ _).trans ?_
  refine congrArg₂ (fun hi lo : F .f32 => (((BitOps.toBits (FloatOps.truncf .bf16 (by decide) hi) : BitVec 16).setWidth 32 <<< 16) ||| (BitOps.toBits (FloatOps.truncf .bf16 (by decide) lo) : BitVec 16).setWidth 32))
    (congrArg x (funext fun a => Fin.ext ?_)) (congrArg x (funext fun a => Fin.ext ?_))
  · match a with
    | ⟨0, _⟩ => show (i 0).val / 4 = ((i 0).val * 128 + (i 1).val) / 512; omega
    | ⟨1, _⟩ => show 512 + ((i 0).val % 4 * 128 + (i 1).val) = 512 + ((i 0).val * 128 + (i 1).val) % 512; omega
  · match a with
    | ⟨0, _⟩ => show (i 0).val / 4 = ((i 0).val * 128 + (i 1).val) / 512; omega
    | ⟨1, _⟩ => show (i 0).val % 4 * 128 + (i 1).val = ((i 0).val * 128 + (i 1).val) % 512; omega

end Cert.PackEq

end
-- ==== Proof.AttnHost.lean ====
/- The arrays the attention kernel's launch reads, as the host prepares them from the arguments. -/
module

public import proofs.«01_k».proof.Proof.Gen.AttnIdeal.Value
public import Idealize.ShloMosaic.Lib.Pipeline.ValueKit
public import Idealize.ShloMosaic.Lib.Pointwise.Tactic
public import Idealize.ShloMosaic.Lib.Claim

@[expose] public section

set_option maxRecDepth 16384

noncomputable section

namespace Cert.AttnHost

open Cert.AttnIdeal Cert.AttnIdeal.Gen
open Idealize.ShloMosaic Idealize.ShloMosaic.TcCoe Idealize.SL.Sem

variable (m : (ℓ : Loc nD τ sig) → Buf (Elt Ideal) ℓ) (c : Dev nD)

abbrev Q : FVec Ideal S4x8192x2x4x64 .f32 := m ((c : Thread nD τ).loc main_arg0)
abbrev K : FVec Ideal S4x8192x2x64 .f32 := m ((c : Thread nD τ).loc main_arg1)
abbrev W : FVec Ideal S4x8192x2x64 .f32 := m ((c : Thread nD τ).loc main_arg2)

/-- The prepared queries: head `h`'s, divided by `log 2`, in the half of the 128 rows that its key head owns, and zeros in the other half. -/
theorem q_at (b : Fin 4) (h : Fin 8) (d : Fin 128) (s : Fin 8192) :
    (show FVec Ideal S4x8x128x8192 .bf16 from V m c main_v12) (ix4 b h d s)
      = if d.val / 64 = h.val / 4 then
          Ideal.div (Q m c (ix5 b s (⟨h.val / 4, by omega⟩ : Fin 2) (⟨h.val % 4, by omega⟩ : Fin 4) (⟨d.val % 64, by omega⟩ : Fin 64)))
            (Ideal.log (Ideal.ofBits .f32 0x40000000#32))
        else 0 := by
  entry_read
  pointwise
  by_cases hh : h.val < 4 <;> by_cases hd : d.val < 64
  · refine (dif_pos hh).trans ((dif_pos hd).trans (Eq.trans ?_ (if_pos (show d.val / 64 = h.val / 4 by omega)).symm))
    refine (congrArg (fun x => Ideal.div x (Ideal.log (Ideal.ofBits .f32 0x40000000#32))) (show Q m c _ = Q m c _ from congrArg (Q m c) ?_))
    blk_ext
  · exact (dif_pos hh).trans ((dif_neg hd).trans (if_neg (show ¬ d.val / 64 = h.val / 4 by omega)).symm)
  · exact (dif_neg hh).trans ((dif_pos hd).trans (if_neg (show ¬ d.val / 64 = h.val / 4 by omega)).symm)
  · refine (dif_neg hh).trans ((dif_neg hd).trans (Eq.trans ?_ (if_pos (show d.val / 64 = h.val / 4 by omega)).symm))
    refine (congrArg (fun x => Ideal.div x (Ideal.log (Ideal.ofBits .f32 0x40000000#32))) (show Q m c _ = Q m c _ from congrArg (Q m c) ?_))
    blk_ext

/-- The prepared keys: the two key heads side by side, the batches one below the other. -/
theorem k_at (b : Fin 4) (s : Fin 8192) (d : Fin 128)  :
    (show FVec Ideal S32768x128 .bf16 from V m c main_v14) (ix2 (⟨b.val * 8192 + s.val, by omega⟩ : Fin 32768) d)
      = K m c (ix4 b s (⟨d.val / 64, by omega⟩ : Fin 2) (⟨d.val % 64, by omega⟩ : Fin 64)) := by
  entry_read
  pointwise
  refine congrArg (m _) ?_
  blk_ext

/-- The prepared values, transposed: the first 64 rows. -/
theorem v_at (b : Fin 4) (g : Fin 2) (d : Fin 64) (s : Fin 8192) :
    (show FVec Ideal S4x2x80x8192 .bf16 from V m c main_v20) (ix4 b g (⟨d.val, by omega⟩ : Fin 80) s) = W m c (ix4 b s g d) := by
  entry_read
  pointwise

/-- Row 64 of the prepared values is one throughout. -/
theorem one_at (b : Fin 4) (g : Fin 2) (s : Fin 8192) :
    (show FVec Ideal S4x2x80x8192 .bf16 from V m c main_v20) (ix4 b g (64 : Fin 80) s) = 1 := by
  entry_read
  pointwise

end Cert.AttnHost

end
-- ==== Proof.AttnStep.lean ====
/- One grid point of the attention kernel: what the eight heads' unrolled updates leave in the two scratches, as one function of the head. -/
module

public import proofs.«01_k».proof.Proof.Gen.AttnIdeal.Value
public import Idealize.ShloMosaic.Lib.Pipeline.ReadBack
public import Idealize.ShloMosaic.Lib.Tactic

@[expose] public section

noncomputable section

namespace Cert.AttnStep

open Cert.AttnIdeal Cert.AttnIdeal.Gen
open Idealize.ShloMosaic Idealize.ShloMosaic.TcCoe Idealize.SL.Sem

variable {F : FTy → Type} [FloatOps F]

/-! ## The parts of the blocks that belong to one head -/

/-- Head `h`'s rows of the query block, of the running maximum and of the accumulator. -/
abbrev rectQ (h : Fin 8) : Rect S1x8x128x512 := Rect.unit ![0, h.val, 0, 0] S1x1x128x512.size (by
  intro a; match a with
  | ⟨0, _⟩ => show 0 + 1 ≤ 1; omega
  | ⟨1, _⟩ => show h.val + 1 ≤ 8; omega
  | ⟨2, _⟩ => show 0 + 128 ≤ 128; omega
  | ⟨3, _⟩ => show 0 + 512 ≤ 512; omega)
abbrev rectM (h : Fin 8) : Rect S8x512 := Rect.unit ![h.val, 0] S1x512.size (by
  intro a; match a with
  | ⟨0, _⟩ => show h.val + 1 ≤ 8; omega
  | ⟨1, _⟩ => show 0 + 512 ≤ 512; omega)
abbrev rectA (h : Fin 8) : Rect S8x80x512 := Rect.unit ![h.val, 0, 0] S1x80x512.size (by
  intro a; match a with
  | ⟨0, _⟩ => show h.val + 1 ≤ 8; omega
  | ⟨1, _⟩ => show 0 + 80 ≤ 80; omega
  | ⟨2, _⟩ => show 0 + 512 ≤ 512; omega)
/-- The key head `g`'s rows of the value block. -/
abbrev rectV (g : Fin 2) : Rect S1x2x80x1024 := Rect.unit ![0, g.val, 0, 0] S1x1x80x1024.size (by
  intro a; match a with
  | ⟨0, _⟩ => show 0 + 1 ≤ 1; omega
  | ⟨1, _⟩ => show g.val + 1 ≤ 2; omega
  | ⟨2, _⟩ => show 0 + 80 ≤ 80; omega
  | ⟨3, _⟩ => show 0 + 1024 ≤ 1024; omega)
/-- The key head that query head `h` reads. -/
abbrev grp (h : Fin 8) : Fin 2 := ⟨h.val / 4, by omega⟩

/-! ## One head's update -/

/-- The scores of head `h`: the key block times the head's queries. -/
def headS (x0 : Vec F S1x8x128x512 .bf16) (x1 : Vec F S1024x128 .bf16) (h : Fin 8) : FVec F S1024x512 .f32 :=
  matmul dot_S1024x128_S128x512_S1024x512_1_0_0_1_n_n none x1
    (shapeCast S128x512 (View.ld x0 (rectQ h) : Vec F S1x1x128x512 .bf16) shapeCasts_S1x1x128x512_S128x512) (constant S1024x512 .f32 0x00000000#32)

/-- The new maximum from scores `s` and the maximum `mp` before. -/
def newM (s : FVec F S1024x512 .f32) (mp : FVec F S1x512 .f32) : FVec F S1x512 .f32 :=
  maximumf mp (shapeCast S1x512 (multiReduction .maximumf [0] S512 s 0xFF800000#32 reduces_S1024x512_S512 (.inl rfl) rfl) shapeCasts_S512_S1x512)

/-- The new accumulator from scores `s`, the maximum `mp` and the accumulator `ap` before, and the value block `v`. -/
def newA (s : FVec F S1024x512 .f32) (mp : FVec F S1x512 .f32) (v : Vec F S1x1x80x1024 .bf16) (ap : Vec F S1x80x512 .f32) : FVec F S1x80x512 .f32 :=
  shapeCast S1x80x512 (addf
    (mulf (broadcastTo S80x512 (exp2 (subf mp (newM s mp))) broadcasts_S1x512_S80x512) (shapeCast S80x512 ap shapeCasts_S1x80x512_S80x512))
    (matmul dot_S80x1024_S1024x512_S80x512_1_0_0_1_n_n none (shapeCast S80x1024 v shapeCasts_S1x1x80x1024_S80x1024)
      (truncf .bf16 (exp2 (subf s (broadcastTo S1024x512 (newM s mp) broadcasts_S1x512_S1024x512))) bitsLt_bf16_f32)
      (constant S80x512 .f32 0x00000000#32))) shapeCasts_S80x512_S1x80x512

/-- Head `h`'s new maximum from the maxima `sm` before. -/
def headM (x0 : Vec F S1x8x128x512 .bf16) (x1 : Vec F S1024x128 .bf16) (sm : Vec F S8x512 .f32) (h : Fin 8) : FVec F S1x512 .f32 :=
  newM (headS x0 x1 h) (View.ld sm (rectM h) : Vec F S1x512 .f32)

/-- Head `h`'s new accumulator from the maxima `sm` and the accumulators `sa` before. -/
def headA (x0 : Vec F S1x8x128x512 .bf16) (x1 : Vec F S1024x128 .bf16) (x2 : Vec F S1x2x80x1024 .bf16) (sm : Vec F S8x512 .f32) (sa : Vec F S8x80x512 .f32)
    (h : Fin 8) : FVec F S1x80x512 .f32 :=
  newA (headS x0 x1 h) (View.ld sm (rectM h) : Vec F S1x512 .f32) (View.ld x2 (rectV (grp h)) : Vec F S1x1x80x1024 .bf16)
    (View.ld sa (rectA h) : Vec F S1x80x512 .f32)

theorem zero2 : (![0, 0] : Fin 2 → ℕ) = fun _ => 0 := funext (by decide)

/-! ## Eight stores, one for each head -/

/-- Index `y`'s place within its head's row. -/
abbrev inM (y : S8x512.Idx) : S1x512.Idx := fun a => match a with
  | ⟨0, _⟩ => (0 : Fin 1)
  | ⟨1, _⟩ => (y 1 : Fin 512)
abbrev inA (y : S8x80x512.Idx) : S1x80x512.Idx := fun a => match a with
  | ⟨0, _⟩ => (0 : Fin 1)
  | ⟨1, _⟩ => (y 1 : Fin 80)
  | ⟨2, _⟩ => (y 2 : Fin 512)

theorem canonM_step {P : FVec F S1x512 .f32} {L : List (View.Piece (Elt F) S8x512 .f32)} {y : S8x512.Idx} (k : Fin 8) {v : Elt F .f32}
    (h : (y 0).val = k.val → P (inM y) = v) (h' : (y 0).val ≠ k.val → View.canon L y = v) : View.canon (⟨rectM k, P⟩ :: L) y = v := by
  by_cases e : (y 0).val = k.val
  · have : (rectM k).emb (inM y) = y := by
      funext a; apply Fin.ext
      match a with
      | ⟨0, _⟩ => show k.val + 1 * 0 = (y 0).val; omega
      | ⟨1, _⟩ => show 0 + 1 * (y 1).val = (y 1).val; omega
    rw [← h e]
    conv_lhs => rw [← this]
    exact View.canon_cons_emb _ _ _ _
  · rw [View.canon_cons_of_not_mem _ _ ?_]
    · exact h' e
    · intro hy
      obtain ⟨j, hj, e'⟩ := (rectM k).toLoadRect.mem_set.mp hy 0
      have h1 : j < 1 := hj
      have h2 : (y 0).val = k.val + 1 * j := e'
      omega

theorem canonA_step {P : FVec F S1x80x512 .f32} {L : List (View.Piece (Elt F) S8x80x512 .f32)} {y : S8x80x512.Idx} (k : Fin 8) {v : Elt F .f32}
    (h : (y 0).val = k.val → P (inA y) = v) (h' : (y 0).val ≠ k.val → View.canon L y = v) : View.canon (⟨rectA k, P⟩ :: L) y = v := by
  by_cases e : (y 0).val = k.val
  · have : (rectA k).emb (inA y) = y := by
      funext a; apply Fin.ext
      match a with
      | ⟨0, _⟩ => show k.val + 1 * 0 = (y 0).val; omega
      | ⟨1, _⟩ => show 0 + 1 * (y 1).val = (y 1).val; omega
      | ⟨2, _⟩ => show 0 + 1 * (y 2).val = (y 2).val; omega
    rw [← h e]
    conv_lhs => rw [← this]
    exact View.canon_cons_emb _ _ _ _
  · rw [View.canon_cons_of_not_mem _ _ ?_]
    · exact h' e
    · intro hy
      obtain ⟨j, hj, e'⟩ := (rectA k).toLoadRect.mem_set.mp hy 0
      have h1 : j < 1 := hj
      have h2 : (y 0).val = k.val + 1 * j := e'
      omega

/-- Eight stores of the heads' rows, the last head's first, hold at `y` what the head of `y` stored. -/
theorem canonM (P : Fin 8 → FVec F S1x512 .f32) {p0 p1 p2 p3 p4 p5 p6 p7 : FVec F S1x512 .f32} (L : List (View.Piece (Elt F) S8x512 .f32)) (y : S8x512.Idx)
    (h0 : p0 = P 0) (h1 : p1 = P 1) (h2 : p2 = P 2) (h3 : p3 = P 3) (h4 : p4 = P 4) (h5 : p5 = P 5) (h6 : p6 = P 6) (h7 : p7 = P 7) :
    View.canon (⟨rectM 7, p7⟩ :: ⟨rectM 6, p6⟩ :: ⟨rectM 5, p5⟩ :: ⟨rectM 4, p4⟩ :: ⟨rectM 3, p3⟩ :: ⟨rectM 2, p2⟩ :: ⟨rectM 1, p1⟩ :: ⟨rectM 0, p0⟩ :: L) y
      = P (y 0) (inM y) := by
  subst h0 h1 h2 h3 h4 h5 h6 h7
  have hk (k : Fin 8) (e : (y 0).val = k.val) : P k (inM y) = P (y 0) (inM y) := by
    rw [show y 0 = k from Fin.ext e]
  have hlt : (y 0).val < 8 := (y 0).isLt
  refine canonM_step 7 (hk 7) fun n7 => canonM_step 6 (hk 6) fun n6 => canonM_step 5 (hk 5) fun n5 => canonM_step 4 (hk 4) fun n4 =>
    canonM_step 3 (hk 3) fun n3 => canonM_step 2 (hk 2) fun n2 => canonM_step 1 (hk 1) fun n1 => canonM_step 0 (hk 0) fun n0 => ?_
  change (y 0).val ≠ 7 at n7; change (y 0).val ≠ 6 at n6; change (y 0).val ≠ 5 at n5; change (y 0).val ≠ 4 at n4
  change (y 0).val ≠ 3 at n3; change (y 0).val ≠ 2 at n2; change (y 0).val ≠ 1 at n1; change (y 0).val ≠ 0 at n0
  omega

theorem canonA (P : Fin 8 → FVec F S1x80x512 .f32) {p0 p1 p2 p3 p4 p5 p6 p7 : FVec F S1x80x512 .f32} (L : List (View.Piece (Elt F) S8x80x512 .f32))
    (y : S8x80x512.Idx)
    (h0 : p0 = P 0) (h1 : p1 = P 1) (h2 : p2 = P 2) (h3 : p3 = P 3) (h4 : p4 = P 4) (h5 : p5 = P 5) (h6 : p6 = P 6) (h7 : p7 = P 7) :
    View.canon (⟨rectA 7, p7⟩ :: ⟨rectA 6, p6⟩ :: ⟨rectA 5, p5⟩ :: ⟨rectA 4, p4⟩ :: ⟨rectA 3, p3⟩ :: ⟨rectA 2, p2⟩ :: ⟨rectA 1, p1⟩ :: ⟨rectA 0, p0⟩ :: L) y
      = P (y 0) (inA y) := by
  subst h0 h1 h2 h3 h4 h5 h6 h7
  have hk (k : Fin 8) (e : (y 0).val = k.val) : P k (inA y) = P (y 0) (inA y) := by
    rw [show y 0 = k from Fin.ext e]
  have hlt : (y 0).val < 8 := (y 0).isLt
  refine canonA_step 7 (hk 7) fun n7 => canonA_step 6 (hk 6) fun n6 => canonA_step 5 (hk 5) fun n5 => canonA_step 4 (hk 4) fun n4 =>
    canonA_step 3 (hk 3) fun n3 => canonA_step 2 (hk 2) fun n2 => canonA_step 1 (hk 1) fun n1 => canonA_step 0 (hk 0) fun n0 => ?_
  change (y 0).val ≠ 7 at n7; change (y 0).val ≠ 6 at n6; change (y 0).val ≠ 5 at n5; change (y 0).val ≠ 4 at n4
  change (y 0).val ≠ 3 at n3; change (y 0).val ≠ 2 at n2; change (y 0).val ≠ 1 at n1; change (y 0).val ≠ 0 at n0
  omega

/-- What a grid point leaves in the two scratches, over what they held. -/
def stepM (x0 : Vec F S1x8x128x512 .bf16) (x1 : Vec F S1024x128 .bf16) (sm : Vec F S8x512 .f32) : Vec F S8x512 .f32 :=
  fun y => headM x0 x1 sm (y 0) (inM y)
def stepA (x0 : Vec F S1x8x128x512 .bf16) (x1 : Vec F S1024x128 .bf16) (x2 : Vec F S1x2x80x1024 .bf16) (sm : Vec F S8x512 .f32) (sa : Vec F S8x80x512 .f32) :
    Vec F S8x80x512 .f32 :=
  fun y => headA x0 x1 x2 sm sa (y 0) (inA y)

/-- The output block from the eight heads' accumulators: each head's quotient of its rows by its row 64, side by side and transposed. -/
def outOf (P : Fin 8 → Vec F S1x80x512 .f32) : FVec F S512x512 .bf16 :=
  k0_pay1 (k0_pay2 (P 0)) (k0_pay3 (P 1)) (k0_pay4 (P 2)) (k0_pay5 (P 3)) (k0_pay6 (P 4)) (k0_pay7 (P 5)) (k0_pay8 (P 6)) (k0_pay9 (P 6)) (P 7)

end Cert.AttnStep

end
-- ==== Proof.AttnAt.lean ====
/- One head's update read at an element, over the extended reals. -/
module

public import proofs.«01_k».proof.Proof.AttnStep
public import Idealize.ShloMosaic.Lib.Pipeline.ValueKit
public import Idealize.ShloMosaic.Lib.Pointwise.Tactic

@[expose] public section

set_option maxRecDepth 16384

noncomputable section

namespace Cert.AttnStep

open Cert.AttnIdeal Cert.AttnIdeal.Gen
open Idealize.ShloMosaic Idealize.ShloMosaic.TcCoe Idealize.SL.Sem

/-- One head's scores for its query rows `w`. -/
theorem score_at (w : Vec Ideal S1x1x128x512 .bf16) (x1 : Vec Ideal S1024x128 .bf16) (k : Fin 1024) (j : Fin 512) :
    matmul (F := Ideal) (φ₁ := .bf16) (φ₂ := .bf16) dot_S1024x128_S128x512_S1024x512_1_0_0_1_n_n none x1 (shapeCast S128x512 w shapeCasts_S1x1x128x512_S128x512)
      (constant (F := Ideal) S1024x512 .f32 0x00000000#32) (ix2 k j) = ∑ d : Fin 128, x1 (ix2 k d) * w (ix4 (0 : Fin 1) (0 : Fin 1) d j) := by
  pointwise

theorem headS_at (x0 : Vec Ideal S1x8x128x512 .bf16) (x1 : Vec Ideal S1024x128 .bf16) (h : Fin 8) (k : Fin 1024) (j : Fin 512) :
    headS x0 x1 h (ix2 k j) = ∑ d : Fin 128, x1 (ix2 k d) * x0 (ix4 (0 : Fin 1) h d j) := by
  refine (score_at _ x1 k j).trans (Finset.sum_congr rfl fun d _ => congrArg (x1 (ix2 k d) * ·) (congrArg x0 ?_))
  funext a; apply Fin.ext
  match a with
  | ⟨0, _⟩ => rfl
  | ⟨1, _⟩ => show h.val + 1 * 0 = h.val; omega
  | ⟨2, _⟩ => show 0 + 1 * d.val = d.val; omega
  | ⟨3, _⟩ => show 0 + 1 * j.val = j.val; omega

theorem newM_at (s : FVec Ideal S1024x512 .f32) (mp : FVec Ideal S1x512 .f32) (j : Fin 512) :
    newM s mp (ix2 (0 : Fin 1) j)
      = max (mp (ix2 (0 : Fin 1) j)) (Finset.fold max (Ideal.ofBits .f32 0xFF800000#32) (fun x : Fin 1024 => s (ix2 x j)) Finset.univ) := by
  pointwise [newM]

theorem newA_at (s : FVec Ideal S1024x512 .f32) (mp : FVec Ideal S1x512 .f32) (v : Vec Ideal S1x1x80x1024 .bf16) (ap : Vec Ideal S1x80x512 .f32) (d : Fin 80) (j : Fin 512) :
    newA s mp v ap (ix3 (0 : Fin 1) d j)
      = FloatOps.exp2 (F := Ideal) (φ := .f32) (mp (ix2 (0 : Fin 1) j) - newM s mp (ix2 (0 : Fin 1) j)) * ap (ix3 (0 : Fin 1) d j)
        + ∑ x : Fin 1024, v (ix4 (0 : Fin 1) (0 : Fin 1) d x) * FloatOps.exp2 (F := Ideal) (φ := .f32) (s (ix2 x j) - newM s mp (ix2 (0 : Fin 1) j)) := by
  pointwise [newA]

theorem outOf_at (P : Fin 8 → Vec Ideal S1x80x512 .f32) (q : Fin 512) (j : Fin 512) :
    outOf P (ix2 q j) = Ideal.div (P (⟨j.val / 64, by omega⟩ : Fin 8) (ix3 (0 : Fin 1) (⟨j.val % 64, by omega⟩ : Fin 80) q))
      (P (⟨j.val / 64, by omega⟩ : Fin 8) (ix3 (0 : Fin 1) (64 : Fin 80) q)) := by
  pointwise [outOf, k0_pay1, k0_pay2, k0_pay3, k0_pay4, k0_pay5, k0_pay6, k0_pay7, k0_pay8, k0_pay9]
  have key (h : Fin 8) (r : Fin 80) (e : h.val * 64 + r.val = j.val) (hr : r.val < 64) :
      Ideal.div (P h (ix3 (0 : Fin 1) r q)) (P h (ix3 (0 : Fin 1) (64 : Fin 80) q))
        = Ideal.div (P (⟨j.val / 64, by omega⟩ : Fin 8) (ix3 (0 : Fin 1) (⟨j.val % 64, by omega⟩ : Fin 80) q))
      (P (⟨j.val / 64, by omega⟩ : Fin 8) (ix3 (0 : Fin 1) (64 : Fin 80) q)) := by
    have h1 : h = (⟨j.val / 64, by omega⟩ : Fin 8) := Fin.ext (by show h.val = j.val / 64; omega)
    have h2 : r = (⟨j.val % 64, by omega⟩ : Fin 80) := Fin.ext (by show r.val = j.val % 64; omega)
    rw [h1, h2]
  by_cases h0 : j.val < 64
  · exact (dif_pos h0).trans (key 0 ⟨j.val, by omega⟩ (by show 0 * 64 + (j.val) = j.val; omega) h0)
  refine (dif_neg h0).trans ?_
  by_cases h1 : j.val - 64 < 64
  · exact (dif_pos h1).trans (key 1 ⟨j.val - 64, by omega⟩ (by show 1 * 64 + (j.val - 64) = j.val; omega) h1)
  refine (dif_neg h1).trans ?_
  by_cases h2 : j.val - 64 - 64 < 64
  · exact (dif_pos h2).trans (key 2 ⟨j.val - 64 - 64, by omega⟩ (by show 2 * 64 + (j.val - 64 - 64) = j.val; omega) h2)
  refine (dif_neg h2).trans ?_
  by_cases h3 : j.val - 64 - 64 - 64 < 64
  · exact (dif_pos h3).trans (key 3 ⟨j.val - 64 - 64 - 64, by omega⟩ (by show 3 * 64 + (j.val - 64 - 64 - 64) = j.val; omega) h3)
  refine (dif_neg h3).trans ?_
  by_cases h4 : j.val - 64 - 64 - 64 - 64 < 64
  · exact (dif_pos h4).trans (key 4 ⟨j.val - 64 - 64 - 64 - 64, by omega⟩ (by show 4 * 64 + (j.val - 64 - 64 - 64 - 64) = j.val; omega) h4)
  refine (dif_neg h4).trans ?_
  by_cases h5 : j.val - 64 - 64 - 64 - 64 - 64 < 64
  · exact (dif_pos h5).trans (key 5 ⟨j.val - 64 - 64 - 64 - 64 - 64, by omega⟩ (by show 5 * 64 + (j.val - 64 - 64 - 64 - 64 - 64) = j.val; omega) h5)
  refine (dif_neg h5).trans ?_
  by_cases h6 : j.val - 64 - 64 - 64 - 64 - 64 - 64 < 64
  · exact (dif_pos h6).trans (key 6 ⟨j.val - 64 - 64 - 64 - 64 - 64 - 64, by omega⟩ (by show 6 * 64 + (j.val - 64 - 64 - 64 - 64 - 64 - 64) = j.val; omega) h6)
  refine (dif_neg h6).trans ?_
  exact key 7 ⟨j.val - 64 - 64 - 64 - 64 - 64 - 64 - 64, by omega⟩ (by show 7 * 64 + (j.val - 64 - 64 - 64 - 64 - 64 - 64 - 64) = j.val; omega) (by show j.val - 64 - 64 - 64 - 64 - 64 - 64 - 64 < 64; omega)

/-! ## A grid point's two scratches, at an element -/

theorem inM_ix (h : Fin 8) (j : Fin 512) : inM (ix2 h j) = ix2 (0 : Fin 1) j := by
  funext a; match a with
  | ⟨0, _⟩ => rfl
  | ⟨1, _⟩ => rfl

theorem inA_ix (h : Fin 8) (d : Fin 80) (j : Fin 512) : inA (ix3 h d j) = ix3 (0 : Fin 1) d j := by
  funext a; match a with
  | ⟨0, _⟩ => rfl
  | ⟨1, _⟩ => rfl
  | ⟨2, _⟩ => rfl

theorem ldM_at (sm : Vec Ideal S8x512 .f32) (h : Fin 8) (j : Fin 512) : (View.ld sm (rectM h) : Vec Ideal S1x512 .f32) (ix2 (0 : Fin 1) j) = sm (ix2 h j) := by
  refine congrArg sm (funext fun a => Fin.ext ?_)
  match a with
  | ⟨0, _⟩ => show h.val + 1 * 0 = h.val; omega
  | ⟨1, _⟩ => show 0 + 1 * j.val = j.val; omega

theorem ldA_at (sa : Vec Ideal S8x80x512 .f32) (h : Fin 8) (d : Fin 80) (j : Fin 512) :
    (View.ld sa (rectA h) : Vec Ideal S1x80x512 .f32) (ix3 (0 : Fin 1) d j) = sa (ix3 h d j) := by
  refine congrArg sa (funext fun a => Fin.ext ?_)
  match a with
  | ⟨0, _⟩ => show h.val + 1 * 0 = h.val; omega
  | ⟨1, _⟩ => show 0 + 1 * d.val = d.val; omega
  | ⟨2, _⟩ => show 0 + 1 * j.val = j.val; omega

theorem ldV_at (x2 : Vec Ideal S1x2x80x1024 .bf16) (g : Fin 2) (d : Fin 80) (x : Fin 1024) :
    (View.ld x2 (rectV g) : Vec Ideal S1x1x80x1024 .bf16) (ix4 (0 : Fin 1) (0 : Fin 1) d x) = x2 (ix4 (0 : Fin 1) g d x) := by
  refine congrArg x2 (funext fun a => Fin.ext ?_)
  match a with
  | ⟨0, _⟩ => rfl
  | ⟨1, _⟩ => show g.val + 1 * 0 = g.val; omega
  | ⟨2, _⟩ => show 0 + 1 * d.val = d.val; omega
  | ⟨3, _⟩ => show 0 + 1 * x.val = x.val; omega

/-- The new maximum of head `h` for query `j`: the old one and the scores' maximum. -/
theorem stepM_at (x0 : Vec Ideal S1x8x128x512 .bf16) (x1 : Vec Ideal S1024x128 .bf16) (sm : Vec Ideal S8x512 .f32) (h : Fin 8) (j : Fin 512) :
    stepM x0 x1 sm (ix2 h j)
      = max (sm (ix2 h j)) (Finset.fold max (Ideal.ofBits .f32 0xFF800000#32) (fun x : Fin 1024 => headS x0 x1 h (ix2 x j)) Finset.univ) :=
  (congrArg (headM x0 x1 sm h) (inM_ix h j)).trans
    ((newM_at (headS x0 x1 h) _ j).trans (congrArg (max · _) (ldM_at sm h j)))

/-- The new accumulator: the old one scaled down to the new maximum, and this block's weighted values. -/
theorem headA_at (x0 : Vec Ideal S1x8x128x512 .bf16) (x1 : Vec Ideal S1024x128 .bf16) (x2 : Vec Ideal S1x2x80x1024 .bf16) (sm : Vec Ideal S8x512 .f32)
    (sa : Vec Ideal S8x80x512 .f32) (h : Fin 8) (d : Fin 80) (j : Fin 512) :
    headA x0 x1 x2 sm sa h (ix3 (0 : Fin 1) d j)
      = FloatOps.exp2 (F := Ideal) (φ := .f32) (sm (ix2 h j) - stepM x0 x1 sm (ix2 h j)) * sa (ix3 h d j)
        + ∑ x : Fin 1024, x2 (ix4 (0 : Fin 1) (grp h) d x) * FloatOps.exp2 (F := Ideal) (φ := .f32) (headS x0 x1 h (ix2 x j) - stepM x0 x1 sm (ix2 h j)) := by
  refine (newA_at (headS x0 x1 h) _ _ _ d j).trans ?_
  rw [ldM_at, ldA_at, show newM (headS x0 x1 h) (View.ld sm (rectM h) : Vec Ideal S1x512 .f32) (ix2 (0 : Fin 1) j) = stepM x0 x1 sm (ix2 h j) from
    (congrArg (headM x0 x1 sm h) (inM_ix h j)).symm]
  exact congrArg (_ + ·) (Finset.sum_congr rfl fun x _ => congrArg (· * _) (ldV_at x2 (grp h) d x))

theorem stepA_at (x0 : Vec Ideal S1x8x128x512 .bf16) (x1 : Vec Ideal S1024x128 .bf16) (x2 : Vec Ideal S1x2x80x1024 .bf16) (sm : Vec Ideal S8x512 .f32)
    (sa : Vec Ideal S8x80x512 .f32) (h : Fin 8) (d : Fin 80) (j : Fin 512) :
    stepA x0 x1 x2 sm sa (ix3 h d j) = headA x0 x1 x2 sm sa h (ix3 (0 : Fin 1) d j) :=
  congrArg (headA x0 x1 x2 sm sa h) (inA_ix h d j)

end Cert.AttnStep

end
-- ==== Proof.Online.lean ====
/- Softmax over the extended reals, in one pass over blocks of keys and plainly: both are the same weighted sum. -/
module

public import Idealize.ShloMosaic.PureOps.Ideal
public import Idealize.ShloMosaic.Lib.IdealHost

@[expose] public section

noncomputable section

namespace Cert.Online

open Idealize.ShloMosaic

theorem ofBits_neg_inf_f32 : Ideal.ofBits .f32 0xFF800000#32 = ⊥ := by
  unfold Ideal.ofBits Ideal.ieee
  simp

/-- A real number over the logarithm of the format's two. -/
theorem div_log_two (r : ℝ) : Ideal.div (r : EReal) (Ideal.log (Ideal.ofBits .f32 0x40000000#32)) = ((r / Real.log 2 : ℝ) : EReal) := by
  have h2 : Ideal.ofBits .f32 0x40000000#32 = ((2 : ℝ) : EReal) := by
    simp [Ideal.ofBits, Ideal.ieee, -EReal.coe_mul]
    norm_num
  have hl : Real.log 2 ≠ 0 := (Real.log_pos (by norm_num)).ne'
  rw [h2, Ideal.log_coe, if_neg (by norm_num), Ideal.div_coe hl, ← EReal.coe_mul, mul_one_div]

/-- A sum over two halves of 64 of which one is zero. -/
theorem sum_half (g : Fin 2) (f : Fin 2 → Fin 64 → EReal) :
    ∑ d : Fin 128, (if d.val / 64 = g.val then f (⟨d.val / 64, by omega⟩ : Fin 2) (⟨d.val % 64, by omega⟩ : Fin 64) else 0) = ∑ d, f g d := by
  rw [← Equiv.sum_comp (finProdFinEquiv (m := 2) (n := 64)), Fintype.sum_prod_type, Fintype.sum_eq_single g]
  · refine Finset.sum_congr rfl fun d _ => ?_
    have e1 : (d.val + 64 * g.val) / 64 = g.val := by omega
    have e2 : (d.val + 64 * g.val) % 64 = d.val := by omega
    refine (if_pos e1).trans (congrArg₂ f (Fin.ext e1) (Fin.ext e2))
  · intro g' hg
    refine Finset.sum_eq_zero fun d _ => if_neg ?_
    have : g'.val ≠ g.val := fun e => hg (Fin.ext e)
    show ¬ (d.val + 64 * g'.val) / 64 = g.val
    omega

/-- The largest of finitely many real scores is real. -/
theorem fold_real {n : ℕ} [NeZero n] (s : Fin n → ℝ) : ∃ μ : ℝ, Finset.fold max ⊥ (fun k => (s k : EReal)) Finset.univ = (μ : EReal) := by
  obtain ⟨i, -, h⟩ := Finset.exists_mem_eq_sup (Finset.univ : Finset (Fin n)) ⟨0, Finset.mem_univ _⟩ (fun k => (s k : EReal))
  exact ⟨s i, h⟩

/-- A nonnegative real factor goes into a sum. -/
theorem sum_mul_coe {ι : Type} (t : Finset ι) (f : ι → EReal) {r : ℝ} (hr : 0 ≤ r) : (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The accumulator after `n` blocks of keys with scores `s` and values `v`, relative to the maximum `μ`. -/
def acc (n : ℕ) (s : ℕ → Fin 1024 → ℝ) (v : ℕ → Fin 1024 → EReal) (μ : ℝ) : EReal :=
  ∑ i ∈ Finset.range n, ∑ k, v i k * ((Real.rpow 2 (s i k - μ) : ℝ) : EReal)

theorem exp2_sub (a b : ℝ) : Ideal.exp2 ((a : EReal) - (b : EReal)) = ((Real.rpow 2 (a - b) : ℝ) : EReal) := by
  rw [← EReal.coe_sub]; rfl

theorem exp_sub (a b : ℝ) : Ideal.exp ((a : EReal) - (b : EReal)) = ((Real.exp (a - b) : ℝ) : EReal) := by
  rw [← EReal.coe_sub]; rfl

/-- The first block: the maximum becomes real, and the accumulator holds that block's sum. -/
theorem acc_first (s : ℕ → Fin 1024 → ℝ) (v : ℕ → Fin 1024 → EReal) (μ : ℝ) :
    Ideal.exp2 (⊥ - (μ : EReal)) * 0 + ∑ k, v 0 k * Ideal.exp2 ((s 0 k : EReal) - (μ : EReal)) = acc 1 s v μ := by
  rw [mul_zero, zero_add]
  unfold acc
  rw [Finset.sum_range_one]
  exact Finset.sum_congr rfl fun k _ => congrArg (v 0 k * ·) (exp2_sub _ _)

/-- A further block: the accumulator is scaled from the old maximum to the new and gains that block's sum. -/
theorem acc_step (n : ℕ) (s : ℕ → Fin 1024 → ℝ) (v : ℕ → Fin 1024 → EReal) (μ μ' : ℝ) :
    Ideal.exp2 ((μ : EReal) - (μ' : EReal)) * acc n s v μ + ∑ k, v n k * Ideal.exp2 ((s n k : EReal) - (μ' : EReal)) = acc (n + 1) s v μ' := by
  have pos (r : ℝ) : 0 ≤ Real.rpow 2 r := Real.rpow_nonneg (by norm_num) r
  have hm (a : ℝ) : Real.rpow 2 (a - μ) * Real.rpow 2 (μ - μ') = Real.rpow 2 (a - μ') := by
    have := Real.rpow_add (show (0 : ℝ) < 2 by norm_num) (a - μ) (μ - μ')
    rw [show a - μ + (μ - μ') = a - μ' by ring] at this
    exact this.symm
  unfold acc
  rw [Finset.sum_range_succ, exp2_sub, mul_comm, sum_mul_coe _ _ (pos _)]
  congr 1
  · refine Finset.sum_congr rfl fun i _ => ?_
    rw [sum_mul_coe _ _ (pos _)]
    refine Finset.sum_congr rfl fun k _ => ?_
    rw [mul_assoc, ← EReal.coe_mul, hm]
  all_goals exact Finset.sum_congr rfl fun k _ => congrArg (v n k * ·) (exp2_sub _ _)

/-- Key `k` of block `i`. -/
def key (i : ℕ) (k : Fin 1024) : Fin 8192 := ⟨(i * 1024 + k.val) % 8192, Nat.mod_lt _ (by norm_num)⟩

/-- The eight blocks hold every key once. -/
theorem sum_keys {M : Type} [AddCommMonoid M] (f : Fin 8192 → M) : ∑ i ∈ Finset.range 8, ∑ k, f (key i k) = ∑ x, f x := by
  rw [Finset.sum_range (fun i => ∑ k, f (key i k)), ← Fintype.sum_prod_type' (fun (i : Fin 8) (k : Fin 1024) => f (key i.val k))]
  refine Fintype.sum_equiv (finProdFinEquiv (m := 8) (n := 1024)) _ _ fun p => congrArg f (Fin.ext ?_)
  have h1 := p.1.isLt; have h2 := p.2.isLt
  show (p.1.val * 1024 + p.2.val) % 8192 = p.2.val + 1024 * p.1.val
  omega

theorem scale₁ {e p S : ℝ} (hS : S ≠ 0) (hp : p ≠ 0) : e * p * (1 / (S * p)) = e / S := by field_simp

theorem scale₂ {e p S : ℝ} (hp : p ≠ 0) (hS : S ≠ 0) : e / p * (1 / (S / p)) = e / S := by field_simp

/-- The values weighted by the softmax of the real scores `x`. -/
def soft (x : Fin 8192 → ℝ) (v : Fin 8192 → EReal) : EReal :=
  ∑ k, v k * ((Real.exp (x k) / ∑ y, Real.exp (x y) : ℝ) : EReal)

theorem sum_exp_pos (x : Fin 8192 → ℝ) : 0 < ∑ y, Real.exp (x y) :=
  Finset.sum_pos (fun _ _ => Real.exp_pos _) ⟨0, Finset.mem_univ _⟩

/-- The quotient of the one-pass accumulators is the softmax's weighted sum. -/
theorem quotient (x : Fin 8192 → ℝ) (v : Fin 8192 → EReal) (μ : ℝ) :
    Ideal.div (acc 8 (fun i k => x (key i k) / Real.log 2) (fun i k => v (key i k)) μ) (acc 8 (fun i k => x (key i k) / Real.log 2) (fun _ _ => 1) μ) = soft x v := by
  have two : (0 : ℝ) < 2 := by norm_num
  have hlog : Real.log 2 ≠ 0 := (Real.log_pos (by norm_num)).ne'
  have he (a : ℝ) : Real.rpow 2 (a / Real.log 2 - μ) = Real.exp a * Real.rpow 2 (-μ) := by
    show (2 : ℝ) ^ (a / Real.log 2 - μ) = Real.exp a * (2 : ℝ) ^ (-μ)
    rw [sub_eq_add_neg, Real.rpow_add two, Real.rpow_def_of_pos two, mul_div_cancel₀ _ hlog]
  have hp : 0 < Real.rpow 2 (-μ) := Real.rpow_pos_of_pos two _
  have hs := sum_exp_pos x
  have hL : acc 8 (fun i k => x (key i k) / Real.log 2) (fun _ _ => 1) μ = (((∑ y, Real.exp (x y)) * Real.rpow 2 (-μ) : ℝ) : EReal) := by
    unfold acc
    rw [Finset.sum_mul, coe_sum]
    refine Eq.trans ?_ (sum_keys fun y => ((Real.exp (x y) * Real.rpow 2 (-μ) : ℝ) : EReal))
    exact Finset.sum_congr rfl fun i _ => Finset.sum_congr rfl fun k _ => by rw [one_mul, he]
  have hA : acc 8 (fun i k => x (key i k) / Real.log 2) (fun i k => v (key i k)) μ = ∑ y, v y * ((Real.exp (x y) * Real.rpow 2 (-μ) : ℝ) : EReal) := by
    unfold acc
    refine Eq.trans ?_ (sum_keys fun y => v y * ((Real.exp (x y) * Real.rpow 2 (-μ) : ℝ) : EReal))
    exact Finset.sum_congr rfl fun i _ => Finset.sum_congr rfl fun k _ => by rw [he]
  rw [hL, hA, Ideal.div_coe (mul_pos hs hp).ne', sum_mul_coe _ _ (one_div_nonneg.mpr (mul_pos hs hp).le)]
  refine Finset.sum_congr rfl fun y _ => ?_
  rw [mul_assoc, ← EReal.coe_mul]
  exact congrArg (fun r : ℝ => v y * (r : EReal)) (scale₁ hs.ne' hp.ne')

/-- The plain softmax, with its scores reduced by their maximum first, is the same weighted sum. -/
theorem plain (x : Fin 8192 → ℝ) (v : Fin 8192 → EReal) (m : EReal) (hm : m = max ⊥ (Finset.fold max ⊥ (fun k => (x k : EReal)) Finset.univ)) :
    ∑ k, v k * Ideal.div (Ideal.exp ((x k : EReal) - m)) (∑ y, Ideal.exp ((x y : EReal) - m)) = soft x v := by
  obtain ⟨μ, h⟩ := fold_real x
  rw [h, max_eq_right bot_le] at hm
  subst hm
  have hs : 0 < ∑ y, Real.exp (x y - μ) := Finset.sum_pos (fun _ _ => Real.exp_pos _) ⟨0, Finset.mem_univ _⟩
  have hs' := sum_exp_pos x
  have hsum : ∑ y, Ideal.exp ((x y : EReal) - (μ : EReal)) = ((∑ y, Real.exp (x y - μ) : ℝ) : EReal) := by
    rw [coe_sum]; exact Finset.sum_congr rfl fun y _ => exp_sub _ _
  have hsum' : ∑ y, Real.exp (x y - μ) = (∑ y, Real.exp (x y)) / Real.exp μ := by
    rw [Finset.sum_div]; exact Finset.sum_congr rfl fun y _ => Real.exp_sub _ _
  rw [hsum]
  refine Finset.sum_congr rfl fun k _ => ?_
  rw [Ideal.div_coe hs.ne', exp_sub, ← EReal.coe_mul, hsum', Real.exp_sub]
  exact congrArg (fun r : ℝ => v k * (r : EReal)) (scale₂ (Real.exp_pos μ).ne' hs'.ne')

end Cert.Online

end
-- ==== Proof.Score.lean ====
/- The attention scores of real queries and keys. -/
module

public import proofs.«01_k».proof.Proof.Online
public import Idealize.ShloMosaic.Lib.Pipeline.ValueKit

@[expose] public section

noncomputable section

namespace Cert.Online

open Idealize.ShloMosaic

/-- The score of key `t` for query `s` of batch `b`, key head `g` and its query head `r`. -/
def score (q : (⟨5, ![4, 8192, 2, 4, 64]⟩ : Shape).Idx → ℝ) (k : (⟨4, ![4, 8192, 2, 64]⟩ : Shape).Idx → ℝ) (b : Fin 4) (g : Fin 2) (r : Fin 4) (s t : Fin 8192) : ℝ :=
  ∑ d : Fin 64, k (ix4 b t g d) * q (ix5 b s g r d)

end Cert.Online

end
-- ==== Proof.AttnBlocks.lean ====
/- The blocks a grid point of the attention kernel reads, over the arguments, and the scores it computes from them. -/
module

public import proofs.«01_k».proof.Proof.AttnHost
public import proofs.«01_k».proof.Proof.AttnAt
public import proofs.«01_k».proof.Proof.Score

@[expose] public section

set_option maxRecDepth 16384

noncomputable section

namespace Cert.AttnHost

open Cert.AttnIdeal Cert.AttnIdeal.Gen
open Idealize.ShloMosaic Idealize.ShloMosaic.TcCoe Idealize.SL.Sem

variable (m : (ℓ : Loc nD τ sig) → Buf (Elt Ideal) ℓ) (c : Dev nD)

/-- Point `t` is key block `t % 8` of query block `t / 8 % 16` of batch `t / 128`. -/
theorem idx : ∀ t : Fin cfg0.N, win0_0.index t = ![t.val / 128, 0, 0, t.val / 8 % 16] ∧ win0_1.index t = ![t.val / 128 * 8 + t.val % 8, 0]
    ∧ win0_2.index t = ![t.val / 128, 0, 0, t.val % 8] := (by decide +kernel : ∀ t : Fin grid0.N, _)

theorem lt512 (t : Fin cfg0.N) : t.val < 512 := lt_of_lt_of_eq t.isLt N_0

abbrev batch (t : Fin cfg0.N) : Fin 4 := ⟨t.val / 128, by have := lt512 t; omega⟩
abbrev query (t : Fin cfg0.N) (j : Fin 512) : Fin 8192 := ⟨t.val / 8 % 16 * 512 + j.val, by omega⟩

theorem blkQ (t : Fin cfg0.N) (h : Fin 8) (d : Fin 128) (j : Fin 512) :
    (show FVec Ideal S1x8x128x512 .bf16 from iblk m c 0 t) (ix4 (0 : Fin 1) h d j)
      = (show FVec Ideal S4x8x128x8192 .bf16 from V m c main_v12) (ix4 (batch t) h d (query t j)) := by
  blk_ext [iblk, idx t]

theorem blkK (t : Fin cfg0.N) (x : Fin 1024) (d : Fin 128) :
    (show FVec Ideal S1024x128 .bf16 from iblk m c 1 t) (ix2 x d)
      = (show FVec Ideal S32768x128 .bf16 from V m c main_v14)
          (ix2 (⟨(batch t).val * 8192 + (Online.key (t.val % 8) x).val, by omega⟩ : Fin 32768) d) := by
  have := lt512 t
  have hk : (Online.key (t.val % 8) x).val = t.val % 8 * 1024 + x.val := Nat.mod_eq_of_lt (by omega)
  simp only [hk]
  blk_ext [iblk, idx t]

theorem blkV (t : Fin cfg0.N) (g : Fin 2) (d : Fin 80) (x : Fin 1024) :
    (show FVec Ideal S1x2x80x1024 .bf16 from iblk m c 2 t) (ix4 (0 : Fin 1) g d x)
      = (show FVec Ideal S4x2x80x8192 .bf16 from V m c main_v20) (ix4 (batch t) g d (Online.key (t.val % 8) x)) := by
  have hk : Online.key (t.val % 8) x = ⟨t.val % 8 * 1024 + x.val, by omega⟩ := Fin.ext (Nat.mod_eq_of_lt (by omega))
  rw [hk]
  blk_ext [iblk, idx t]

/-- The scores point `t` computes where queries and keys are real: the attention's, over `log 2`. -/
theorem score_at (qr : S4x8192x2x4x64.Idx → ℝ) (kr : S4x8192x2x64.Idx → ℝ) (hq : ∀ i, Q m c i = (qr i : EReal)) (hk : ∀ i, K m c i = (kr i : EReal))
    (t : Fin cfg0.N) (h : Fin 8) (x : Fin 1024) (j : Fin 512) :
    AttnStep.headS (F := Ideal) (iblk m c 0 t) (iblk m c 1 t) h (ix2 x j)
      = ((Online.score qr kr (batch t) (⟨h.val / 4, by omega⟩ : Fin 2) (⟨h.val % 4, by omega⟩ : Fin 4) (query t j) (Online.key (t.val % 8) x) / Real.log 2 : ℝ) : EReal) := by
  refine (AttnStep.headS_at _ _ h x j).trans ?_
  have hterm (d : Fin 128) : (show FVec Ideal S1024x128 .bf16 from iblk m c 1 t) (ix2 x d) * (show FVec Ideal S1x8x128x512 .bf16 from iblk m c 0 t) (ix4 (0 : Fin 1) h d j)
      = if d.val / 64 = h.val / 4 then
          ((fun (g : Fin 2) (e : Fin 64) => ((kr (ix4 (batch t) (Online.key (t.val % 8) x) g e)
            * (qr (ix5 (batch t) (query t j) (⟨h.val / 4, by omega⟩ : Fin 2) (⟨h.val % 4, by omega⟩ : Fin 4) e) / Real.log 2) : ℝ) : EReal))
            (⟨d.val / 64, by omega⟩ : Fin 2) (⟨d.val % 64, by omega⟩ : Fin 64))
        else 0 := by
    refine (congrArg₂ (fun a b : EReal => a * b) ((blkK m c t x d).trans (k_at m c (batch t) (Online.key (t.val % 8) x) d))
      ((blkQ m c t h d j).trans (q_at m c (batch t) h d (query t j)))).trans ?_
    by_cases e : d.val / 64 = h.val / 4
    · rw [if_pos e, if_pos e, hk, hq, Online.div_log_two, ← EReal.coe_mul]
    · rw [if_neg e, if_neg e, mul_zero]
  refine (Finset.sum_congr rfl fun d _ => hterm d).trans ?_
  refine (Online.sum_half (⟨h.val / 4, by omega⟩ : Fin 2) (fun (g : Fin 2) (e : Fin 64) => ((kr (ix4 (batch t) (Online.key (t.val % 8) x) g e)
    * (qr (ix5 (batch t) (query t j) (⟨h.val / 4, by omega⟩ : Fin 2) (⟨h.val % 4, by omega⟩ : Fin 4) e) / Real.log 2) : ℝ) : EReal))).trans ?_
  unfold Online.score
  rw [Finset.sum_div, Online.coe_sum]
  exact Finset.sum_congr rfl fun d _ => congrArg (fun r : ℝ => (r : EReal)) (mul_div_assoc _ _ _).symm

end Cert.AttnHost

end
-- ==== Proof.AttnCaseA.lean ====
/- The first grid point of a run: it leaves in the scratches the step from the constants it stores first. -/
module

public import proofs.«01_k».proof.Proof.AttnStep

@[expose] public section

noncomputable section

namespace Cert.AttnStep

open Cert.AttnIdeal Cert.AttnIdeal.Gen
open Idealize.ShloMosaic Idealize.ShloMosaic.TcCoe Idealize.SL.Sem

variable {F : FTy → Type} [FloatOps F]
variable (c : Dev nD) (i : grid0.Coords) (arg3 : Memref sig .tc .vmem S1x8x128x512 .bf16) (harg3 : arg3.IsWhole) (arg4 : Memref sig .tc .vmem S1024x128 .bf16) (harg4 : arg4.IsWhole)
    (arg5 : Memref sig .tc .vmem S1x2x80x1024 .bf16) (harg5 : arg5.IsWhole) (arg6 : Memref sig .tc .vmem S512x512 .bf16) (harg6 : arg6.IsWhole)
    (arg7 : Memref sig .tc .vmem S8x512 .f32) (harg7 : arg7.IsWhole) (arg8 : Memref sig .tc .vmem S8x80x512 .f32) (harg8 : arg8.IsWhole)
  (x0 : Vec F S1x8x128x512 .bf16) (x1 : Vec F S1024x128 .bf16) (x2 : Vec F S1x2x80x1024 .bf16)

/-- The point leaves in the maxima' scratch the step's maxima. -/
theorem soutA0 (hc0 : cond0_0 i) (hc1 : ¬cond0_1 i) :
    sout0_A_0 c i arg3 harg3 arg4 harg4 arg5 harg5 arg6 harg6 arg7 harg7 arg8 harg8 hc0 hc1 x0 x1 x2 = stepM x0 x1 (k0_pay10 (F := F)) := by
  have e1 : ∀ inb, View.ld x1 (Rect.unit (s := S1024x128) ![0, 0] ![1024, 128] inb) = x1 := fun inb => View.ld_unit_zero (S := S1024x128) zero2 inb x1
  funext y
  unfold sout0_A_0
  rw [View.read_writes_eq_canon _ _ _ (scover0_A_0 c i arg3 harg3 arg4 harg4 arg5 harg5 arg6 harg6 arg7 harg7 arg8 harg8 hc0 hc1 x0 x1 x2)]
  unfold kernelRun0_A
  dsimp only
  refine canonM (headM x0 x1 (k0_pay10 (F := F))) _ y ?_ ?_ ?_ ?_ ?_ ?_ ?_ ?_
  all_goals
    sl_unfold_words
    simp (disch := decide) only [↓View.readCov_skip, ↓View.readCov_fill]
    simp only [View.readAt_eq_ld, harg3.read_unread, harg4.read_unread, harg5.read_unread, harg7.read_unread, harg8.read_unread, e1]
    simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, shapeCast_self]
    rfl

/-- The point leaves in the accumulators' scratch the step's accumulators. -/
theorem soutA1 (hc0 : cond0_0 i) (hc1 : ¬cond0_1 i) :
    sout0_A_1 c i arg3 harg3 arg4 harg4 arg5 harg5 arg6 harg6 arg7 harg7 arg8 harg8 hc0 hc1 x0 x1 x2 = stepA x0 x1 x2 (k0_pay10 (F := F)) (k0_pay11 (F := F)) := by
  have e1 : ∀ inb, View.ld x1 (Rect.unit (s := S1024x128) ![0, 0] ![1024, 128] inb) = x1 := fun inb => View.ld_unit_zero (S := S1024x128) zero2 inb x1
  funext y
  unfold sout0_A_1
  rw [View.read_writes_eq_canon _ _ _ (scover0_A_1 c i arg3 harg3 arg4 harg4 arg5 harg5 arg6 harg6 arg7 harg7 arg8 harg8 hc0 hc1 x0 x1 x2)]
  unfold kernelRun0_A
  dsimp only
  refine canonA (headA x0 x1 x2 (k0_pay10 (F := F)) (k0_pay11 (F := F))) _ y ?_ ?_ ?_ ?_ ?_ ?_ ?_ ?_
  all_goals
    sl_unfold_words
    simp (disch := decide) only [↓View.readCov_skip, ↓View.readCov_fill]
    simp only [View.readAt_eq_ld, harg3.read_unread, harg4.read_unread, harg5.read_unread, harg7.read_unread, harg8.read_unread, e1]
    simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, shapeCast_self]
    rfl

end Cert.AttnStep

end
-- ==== Proof.AttnCaseB.lean ====
/- The grid points between a run's first and last: they leave in the scratches the step over what these held. -/
module

public import proofs.«01_k».proof.Proof.AttnStep

@[expose] public section

noncomputable section

namespace Cert.AttnStep

open Cert.AttnIdeal Cert.AttnIdeal.Gen
open Idealize.ShloMosaic Idealize.ShloMosaic.TcCoe Idealize.SL.Sem

variable {F : FTy → Type} [FloatOps F]
variable (c : Dev nD) (i : grid0.Coords) (arg3 : Memref sig .tc .vmem S1x8x128x512 .bf16) (harg3 : arg3.IsWhole) (arg4 : Memref sig .tc .vmem S1024x128 .bf16) (harg4 : arg4.IsWhole)
    (arg5 : Memref sig .tc .vmem S1x2x80x1024 .bf16) (harg5 : arg5.IsWhole) (arg6 : Memref sig .tc .vmem S512x512 .bf16) (harg6 : arg6.IsWhole)
    (arg7 : Memref sig .tc .vmem S8x512 .f32) (harg7 : arg7.IsWhole) (arg8 : Memref sig .tc .vmem S8x80x512 .f32) (harg8 : arg8.IsWhole)
  (x0 : Vec F S1x8x128x512 .bf16) (x1 : Vec F S1024x128 .bf16) (x2 : Vec F S1x2x80x1024 .bf16) (xs0 : Vec F S8x512 .f32) (xs1 : Vec F S8x80x512 .f32)

/-- The point leaves in the maxima' scratch the step's maxima. -/
theorem soutB0 (hc0 : ¬cond0_0 i) (hc1 : ¬cond0_1 i) :
    sout0_B_0 c i arg3 harg3 arg4 harg4 arg5 harg5 arg6 harg6 arg7 harg7 arg8 harg8 hc0 hc1 x0 x1 x2 xs0 xs1 = stepM x0 x1 xs0 := by
  have e1 : ∀ inb, View.ld x1 (Rect.unit (s := S1024x128) ![0, 0] ![1024, 128] inb) = x1 := fun inb => View.ld_unit_zero (S := S1024x128) zero2 inb x1
  funext y
  unfold sout0_B_0
  rw [View.read_writes_eq_canon _ _ _ (scover0_B_0 c i arg3 harg3 arg4 harg4 arg5 harg5 arg6 harg6 arg7 harg7 arg8 harg8 hc0 hc1 x0 x1 x2 xs0 xs1)]
  unfold kernelRun0_B
  dsimp only
  refine canonM (headM x0 x1 xs0) _ y ?_ ?_ ?_ ?_ ?_ ?_ ?_ ?_
  all_goals
    sl_unfold_words
    simp only [View.readAt_eq_ld, harg3.read_unread, harg4.read_unread, harg5.read_unread, harg7.read_unread, harg8.read_unread, e1]
    simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, shapeCast_self]
    rfl

/-- The point leaves in the accumulators' scratch the step's accumulators. -/
theorem soutB1 (hc0 : ¬cond0_0 i) (hc1 : ¬cond0_1 i) :
    sout0_B_1 c i arg3 harg3 arg4 harg4 arg5 harg5 arg6 harg6 arg7 harg7 arg8 harg8 hc0 hc1 x0 x1 x2 xs0 xs1 = stepA x0 x1 x2 xs0 xs1 := by
  have e1 : ∀ inb, View.ld x1 (Rect.unit (s := S1024x128) ![0, 0] ![1024, 128] inb) = x1 := fun inb => View.ld_unit_zero (S := S1024x128) zero2 inb x1
  funext y
  unfold sout0_B_1
  rw [View.read_writes_eq_canon _ _ _ (scover0_B_1 c i arg3 harg3 arg4 harg4 arg5 harg5 arg6 harg6 arg7 harg7 arg8 harg8 hc0 hc1 x0 x1 x2 xs0 xs1)]
  unfold kernelRun0_B
  dsimp only
  refine canonA (headA x0 x1 x2 xs0 xs1) _ y ?_ ?_ ?_ ?_ ?_ ?_ ?_ ?_
  all_goals
    sl_unfold_words
    simp only [View.readAt_eq_ld, harg3.read_unread, harg4.read_unread, harg5.read_unread, harg7.read_unread, harg8.read_unread, e1]
    simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, shapeCast_self]
    rfl

end Cert.AttnStep

end
-- ==== Proof.AttnCaseC.lean ====
/- The last grid point of a run: it leaves in the scratches the step over what these held, and in the output block the quotients. -/
module

public import proofs.«01_k».proof.Proof.AttnStep

@[expose] public section

noncomputable section

namespace Cert.AttnStep

open Cert.AttnIdeal Cert.AttnIdeal.Gen
open Idealize.ShloMosaic Idealize.ShloMosaic.TcCoe Idealize.SL.Sem

variable {F : FTy → Type} [FloatOps F]
variable (c : Dev nD) (i : grid0.Coords) (arg3 : Memref sig .tc .vmem S1x8x128x512 .bf16) (harg3 : arg3.IsWhole) (arg4 : Memref sig .tc .vmem S1024x128 .bf16) (harg4 : arg4.IsWhole)
    (arg5 : Memref sig .tc .vmem S1x2x80x1024 .bf16) (harg5 : arg5.IsWhole) (arg6 : Memref sig .tc .vmem S512x512 .bf16) (harg6 : arg6.IsWhole)
    (arg7 : Memref sig .tc .vmem S8x512 .f32) (harg7 : arg7.IsWhole) (arg8 : Memref sig .tc .vmem S8x80x512 .f32) (harg8 : arg8.IsWhole)
  (x0 : Vec F S1x8x128x512 .bf16) (x1 : Vec F S1024x128 .bf16) (x2 : Vec F S1x2x80x1024 .bf16) (xs0 : Vec F S8x512 .f32) (xs1 : Vec F S8x80x512 .f32)

/-- The point leaves in the maxima' scratch the step's maxima. -/
theorem soutC0 (hc0 : ¬cond0_0 i) (hc1 : cond0_1 i) :
    sout0_C_0 c i arg3 harg3 arg4 harg4 arg5 harg5 arg6 harg6 arg7 harg7 arg8 harg8 hc0 hc1 x0 x1 x2 xs0 xs1 = stepM x0 x1 xs0 := by
  have e1 : ∀ inb, View.ld x1 (Rect.unit (s := S1024x128) ![0, 0] ![1024, 128] inb) = x1 := fun inb => View.ld_unit_zero (S := S1024x128) zero2 inb x1
  funext y
  unfold sout0_C_0
  rw [View.read_writes_eq_canon _ _ _ (scover0_C_0 c i arg3 harg3 arg4 harg4 arg5 harg5 arg6 harg6 arg7 harg7 arg8 harg8 hc0 hc1 x0 x1 x2 xs0 xs1)]
  unfold kernelRun0_C
  dsimp only
  refine canonM (headM x0 x1 xs0) _ y ?_ ?_ ?_ ?_ ?_ ?_ ?_ ?_
  all_goals
    sl_unfold_words
    simp only [View.readAt_eq_ld, harg3.read_unread, harg4.read_unread, harg5.read_unread, harg7.read_unread, harg8.read_unread, e1]
    simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, shapeCast_self]
    rfl

/-- The point leaves in the accumulators' scratch the step's accumulators. -/
theorem soutC1 (hc0 : ¬cond0_0 i) (hc1 : cond0_1 i) :
    sout0_C_1 c i arg3 harg3 arg4 harg4 arg5 harg5 arg6 harg6 arg7 harg7 arg8 harg8 hc0 hc1 x0 x1 x2 xs0 xs1 = stepA x0 x1 x2 xs0 xs1 := by
  have e1 : ∀ inb, View.ld x1 (Rect.unit (s := S1024x128) ![0, 0] ![1024, 128] inb) = x1 := fun inb => View.ld_unit_zero (S := S1024x128) zero2 inb x1
  funext y
  unfold sout0_C_1
  rw [View.read_writes_eq_canon _ _ _ (scover0_C_1 c i arg3 harg3 arg4 harg4 arg5 harg5 arg6 harg6 arg7 harg7 arg8 harg8 hc0 hc1 x0 x1 x2 xs0 xs1)]
  unfold kernelRun0_C
  dsimp only
  refine canonA (headA x0 x1 x2 xs0 xs1) _ y ?_ ?_ ?_ ?_ ?_ ?_ ?_ ?_
  all_goals
    sl_unfold_words
    simp only [View.readAt_eq_ld, harg3.read_unread, harg4.read_unread, harg5.read_unread, harg7.read_unread, harg8.read_unread, e1]
    simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, shapeCast_self]
    rfl

/-- The point leaves in the output block the quotients of the accumulators it has just stored. -/
theorem outC (hc0 : ¬cond0_0 i) (hc1 : cond0_1 i) :
    out0_C_3 c i arg3 harg3 arg4 harg4 arg5 harg5 arg6 harg6 arg7 harg7 arg8 harg8 hc0 hc1 x0 x1 x2 xs0 xs1 = outOf (headA x0 x1 x2 xs0 xs1) := by
  have e1 : ∀ inb, View.ld x1 (Rect.unit (s := S1024x128) ![0, 0] ![1024, 128] inb) = x1 := fun inb => View.ld_unit_zero (S := S1024x128) zero2 inb x1
  unfold out0_C_3
  rw [View.read_writes_eq_canon _ _ _ (cover0_C_3 c i arg3 harg3 arg4 harg4 arg5 harg5 arg6 harg6 arg7 harg7 arg8 harg8 hc0 hc1 x0 x1 x2 xs0 xs1)]
  unfold kernelRun0_C
  dsimp only
  sl_unfold_words
  simp (disch := decide) only [↓View.readCov_skip, ↓View.readCov_cons_toLoadRect, ↓View.readCov_fill]
  simp only [View.readAt_eq_ld, harg3.read_unread, harg4.read_unread, harg5.read_unread, harg7.read_unread, harg8.read_unread, e1]
  rw [View.canon_unit_zero zero2]
  simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, shapeCast_self]
  rfl

end Cert.AttnStep

end
-- ==== Proof.AttnRun.lean ====
/- A run of eight grid points of the attention kernel: the scratches hold the one-pass softmax of the key blocks read so far, and the last
   point writes the softmax's weighted sum of the values. -/
module

public import proofs.«01_k».proof.Proof.AttnBlocks
public import proofs.«01_k».proof.Proof.AttnCaseA
public import proofs.«01_k».proof.Proof.AttnCaseB
public import proofs.«01_k».proof.Proof.AttnCaseC

@[expose] public section

set_option maxRecDepth 16384

noncomputable section

namespace Cert.AttnHost

open Cert.AttnIdeal Cert.AttnIdeal.Gen Cert.AttnStep
open Idealize.ShloMosaic Idealize.ShloMosaic.TcCoe Idealize.SL.Sem

variable (m : (ℓ : Loc nD τ sig) → Buf (Elt Ideal) ℓ) (c : Dev nD)
variable (qr : S4x8192x2x4x64.Idx → ℝ) (kr : S4x8192x2x64.Idx → ℝ)

/-- Point `n` of run `r`. -/
abbrev pt (r : Fin 64) (n : ℕ) (hn : n < 8) : Fin cfg0.N := ⟨8 * r.val + n, lt_of_lt_of_eq (by omega) N_0.symm⟩
abbrev rb (r : Fin 64) : Fin 4 := ⟨r.val / 16, by omega⟩
abbrev rq (r : Fin 64) (j : Fin 512) : Fin 8192 := ⟨r.val % 16 * 512 + j.val, by omega⟩

/-- Run `r`'s scores over `log 2` for query `j` of head `h`, by key block and place. -/
def sc (r : Fin 64) (h : Fin 8) (j : Fin 512) : ℕ → Fin 1024 → ℝ := fun i k =>
  Online.score qr kr (rb r) (⟨h.val / 4, by omega⟩ : Fin 2) (⟨h.val % 4, by omega⟩ : Fin 4) (rq r j) (Online.key i k) / Real.log 2

/-- Run `r`'s row `d` of the prepared values for head `h`, by key block and place. -/
def vl (r : Fin 64) (h : Fin 8) (d : Fin 80) : ℕ → Fin 1024 → EReal := fun i k =>
  (show FVec Ideal S4x2x80x8192 .bf16 from V m c main_v20) (ix4 (rb r) (grp h) d (Online.key i k))

theorem batch_pt (r : Fin 64) (n : ℕ) (hn : n < 8) : batch (pt r n hn) = rb r := Fin.ext (by show (8 * r.val + n) / 128 = r.val / 16; omega)
theorem query_pt (r : Fin 64) (n : ℕ) (hn : n < 8) (j : Fin 512) : query (pt r n hn) j = rq r j :=
  Fin.ext (by show (8 * r.val + n) / 8 % 16 * 512 + j.val = r.val % 16 * 512 + j.val; omega)
theorem mod_pt (r : Fin 64) (n : ℕ) (hn : n < 8) : (pt r n hn).val % 8 = n := by show (8 * r.val + n) % 8 = n; omega

variable {qr kr}

theorem sc_pt (hq : ∀ i, Q m c i = (qr i : EReal)) (hk : ∀ i, K m c i = (kr i : EReal)) (r : Fin 64) (n : ℕ) (hn : n < 8) (h : Fin 8) (x : Fin 1024) (j : Fin 512) :
    headS (F := Ideal) (iblk m c 0 (pt r n hn)) (iblk m c 1 (pt r n hn)) h (ix2 x j) = ((sc qr kr r h j n x : ℝ) : EReal) := by
  refine (score_at m c qr kr hq hk (pt r n hn) h x j).trans ?_
  rw [batch_pt, query_pt, mod_pt]
  rfl

theorem vl_pt (r : Fin 64) (n : ℕ) (hn : n < 8) (h : Fin 8) (d : Fin 80) (x : Fin 1024) :
    (show FVec Ideal S1x2x80x1024 .bf16 from iblk m c 2 (pt r n hn)) (ix4 (0 : Fin 1) (grp h) d x) = vl m c r h d n x := by
  refine (blkV m c (pt r n hn) (grp h) d x).trans ?_
  rw [batch_pt, mod_pt]
  rfl

/-- What the scratches hold for head `h` and query `j` after `n` key blocks of run `r`: some real maximum and the accumulators relative to it. -/
def Holds (qr : S4x8192x2x4x64.Idx → ℝ) (kr : S4x8192x2x64.Idx → ℝ) (r : Fin 64) (n : ℕ) (h : Fin 8) (j : Fin 512) (M : EReal) (A : Fin 80 → EReal) : Prop :=
  ∃ μ : ℝ, M = (μ : EReal) ∧ ∀ d, A d = Online.acc n (sc qr kr r h j) (vl m c r h d) μ

/-- The run's first point, over the reset scratches. -/
theorem holds_first (hq : ∀ i, Q m c i = (qr i : EReal)) (hk : ∀ i, K m c i = (kr i : EReal)) (r : Fin 64) (h : Fin 8) (j : Fin 512) :
    Holds m c qr kr r 1 h j (stepM (F := Ideal) (iblk m c 0 (pt r 0 (by omega))) (iblk m c 1 (pt r 0 (by omega))) (k0_pay10 (F := Ideal)) (ix2 h j))
      (fun d => headA (F := Ideal) (iblk m c 0 (pt r 0 (by omega))) (iblk m c 1 (pt r 0 (by omega))) (iblk m c 2 (pt r 0 (by omega))) (k0_pay10 (F := Ideal)) (k0_pay11 (F := Ideal)) h (ix3 (0 : Fin 1) d j)) := by
  obtain ⟨ν, hν⟩ := Online.fold_real (sc qr kr r h j 0)
  have h10 : (k0_pay10 (F := Ideal)) (ix2 h j) = ⊥ := by
    refine Eq.trans ?_ Online.ofBits_neg_inf_f32
    pointwise [k0_pay10]
  have h11 (d : Fin 80) : (k0_pay11 (F := Ideal)) (ix3 h d j) = 0 := by
    pointwise [k0_pay11]
  have hM := stepM_at (iblk m c 0 (pt r 0 (by omega))) (iblk m c 1 (pt r 0 (by omega))) (k0_pay10 (F := Ideal)) h j
  rw [h10, Online.ofBits_neg_inf_f32] at hM
  have hM' := hM.trans ((congrArg (fun f : Fin 1024 → EReal => max ⊥ (Finset.fold max ⊥ f Finset.univ)) (funext fun x => sc_pt m c hq hk r 0 (by omega) h x j)).trans
    ((congrArg (max ⊥ ·) hν).trans (max_eq_right bot_le)))
  refine ⟨ν, hM', fun d => ?_⟩
  refine (headA_at _ _ _ (k0_pay10 (F := Ideal)) (k0_pay11 (F := Ideal)) h d j).trans ?_
  rw [hM', h10, h11]
  refine Eq.trans ?_ (Online.acc_first (sc qr kr r h j) (vl m c r h d) ν)
  refine congrArg (Ideal.exp2 (⊥ - (ν : EReal)) * 0 + ·) (Finset.sum_congr rfl fun x _ => ?_)
  exact congrArg₂ (fun a b : EReal => a * Ideal.exp2 (b - (ν : EReal))) (vl_pt m c r 0 (by omega) h d x) (sc_pt m c hq hk r 0 (by omega) h x j)

/-- A further point, over scratches that hold the blocks before it. -/
theorem holds_step (hq : ∀ i, Q m c i = (qr i : EReal)) (hk : ∀ i, K m c i = (kr i : EReal)) (r : Fin 64) (n : ℕ) (hn : n < 8) (h : Fin 8) (j : Fin 512)
    (sm : Vec Ideal S8x512 .f32) (sa : Vec Ideal S8x80x512 .f32) (H : Holds m c qr kr r n h j (sm (ix2 h j)) (fun d => sa (ix3 h d j))) :
    Holds m c qr kr r (n + 1) h j (stepM (F := Ideal) (iblk m c 0 (pt r n hn)) (iblk m c 1 (pt r n hn)) sm (ix2 h j))
      (fun d => headA (F := Ideal) (iblk m c 0 (pt r n hn)) (iblk m c 1 (pt r n hn)) (iblk m c 2 (pt r n hn)) sm sa h (ix3 (0 : Fin 1) d j)) := by
  obtain ⟨μ, hμ, hA⟩ := H
  obtain ⟨ν, hν⟩ := Online.fold_real (sc qr kr r h j n)
  have hM := stepM_at (iblk m c 0 (pt r n hn)) (iblk m c 1 (pt r n hn)) sm h j
  rw [hμ, Online.ofBits_neg_inf_f32] at hM
  have hM' := hM.trans ((congrArg (fun f : Fin 1024 → EReal => max (μ : EReal) (Finset.fold max ⊥ f Finset.univ)) (funext fun x => sc_pt m c hq hk r n hn h x j)).trans
    ((congrArg (max (μ : EReal) ·) hν).trans (EReal.coe_strictMono.monotone.map_max (a := μ) (b := ν)).symm))
  refine ⟨max μ ν, hM', fun d => ?_⟩
  refine (headA_at _ _ _ sm sa h d j).trans ?_
  rw [hM', hμ, show sa (ix3 h d j) = _ from hA d]
  refine Eq.trans ?_ (Online.acc_step n (sc qr kr r h j) (vl m c r h d) μ (max μ ν))
  refine congrArg (Ideal.exp2 ((μ : EReal) - ((max μ ν : ℝ) : EReal)) * Online.acc n (sc qr kr r h j) (vl m c r h d) μ + ·) (Finset.sum_congr rfl fun x _ => ?_)
  exact congrArg₂ (fun a b : EReal => a * Ideal.exp2 (b - ((max μ ν : ℝ) : EReal))) (vl_pt m c r n hn h d x) (sc_pt m c hq hk r n hn h x j)

/-- After point `n` of run `r` the scratches hold its key blocks. -/
theorem holds_run (hq : ∀ i, Q m c i = (qr i : EReal)) (hk : ∀ i, K m c i = (kr i : EReal)) (r : Fin 64) (h : Fin 8) (j : Fin 512) :
    ∀ (n : ℕ) (hn : n < 7), Holds m c qr kr r (n + 1) h j ((outsAt0 m c (pt r n (by omega)).val (pt r n (by omega)).isLt).2.1 (ix2 h j))
      (fun d => (outsAt0 m c (pt r n (by omega)).val (pt r n (by omega)).isLt).2.2 (ix3 h d j))
  | 0, hn => by
    rw [outsAt0_A m c (pt r 0 (by omega)) (mod_pt r 0 (by omega)) (by rw [mod_pt]; omega)]
    dsimp only
    rw [soutA0, soutA1]
    simp only [stepA_at]
    exact holds_first m c hq hk r h j
  | n + 1, hn => by
    rw [outsAt0_B m c (pt r (n + 1) (by omega)) (by rw [mod_pt]; omega) (by rw [mod_pt]; omega)]
    dsimp only
    rw [soutB0, soutB1]
    simp only [stepA_at]
    exact holds_step m c hq hk r (n + 1) (by omega) h j _ _ (holds_run hq hk r h j n (by omega))

end Cert.AttnHost

end
-- ==== Proof.AttnOut.lean ====
/- The attention kernel's array after the run, at an element: the softmax's weighted sum of the values. -/
module

public import proofs.«01_k».proof.Proof.AttnRun

@[expose] public section

set_option maxRecDepth 16384

noncomputable section

namespace Cert.AttnHost

open Cert.AttnIdeal Cert.AttnIdeal.Gen Cert.AttnIdeal.Value Cert.AttnStep
open Idealize.ShloMosaic Idealize.ShloMosaic.TcCoe Idealize.SL.Sem

variable (m : (ℓ : Loc nD τ sig) → Buf (Elt Ideal) ℓ) (c : Dev nD)
variable {qr : S4x8192x2x4x64.Idx → ℝ} {kr : S4x8192x2x64.Idx → ℝ}

/-- The block the last point of run `r` writes. -/
theorem out_at (hq : ∀ i, Q m c i = (qr i : EReal)) (hk : ∀ i, K m c i = (kr i : EReal)) (r : Fin 64) (j l : Fin 512) :
    (outsAt0 m c (pt r 7 (by omega)).val (pt r 7 (by omega)).isLt).1 (ix2 j l)
      = Online.soft (Online.score qr kr (rb r) (⟨l.val / 256, by omega⟩ : Fin 2) (⟨l.val / 64 % 4, by omega⟩ : Fin 4) (rq r j))
          (fun t => W m c (ix4 (rb r) t (⟨l.val / 256, by omega⟩ : Fin 2) (⟨l.val % 64, by omega⟩ : Fin 64))) := by
  rw [outsAt0_C m c (pt r 7 (by omega)) (by rw [mod_pt]; omega) (by rw [mod_pt])]
  dsimp only
  rw [outC]
  refine (outOf_at _ j l).trans ?_
  obtain ⟨μ, -, hA⟩ := holds_step m c hq hk r 7 (by omega) (⟨l.val / 64, by omega⟩ : Fin 8) j _ _ (holds_run m c hq hk r (⟨l.val / 64, by omega⟩ : Fin 8) j 6 (by omega))
  have e (d : Fin 80) := hA d
  refine (congrArg₂ Ideal.div (e (⟨l.val % 64, by omega⟩ : Fin 80)) (e (64 : Fin 80))).trans ?_
  have hg : grp (⟨l.val / 64, by omega⟩ : Fin 8) = (⟨l.val / 256, by omega⟩ : Fin 2) := Fin.ext (by show l.val / 64 / 4 = l.val / 256; omega)
  have hv : vl m c r (⟨l.val / 64, by omega⟩ : Fin 8) (⟨l.val % 64, by omega⟩ : Fin 80)
      = fun i k => W m c (ix4 (rb r) (Online.key i k) (⟨l.val / 256, by omega⟩ : Fin 2) (⟨l.val % 64, by omega⟩ : Fin 64)) := by
    funext i k
    rw [← hg]
    exact v_at m c (rb r) (grp (⟨l.val / 64, by omega⟩ : Fin 8)) (⟨l.val % 64, by omega⟩ : Fin 64) (Online.key i k)
  have h1 : vl m c r (⟨l.val / 64, by omega⟩ : Fin 8) (64 : Fin 80) = fun _ _ => 1 := by
    funext i k
    exact one_at m c (rb r) (grp (⟨l.val / 64, by omega⟩ : Fin 8)) (Online.key i k)
  rw [hv, h1]
  have hs : sc qr kr r (⟨l.val / 64, by omega⟩ : Fin 8) j
      = fun i k => Online.score qr kr (rb r) (⟨l.val / 256, by omega⟩ : Fin 2) (⟨l.val / 64 % 4, by omega⟩ : Fin 4) (rq r j) (Online.key i k) / Real.log 2 := by
    rw [← hg]; rfl
  rw [hs]
  exact Online.quotient _ (fun t => W m c (ix4 (rb r) t (⟨l.val / 256, by omega⟩ : Fin 2) (⟨l.val % 64, by omega⟩ : Fin 64))) μ

/-- The array after the run at query `s` of batch `b`. -/
theorem G3_at (hq : ∀ i, Q m c i = (qr i : EReal)) (hk : ∀ i, K m c i = (kr i : EReal)) (b : Fin 4) (s : Fin 8192) (l : Fin 512) :
    (show FVec Ideal S32768x512 .bf16 from G3 m c) (ix2 (⟨b.val * 8192 + s.val, by omega⟩ : Fin 32768) l)
      = Online.soft (Online.score qr kr b (⟨l.val / 256, by omega⟩ : Fin 2) (⟨l.val / 64 % 4, by omega⟩ : Fin 4) s)
          (fun t => W m c (ix4 b t (⟨l.val / 256, by omega⟩ : Fin 2) (⟨l.val % 64, by omega⟩ : Fin 64))) := by
  have hp : pt3Of (ix2 (⟨b.val * 8192 + s.val, by omega⟩ : Fin 32768) l) = (pt (⟨b.val * 16 + s.val / 512, by omega⟩ : Fin 64) 7 (by omega)).val := by
    show 8 * (1 * ((b.val * 8192 + s.val) / 512 - 0) + 1 * (l.val / 512 - 0)) + 7 = 8 * (b.val * 16 + s.val / 512) + 7
    omega
  have hl : loc3Of (ix2 (⟨b.val * 8192 + s.val, by omega⟩ : Fin 32768) l) = ix2 (⟨s.val % 512, by omega⟩ : Fin 512) l := by
    funext a; apply Fin.ext
    match a with
    | ⟨0, _⟩ => show (b.val * 8192 + s.val) % 512 = s.val % 512; omega
    | ⟨1, _⟩ => show l.val % 512 = l.val; omega
  have hb : rb (⟨b.val * 16 + s.val / 512, by omega⟩ : Fin 64) = b := Fin.ext (by show (b.val * 16 + s.val / 512) / 16 = b.val; omega)
  have hs : rq (⟨b.val * 16 + s.val / 512, by omega⟩ : Fin 64) (⟨s.val % 512, by omega⟩ : Fin 512) = s :=
    Fin.ext (by show (b.val * 16 + s.val / 512) % 16 * 512 + s.val % 512 = s.val; omega)
  have ho := out_at m c hq hk (⟨b.val * 16 + s.val / 512, by omega⟩ : Fin 64) (⟨s.val % 512, by omega⟩ : Fin 512) l
  rw [hb, hs] at ho
  refine Eq.trans ?_ ho
  show G3 m c _ = _
  unfold G3
  rw [dif_pos (by rw [hp]; exact (pt (⟨b.val * 16 + s.val / 512, by omega⟩ : Fin 64) 7 (by omega)).isLt), hl, outsAt0_sweep]
  rw [fold0_congr m c _ _ _ _ hp]

end Cert.AttnHost

end
-- ==== Proof.AttnRef.lean ====
/- The reference's array at an element: the values weighted by the softmax of the scores. -/
module

public import proofs.«01_k».proof.Proof.Gen.AttnRefIdeal.Read
public import proofs.«01_k».proof.Proof.Score
public import Idealize.ShloMosaic.Lib.Pipeline.ValueKit
public import Idealize.ShloMosaic.Lib.Pointwise.Tactic

@[expose] public section

set_option maxRecDepth 16384

noncomputable section

namespace Cert.AttnRef

open Cert.AttnRefIdeal Cert.AttnRefIdeal.Gen Cert.AttnRefIdeal.Read
open Idealize.ShloMosaic Idealize.ShloMosaic.TcCoe

theorem score_at (q : FVec Ideal S4x8192x2x4x64 .f32) (k : FVec Ideal S4x8192x2x64 .f32) (b : Fin 4) (g : Fin 2) (r : Fin 4) (s t : Fin 8192) :
    val_main_v1 (F := Ideal) q k (ix5 b g r s t) = ∑ d : Fin 64, k (ix4 b t g d) * q (ix5 b s g r d) := by
  pointwise [val_main_v1, val_main_v0]

/-- The host's maximum along the keys, for any scores. -/
theorem reduce_max_at (x : FVec Ideal S4x2x4x8192x8192 .f32) (v : FVec Ideal S_ .f32) (b : Fin 4) (g : Fin 2) (r : Fin 4) (s : Fin 8192) :
    Host.reduce FloatOps.maximumf x v reducesTo_S4x2x4x8192x8192_S4x2x4x8192_d4 h_S_ (ix4 b g r s)
      = Finset.fold max (v (fun a => a.elim0)) (fun t : Fin 8192 => x (ix5 b g r s t)) Finset.univ := by
  refine (congrArg (fun f : EReal → EReal → EReal => Host.reduce f x v reducesTo_S4x2x4x8192x8192_S4x2x4x8192_d4 h_S_ (ix4 b g r s))
    (Ideal.maximumf_eq_max (φ := .f32))).trans ?_
  refine (Host.reduce_eq_fold max x v reducesTo_S4x2x4x8192x8192_S4x2x4x8192_d4 h_S_ (ix4 b g r s)).trans ?_
  refine (Shape.ReducesTo.fold_fiber_r5_a4 reducesTo_S4x2x4x8192x8192_S4x2x4x8192_d4 (ix4 b g r s) max _ x).trans ?_
  exact congrArg (fun i => Finset.fold max i (fun t : Fin 8192 => x (ix5 b g r s t)) Finset.univ) (congrArg v (funext fun a => a.elim0))

theorem max_at (q : FVec Ideal S4x8192x2x4x64 .f32) (k : FVec Ideal S4x8192x2x64 .f32) (b : Fin 4) (g : Fin 2) (r : Fin 4) (s : Fin 8192) :
    val_main_v4 (F := Ideal) q k (ix4 b g r s)
      = max (Ideal.ofBits .f32 0xFF800000#32) (Finset.fold max (Ideal.ofBits .f32 0xFF800000#32) (fun t : Fin 8192 => val_main_v1 (F := Ideal) q k (ix5 b g r s t)) Finset.univ) :=
  (val_main_v4_apply (F := Ideal) q k (ix4 b g r s)).trans
    (congrArg₂ (fun x y : EReal => max x y) (val_main_v3_apply (F := Ideal) (ix4 b g r s)) (reduce_max_at (val_main_v1 (F := Ideal) q k) (val_main_cst (F := Ideal)) b g r s))

theorem exp_at (q : FVec Ideal S4x8192x2x4x64 .f32) (k : FVec Ideal S4x8192x2x64 .f32) (b : Fin 4) (g : Fin 2) (r : Fin 4) (s t : Fin 8192) :
    val_main_v8 (F := Ideal) q k (ix5 b g r s t) = Ideal.exp (val_main_v1 (F := Ideal) q k (ix5 b g r s t) - val_main_v4 (F := Ideal) q k (ix4 b g r s)) := by
  pointwise [val_main_v8, val_main_v7, val_main_v6, val_main_v5]

theorem weight_at (q : FVec Ideal S4x8192x2x4x64 .f32) (k : FVec Ideal S4x8192x2x64 .f32) (b : Fin 4) (g : Fin 2) (r : Fin 4) (s t : Fin 8192) :
    val_main_v12 (F := Ideal) q k (ix5 b g r s t)
      = Ideal.div (val_main_v8 (F := Ideal) q k (ix5 b g r s t)) (∑ y : Fin 8192, val_main_v8 (F := Ideal) q k (ix5 b g r s y)) := by
  pointwise [val_main_v12, val_main_v11, val_main_v10, val_main_v9, val_main_cst_1]

theorem out_at (q : FVec Ideal S4x8192x2x4x64 .f32) (k w : FVec Ideal S4x8192x2x64 .f32) (b : Fin 4) (s : Fin 8192) (j : Fin 512) :
    val_main_v16 (F := Ideal) q k w (ix2 (⟨b.val * 8192 + s.val, by omega⟩ : Fin 32768) j)
      = ∑ t : Fin 8192, w (ix4 b t (⟨j.val / 256, by omega⟩ : Fin 2) (⟨j.val % 64, by omega⟩ : Fin 64))
          * val_main_v12 (F := Ideal) q k (ix5 b (⟨j.val / 256, by omega⟩ : Fin 2) (⟨j.val / 64 % 4, by omega⟩ : Fin 4) s t) := by
  pointwise [val_main_v16, val_main_v15, val_main_v14, val_main_v13]
/-- The reference's array where queries and keys are real: the softmax of the scores over the values. -/
theorem ref_at (q : FVec Ideal S4x8192x2x4x64 .f32) (k w : FVec Ideal S4x8192x2x64 .f32) (qr : S4x8192x2x4x64.Idx → ℝ) (kr : S4x8192x2x64.Idx → ℝ)
    (hq : ∀ i, q i = (qr i : EReal)) (hk : ∀ i, k i = (kr i : EReal)) (b : Fin 4) (s : Fin 8192) (j : Fin 512) :
    val_main_v16 (F := Ideal) q k w (ix2 (⟨b.val * 8192 + s.val, by omega⟩ : Fin 32768) j)
      = Online.soft (Online.score qr kr b (⟨j.val / 256, by omega⟩ : Fin 2) (⟨j.val / 64 % 4, by omega⟩ : Fin 4) s)
          (fun t => w (ix4 b t (⟨j.val / 256, by omega⟩ : Fin 2) (⟨j.val % 64, by omega⟩ : Fin 64))) := by
  refine (out_at q k w b s j).trans ?_
  generalize (⟨j.val / 256, by omega⟩ : Fin 2) = g
  generalize (⟨j.val / 64 % 4, by omega⟩ : Fin 4) = r
  generalize (⟨j.val % 64, by omega⟩ : Fin 64) = d
  have hx (t : Fin 8192) : val_main_v1 (F := Ideal) q k (ix5 b g r s t) = ((Online.score qr kr b g r s t : ℝ) : EReal) := by
    refine (score_at q k b g r s t).trans ?_
    unfold Online.score
    rw [Online.coe_sum]
    exact Finset.sum_congr rfl fun d _ => by rw [hq, hk, ← EReal.coe_mul]
  have hm := max_at q k b g r s
  rw [Online.ofBits_neg_inf_f32] at hm
  have hm' : val_main_v4 (F := Ideal) q k (ix4 b g r s)
      = max ⊥ (Finset.fold max ⊥ (fun t => ((Online.score qr kr b g r s t : ℝ) : EReal)) Finset.univ) :=
    hm.trans (congrArg (fun f : Fin 8192 → EReal => max ⊥ (Finset.fold max ⊥ f Finset.univ)) (funext hx))
  have he (t : Fin 8192) := (exp_at q k b g r s t).trans (congrArg (fun z : EReal => Ideal.exp (z - val_main_v4 (F := Ideal) q k (ix4 b g r s))) (hx t))
  refine Eq.trans ?_ (Online.plain (Online.score qr kr b g r s) (fun t => w (ix4 b t g d)) _ hm')
  refine Finset.sum_congr rfl fun t _ => congrArg (w (ix4 b t g d) * ·) ((weight_at q k b g r s t).trans ?_)
  exact congrArg₂ Ideal.div (he t) (Finset.sum_congr rfl fun y _ => he y)

end Cert.AttnRef

end
-- ==== Proof.AttnEq.lean ====
/- The precondition as real queries and keys, and the attention kernel's equation with its reference. -/
module

public import proofs.«01_k».proof.Proof.AttnOut
public import proofs.«01_k».proof.Proof.AttnRef
public import proofs.«01_k».proof.Pre_finite_queries_keys

@[expose] public section

set_option maxRecDepth 16384

noncomputable section

namespace Cert.AttnEq

open Idealize.ShloMosaic Idealize.ShloMosaic.TcCoe

/-- An extended real whose absolute value compares below infinity is real. -/
theorem real_of_abs_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have ht : Ideal.ofBits .f32 0x7F800000#32 = ⊤ := by
    simp [Ideal.ofBits, Ideal.ieee]
  rw [ht] at h
  induction x with
  | bot => exact absurd h (by simp [FloatOps.cmpf, FloatOps.absf, Ideal.cmp])
  | top => exact absurd h (by simp [FloatOps.cmpf, FloatOps.absf, Ideal.cmp])
  | coe r => exact ⟨r, rfl⟩

variable [Cert.Pre_finite_queries_keys.Facts]

/-- The precondition makes queries and keys real. -/
theorem reals (q : FVec Ideal Cert.Pre_finite_queries_keys.S4x8192x2x4x64 .f32) (k w : FVec Ideal Cert.Pre_finite_queries_keys.S4x8192x2x64 .f32)
    (h : (Cert.Pre_finite_queries_keys.fn (F := Ideal) q k w).1 = (fun _ => 1#1) ∧ (Cert.Pre_finite_queries_keys.fn (F := Ideal) q k w).2 = (fun _ => 1#1)) :
    (∃ qr : Cert.Pre_finite_queries_keys.S4x8192x2x4x64.Idx → ℝ, ∀ i, q i = (qr i : EReal))
      ∧ (∃ kr : Cert.Pre_finite_queries_keys.S4x8192x2x64.Idx → ℝ, ∀ i, k i = (kr i : EReal)) := by
  constructor
  · exact Classical.skolem.mp fun i => real_of_abs_lt (q i) (congrFun h.1 i)
  · exact Classical.skolem.mp fun i => real_of_abs_lt (k i) (congrFun h.2 i)

/-- What the kernel leaves is what the reference computes. -/
theorem eq_ref (m : (ℓ : Loc Cert.AttnIdeal.nD Cert.AttnIdeal.τ Cert.AttnIdeal.sig) → Buf (Elt Ideal) ℓ) (c : Dev Cert.AttnIdeal.nD)
    (h : (Cert.Pre_finite_queries_keys.fn (F := Ideal) (Cert.AttnHost.Q m c) (Cert.AttnHost.K m c) (Cert.AttnHost.W m c)).1 = (fun _ => 1#1)
      ∧ (Cert.Pre_finite_queries_keys.fn (F := Ideal) (Cert.AttnHost.Q m c) (Cert.AttnHost.K m c) (Cert.AttnHost.W m c)).2 = (fun _ => 1#1)) :
    (show FVec Ideal Cert.AttnIdeal.S32768x512 .bf16 from Cert.AttnIdeal.Value.G3 m c)
      = Cert.AttnRefIdeal.Read.val_main_v16 (F := Ideal) (Cert.AttnHost.Q m c) (Cert.AttnHost.K m c) (Cert.AttnHost.W m c) := by
  obtain ⟨⟨qr, hq⟩, ⟨kr, hk⟩⟩ := reals _ _ _ h
  funext i
  have h0 : (i 0).val < 32768 := (i 0).isLt
  have hi : i = ix2 (⟨(⟨(i 0).val / 8192, by omega⟩ : Fin 4).val * 8192 + (⟨(i 0).val % 8192, by omega⟩ : Fin 8192).val, by omega⟩ : Fin 32768) (i 1 : Fin 512) := by
    funext a; apply Fin.ext
    match a with
    | ⟨0, _⟩ => show (i 0).val = (i 0).val / 8192 * 8192 + (i 0).val % 8192; omega
    | ⟨1, _⟩ => rfl
  rw [hi]
  exact (Cert.AttnHost.G3_at m c hq hk _ _ _).trans (Cert.AttnRef.ref_at _ _ _ qr kr hq hk _ _ _).symm

end Cert.AttnEq

end
-- ==== Proof.InMath.lean ====
/- The input projection of one token over the extended reals: projection, head normalisation, rotation. -/
module

public import proofs.«01_k».proof.Proof.Online

@[expose] public section

noncomputable section

namespace Cert.InMath

open Idealize.ShloMosaic

/-- The constant added under each square root. -/
def eps : EReal := Ideal.ofBits .f32 0x358637BD#32

/-- One lane of the projection: the token divided by its root mean square, scaled, times a column of the weights. -/
def proj (x g w : Fin 1024 → EReal) : EReal :=
  ∑ d, x d * Ideal.rsqrt (Ideal.div (∑ d, x d * x d) (Ideal.ofBits .f32 0x44800000#32) + eps) * g d * w d

/-- A head divided by its root mean square and scaled. -/
def headNorm (p γ : Fin 64 → EReal) (e : Fin 64) : EReal :=
  p e * Ideal.rsqrt (Ideal.div (∑ e, p e * p e) (Ideal.ofBits .f32 0x42800000#32) + eps) * γ e

/-- The frequency of pair `j` of coordinates. -/
def freq (j : ℕ) : EReal :=
  Ideal.pow (Ideal.ofBits .f32 1176256512#32) (Ideal.div (-(FloatOps.sitofp (F := Ideal) .f32 (BitVec.ofNat 32 j))) (Ideal.ofBits .f32 1098907648#32))

/-- The angle by which lane `e` of a head is rotated at token `s`. -/
def angle (s e : ℕ) : EReal := FloatOps.sitofp (F := Ideal) .f32 (BitVec.ofNat 32 (if e < 32 then s / 64 else s % 64)) * freq (e % 16)

/-- Negative on the first half of a pair of coordinates. -/
def sgn (e : ℕ) (v : EReal) : EReal := if e % 32 < 16 then -v else v

/-- The lane a lane is rotated with. -/
def partner (e : Fin 64) : Fin 64 := ⟨if e.val % 32 < 16 then e.val + 16 else e.val - 16, by split <;> omega⟩

/-- A head rotated by the angles of token `s`. -/
def rot (n : Fin 64 → EReal) (s : ℕ) (e : Fin 64) : EReal :=
  n e * Ideal.cos (angle s e.val) + n (partner e) * sgn e.val (Ideal.sin (angle s e.val))

/-- The first half of a pair: the difference. -/
theorem rot_lo (n : Fin 64 → EReal) (s : ℕ) (e : Fin 64) (h : e.val % 32 < 16) :
    rot n s e = n e * Ideal.cos (angle s e.val) - n ⟨e.val + 16, by omega⟩ * Ideal.sin (angle s e.val) := by
  have hp : partner e = ⟨e.val + 16, by omega⟩ := Fin.ext (if_pos h)
  rw [rot, hp, sgn, if_pos h, mul_neg, sub_eq_add_neg]

/-- The second half of a pair: the sum. -/
theorem rot_hi (n : Fin 64 → EReal) (s : ℕ) (e : Fin 64) (h : ¬ e.val % 32 < 16) :
    rot n s e = n e * Ideal.cos (angle s e.val) + n ⟨e.val - 16, by omega⟩ * Ideal.sin (angle s e.val) := by
  have hp : partner e = ⟨e.val - 16, by omega⟩ := Fin.ext (if_neg h)
  rw [rot, hp, sgn, if_neg h]

/-- A rotated head put together from its four parts of 16 lanes. -/
theorem rot_cases (n : Fin 64 → EReal) (s : ℕ) (e : Fin 64) (f0 f1 f2 f3 : Fin 16 → EReal)
    (h0 : ∀ j : Fin 16, f0 j = n ⟨j.val, by omega⟩ * Ideal.cos (angle s j.val) - n ⟨16 + j.val, by omega⟩ * Ideal.sin (angle s j.val))
    (h1 : ∀ j : Fin 16, f1 j = n ⟨16 + j.val, by omega⟩ * Ideal.cos (angle s j.val) + n ⟨j.val, by omega⟩ * Ideal.sin (angle s j.val))
    (h2 : ∀ j : Fin 16, f2 j = n ⟨32 + j.val, by omega⟩ * Ideal.cos (angle s (32 + j.val)) - n ⟨32 + (16 + j.val), by omega⟩ * Ideal.sin (angle s (32 + j.val)))
    (h3 : ∀ j : Fin 16, f3 j = n ⟨32 + (16 + j.val), by omega⟩ * Ideal.cos (angle s (32 + j.val)) + n ⟨32 + j.val, by omega⟩ * Ideal.sin (angle s (32 + j.val))) :
    (if a : e.val < 32 then if b : e.val < 16 then f0 ⟨e.val, b⟩ else f1 ⟨e.val - 16, by omega⟩
      else if b : e.val - 32 < 16 then f2 ⟨e.val - 32, b⟩ else f3 ⟨e.val - 32 - 16, by omega⟩) = rot n s e := by
  have per (a : ℕ) (h : a % 16 = e.val % 16) (h' : a < 32 ↔ e.val < 32) : angle s a = angle s e.val := by
    unfold angle
    rw [h]
    simp only [h']
  have ix (a b : ℕ) (ha : a < 64) (hb : b < 64) (h : a = b) : n ⟨a, ha⟩ = n ⟨b, hb⟩ := congrArg n (Fin.ext h)
  split_ifs with a b b
  · rw [h0, rot_lo n s e (by omega), per e.val rfl Iff.rfl]
    exact congrArg₂ (fun u v : EReal => u * _ - v * _) rfl (ix _ _ _ _ (by dsimp only; omega))
  · rw [h1, rot_hi n s e (by omega), per (e.val - 16) (by omega) (by omega)]
    exact congrArg₂ (fun u v : EReal => u * _ + v * _) (ix _ _ _ _ (by dsimp only; omega)) rfl
  · rw [h2, rot_lo n s e (by omega), per (32 + (e.val - 32)) (by omega) (by omega)]
    exact congrArg₂ (fun u v : EReal => u * _ - v * _) (ix _ _ _ _ (by dsimp only; omega)) (ix _ _ _ _ (by dsimp only; omega))
  · rw [h3, rot_hi n s e (by omega), per (32 + (e.val - 32 - 16)) (by omega) (by omega)]
    exact congrArg₂ (fun u v : EReal => u * _ + v * _) (ix _ _ _ _ (by dsimp only; omega)) (ix _ _ _ _ (by dsimp only; omega))

/-- A lane of the gate branch: the value times the logistic function of the gate. -/
def gated (a z : EReal) : EReal := a * Ideal.div 1 (1 + Ideal.exp (-z))

/-! ## The mean of squares taken by a matrix of ones -/

/-- A sum weighted by the lanes of head `h` runs over that head. -/
theorem group_sum {N : ℕ} (f : Fin N → EReal) (bd : Fin N → EReal) (h : ℕ) (hh : h * 64 + 64 ≤ N) (hbd : ∀ x, bd x = if x.val / 64 = h then 1 else 0) :
    ∑ x, f x * bd x = ∑ e : Fin 64, f ⟨h * 64 + e.val, by omega⟩ := by
  symm
  refine Finset.sum_of_injOn (fun e : Fin 64 => (⟨h * 64 + e.val, by omega⟩ : Fin N)) ?_ (fun _ _ => Finset.mem_coe.mpr (Finset.mem_univ _)) ?_ ?_
  · intro a _ b _ hab
    have := congrArg Fin.val hab
    exact Fin.ext (by dsimp only at this; omega)
  · intro x _ hx
    rw [hbd, if_neg, mul_zero]
    intro hq
    exact hx ⟨⟨x.val % 64, by omega⟩, Finset.mem_coe.mpr (Finset.mem_univ _), Fin.ext (by dsimp only; omega)⟩
  · intro e _
    rw [hbd, if_pos (by dsimp only; omega), mul_one]

theorem sixty_four : Ideal.ofBits .f32 0x42800000#32 = ((64 : ℝ) : EReal) := by
  simp [Ideal.ofBits, Ideal.ieee, -EReal.coe_mul]
  norm_num

theorem sixty_fourth : Ideal.ofBits .f32 1015021568#32 = ((1 / 64 : ℝ) : EReal) := by
  simp [Ideal.ofBits, Ideal.ieee, -EReal.coe_mul]
  norm_num

theorem eps_real : ∃ r : ℝ, 0 < r ∧ eps = (r : EReal) := by
  refine ⟨8796093 / 8796093022208, by norm_num, ?_⟩
  simp [eps, Ideal.ofBits, Ideal.ieee, -EReal.coe_mul]
  norm_num

theorem ten_twenty_four : Ideal.ofBits .f32 0x44800000#32 = ((1024 : ℝ) : EReal) := by
  simp [Ideal.ofBits, Ideal.ieee, -EReal.coe_mul]
  norm_num

/-- The mean of the squares of a head, taken by the matrix of ones in two parts of which the second is zero where the lanes are real. -/
theorem group_mean {N : ℕ} (f : Fin N → EReal) (bd : Fin N → EReal) (h : ℕ) (hh : h * 64 + 64 ≤ N) (hbd : ∀ x, bd x = if x.val / 64 = h then 1 else 0)
    (hf : ∀ i, ∃ r : ℝ, f i = (r : EReal)) :
    (∑ x, f x * f x * bd x + ∑ x, (f x * f x - f x * f x) * bd x) * Ideal.ofBits .f32 1015021568#32
      = Ideal.div (∑ e : Fin 64, f ⟨h * 64 + e.val, by omega⟩ * f ⟨h * 64 + e.val, by omega⟩) (Ideal.ofBits .f32 0x42800000#32) := by
  have h0 : ∑ x, (f x * f x - f x * f x) * bd x = 0 := Finset.sum_eq_zero fun x _ => by
    obtain ⟨r, hr⟩ := hf x
    rw [hr, ← EReal.coe_mul, ← EReal.coe_sub, sub_self, EReal.coe_zero, zero_mul]
  rw [h0, add_zero, group_sum (fun x => f x * f x) bd h hh hbd, sixty_fourth, sixty_four, Ideal.div_coe (by norm_num)]

/-! ## The projection is real where the weights are -/

theorem sq_nonneg (x : EReal) : 0 ≤ x * x := by
  induction x with
  | bot => simp
  | top => simp
  | coe r => rw [← EReal.coe_mul]; exact EReal.coe_nonneg.mpr (mul_self_nonneg r)

/-- A token's entry over its root mean square is real, whatever the token. -/
theorem unit_real (x : Fin 1024 → EReal) (d : Fin 1024) :
    ∃ r : ℝ, x d * Ideal.rsqrt (Ideal.div (∑ d, x d * x d) (Ideal.ofBits .f32 0x44800000#32) + eps) = (r : EReal) := by
  obtain ⟨ε, hε, he⟩ := eps_real
  rw [ten_twenty_four, Ideal.div_coe (by norm_num), he]
  by_cases hx : ∀ d, ∃ r : ℝ, x d = (r : EReal)
  · obtain ⟨y, hy⟩ := Classical.skolem.mp hx
    have hs : ∑ d, x d * x d = ((∑ d, y d * y d : ℝ) : EReal) := by
      rw [Online.coe_sum]
      exact Finset.sum_congr rfl fun d _ => by rw [hy, ← EReal.coe_mul]
    have hp : 0 < (∑ d, y d * y d) * (1 / 1024) + ε := by
      have : 0 ≤ ∑ d, y d * y d := Finset.sum_nonneg fun d _ => mul_self_nonneg (y d)
      positivity
    rw [hs, ← EReal.coe_mul, ← EReal.coe_add, hy, Ideal.rsqrt_coe, if_neg (by linarith), if_neg hp.ne', ← EReal.coe_mul]
    exact ⟨_, rfl⟩
  · push Not at hx
    obtain ⟨d', hd'⟩ := hx
    have ht : x d' * x d' = ⊤ := by
      induction h : x d' with
      | bot => simp
      | top => simp
      | coe r => exact absurd h (hd' r)
    have hs : ∑ d, x d * x d = ⊤ := top_le_iff.mp (ht ▸ Finset.single_le_sum (f := fun d => x d * x d) (fun d _ => sq_nonneg (x d)) (Finset.mem_univ d'))
    rw [hs, EReal.top_mul_coe_of_pos (by norm_num), EReal.top_add_coe]
    exact ⟨0, by rw [show Ideal.rsqrt ⊤ = 0 from rfl, mul_zero, EReal.coe_zero]⟩

theorem proj_real (x g w : Fin 1024 → EReal) (hg : ∀ d, ∃ r : ℝ, g d = (r : EReal)) (hw : ∀ d, ∃ r : ℝ, w d = (r : EReal)) : ∃ r : ℝ, proj x g w = (r : EReal) := by
  obtain ⟨u, hu⟩ := Classical.skolem.mp (unit_real x)
  obtain ⟨γ, hγ⟩ := Classical.skolem.mp hg
  obtain ⟨ω, hω⟩ := Classical.skolem.mp hw
  refine ⟨∑ d, u d * γ d * ω d, ?_⟩
  rw [Online.coe_sum]
  exact Finset.sum_congr rfl fun d _ => by rw [hu, hγ, hω, ← EReal.coe_mul, ← EReal.coe_mul]

end Cert.InMath

end
-- ==== Proof.InHost.lean ====
/- The arrays the input projection's launch stages, read at an element over the arguments. -/
module

public import proofs.«01_k».proof.Proof.InMath
public import proofs.«01_k».proof.Proof.Gen.InProjIdeal.Value
public import Idealize.ShloMosaic.Lib.Claim
public import Idealize.ShloMosaic.Lib.Pipeline.ValueKit
public import Idealize.ShloMosaic.Lib.Pointwise.Tactic

@[expose] public section

set_option maxRecDepth 16384

noncomputable section

namespace Cert.InHost

open Cert.InProjIdeal Cert.InProjIdeal.Gen
open Cert.InMath
open Idealize.ShloMosaic Idealize.ShloMosaic.TcCoe Idealize.SL.Sem

variable (m : (ℓ : Loc nD τ sig) → Buf (Elt Ideal) ℓ) (c : Dev nD)

abbrev X : FVec Ideal S4x8192x1024 .f32 := m ((c : Thread nD τ).loc main_arg0)
abbrev G : FVec Ideal S1024 .f32 := m ((c : Thread nD τ).loc main_arg1)
abbrev W : FVec Ideal S1024x1792 .f32 := m ((c : Thread nD τ).loc main_arg2)
abbrev GQ : FVec Ideal S64 .f32 := m ((c : Thread nD τ).loc main_arg3)
abbrev GK : FVec Ideal S64 .f32 := m ((c : Thread nD τ).loc main_arg4)

/-- The buffers after the first half of the host operations: there the image coordinates of every token have been computed. -/
def start : Valuation τ sig (Elt Ideal) := StableHlo.after hostOps0_3 (StableHlo.after hostOps0_2 (StableHlo.after hostOps0_1 (StableHlo.after hostOps0 (fun b => m (c, b)))))

/-- The launch's host operations, stage after stage. -/
theorem stages (r : Ref sig .tc) : V m c r = StableHlo.after hostOps0_6 (StableHlo.after hostOps0_5 (StableHlo.after hostOps0_4 (start m c))) (Proc.tc.devRef r) := by
  simp only [V, List.flatten_cons, List.flatten_nil, List.append_nil, StableHlo.after_append, start]

/-! ## The image coordinates of a token, computed on words -/

/-- The quotient of `v` by 64 the way the host takes it: towards minus infinity. -/
def floorWord (v : BitVec 32) : BitVec 32 :=
  Scalar.select (IntOp.andi (IntOp.cmpi .ne (if v = 0 then (0 : BitVec 32) else if v.msb = true then -1 else 1) (if 64#32 = 0 then (0 : BitVec 32) else if (64#32).msb = true then -1 else 1)) (IntOp.cmpi .ne (IntOp.remsi .host v 64#32) 0#32))
    (IntOp.subi (IntOp.divsi .host v 64#32) 1#32) (IntOp.divsi .host v 64#32)

theorem floorWord_eq : ∀ s : Fin 8192, floorWord (BitVec.ofNat 32 s.val) = BitVec.ofNat 32 (s.val / 64) := by decide +kernel

/-- The remainder by 64 the way the host takes it. -/
def modWord (v : BitVec 32) : BitVec 32 :=
  let d := Scalar.select (IntOp.cmpi .eq 64#32 0#32) 1#32 64#32
  Scalar.select (IntOp.andi (IntOp.cmpi .ne (IntOp.cmpi .slt (IntOp.remsi .host v d) 0#32) (IntOp.cmpi .slt d 0#32)) (IntOp.cmpi .ne (IntOp.remsi .host v d) 0#32))
    (IntOp.addi (IntOp.remsi .host v d) d) (IntOp.remsi .host v d)

theorem modWord_eq : ∀ s : Fin 8192, modWord (BitVec.ofNat 32 s.val) = BitVec.ofNat 32 (s.val % 64) := by decide +kernel

theorem row_at (s : Fin 8192) : (show FVec Ideal S8192 .f32 from start m c main_v2) (ix1 s) = FloatOps.sitofp .f32 (BitVec.ofNat 32 (s.val / 64)) := by
  unfold start
  entry_read
  simp only [StableHlo.TRef.ofBuf, StableHlo.TRef.toBuf, cast_eq]
  pointwise
  exact congrArg (FloatOps.sitofp (F := Ideal) .f32) (floorWord_eq s)

theorem col_at (s : Fin 8192) : (show IVec S8192 32 from start m c main_v3) (ix1 s) = BitVec.ofNat 32 (s.val % 64) := by
  unfold start
  entry_read
  simp only [StableHlo.TRef.ofBuf, StableHlo.TRef.toBuf, cast_eq]
  pointwise
  exact modWord_eq s

theorem x_at (b : Fin 4) (s : Fin 8192) (d : Fin 1024) :
    (show FVec Ideal S32768x1024 .f32 from V m c main_v47) (ix2 (⟨b.val * 8192 + s.val, by omega⟩ : Fin 32768) d) = X m c (ix3 b s d) := by
  rw [stages]
  unfold start
  entry_read
  pointwise
theorem g_at (d : Fin 1024) : (show FVec Ideal S1x1024 .f32 from V m c main_v48) (ix2 (0 : Fin 1) d) = G m c (ix1 d) := by
  rw [stages]
  unfold start
  entry_read
  pointwise
theorem w_at (d : Fin 1024) (l : Fin 1792) : (show FVec Ideal S1024x1792 .bf16 from V m c main_v49) (ix2 d l) = W m c (ix2 d l) := by
  rw [stages]
  unfold start
  entry_read
  pointwise
theorem gq_at (l : Fin 512) : (show FVec Ideal S1x512 .f32 from V m c main_v53) (ix2 (0 : Fin 1) l) = GQ m c (ix1 (⟨l.val % 64, by omega⟩ : Fin 64)) := by
  rw [stages]
  unfold start
  entry_read
  pointwise
theorem gk_at (l : Fin 128) : (show FVec Ideal S1x128 .f32 from V m c main_v57) (ix2 (0 : Fin 1) l) = GK m c (ix1 (⟨l.val % 64, by omega⟩ : Fin 64)) := by
  rw [stages]
  unfold start
  entry_read
  pointwise
theorem ones_at (i l : Fin 512) : (show FVec Ideal S512x512 .bf16 from V m c main_v46) (ix2 i l) = if i.val / 64 = l.val / 64 then 1 else 0 := by
  rw [stages]
  entry_read
  simp only [StableHlo.TRef.ofBuf, StableHlo.TRef.toBuf, cast_eq]
  pointwise
  have hw (k : Fin 512) : floorWord (BitVec.ofNat 32 k.val) = BitVec.ofNat 32 (k.val / 64) := floorWord_eq ⟨k.val, by omega⟩
  show FloatOps.uitofp (F := Ideal) .bf16 (IntOp.cmpi .eq (floorWord (BitVec.ofNat 32 i.val)) (floorWord (BitVec.ofNat 32 l.val))) = _
  rw [hw, hw]
  have hi : i.val / 64 < 8 := by omega
  have hl : l.val / 64 < 8 := by omega
  generalize i.val / 64 = a at *
  generalize l.val / 64 = b at *
  have key : ∀ a b : Fin 8, IntOp.cmpi .eq (BitVec.ofNat 32 a.val) (BitVec.ofNat 32 b.val) = if a.val = b.val then 1#1 else 0#1 := by decide +kernel
  rw [key ⟨a, hi⟩ ⟨b, hl⟩]
  by_cases hab : a = b <;> simp [hab, FloatOps.uitofp]

/-! ## The rotation tables -/

/-- The buffers once the angles have been computed. -/
def angled : Valuation τ sig (Elt Ideal) := StableHlo.after (hostOps0_4.take 19) (start m c)
/-- The buffers once the cosines and sines of a head's 64 lanes have been put together. -/
def waved : Valuation τ sig (Elt Ideal) := StableHlo.after ((hostOps0_4.drop 19).take 12) (angled m c)

theorem stages' (r : Ref sig .tc) : V m c r = StableHlo.after hostOps0_6 (StableHlo.after hostOps0_5 (StableHlo.after ((hostOps0_4.drop 19).drop 12) (waved m c))) (Proc.tc.devRef r) := by
  rw [stages, waved, ← StableHlo.after_append ((hostOps0_4.drop 19).take 12), List.take_append_drop, angled, ← StableHlo.after_append (hostOps0_4.take 19), List.take_append_drop]

theorem angleRow_at (s : Fin 8192) (j : Fin 16) : (show FVec Ideal S8192x16 .f32 from angled m c main_v15) (ix2 s j) = FloatOps.sitofp (F := Ideal) .f32 (BitVec.ofNat 32 (s.val / 64)) * freq j.val := by
  unfold angled
  simp only [List.take_succ_cons, List.take_zero]
  entry_read
  pointwise
  exact congrArg (· * freq j.val) (row_at m c s)

theorem angleCol_at (s : Fin 8192) (j : Fin 16) : (show FVec Ideal S8192x16 .f32 from angled m c main_v20) (ix2 s j) = FloatOps.sitofp (F := Ideal) .f32 (BitVec.ofNat 32 (s.val % 64)) * freq j.val := by
  unfold angled
  simp only [List.take_succ_cons, List.take_zero]
  entry_read
  pointwise
  exact congrArg (fun w => FloatOps.sitofp (F := Ideal) .f32 w * freq j.val) (col_at m c s)

theorem cos_at (s : Fin 8192) (l : Fin 128) : (show FVec Ideal S8192x128 .f32 from V m c main_v35) (ix2 s l) = (show FVec Ideal S8192x64 .f32 from waved m c main_v25) (ix2 s ⟨l.val % 64, by omega⟩) := by
  rw [stages']
  simp only [List.drop_succ_cons, List.drop_zero]
  generalize waved m c = σ
  entry_read
  pointwise
theorem sin_at (s : Fin 8192) (l : Fin 128) : (show FVec Ideal S8192x128 .f32 from V m c main_v38) (ix2 s l) = (show FVec Ideal S8192x64 .f32 from waved m c main_v32) (ix2 s ⟨l.val % 64, by omega⟩) := by
  rw [stages']
  simp only [List.drop_succ_cons, List.drop_zero]
  generalize waved m c = σ
  entry_read
  pointwise
end Cert.InHost
end
-- ==== Proof.InWave.lean ====
/- The rotation tables the launch reads: cosine and sine of the angle of a token's image coordinates. -/
module

public import proofs.«01_k».proof.Proof.InHost

@[expose] public section

set_option maxRecDepth 16384

noncomputable section

namespace Cert.InWave

open Cert.InProjIdeal Cert.InProjIdeal.Gen Cert.InHost Cert.InMath
open Idealize.ShloMosaic Idealize.ShloMosaic.TcCoe Idealize.SL.Sem

variable (m : (ℓ : Loc nD τ sig) → Buf (Elt Ideal) ℓ) (c : Dev nD)

/-- Four arrays of 16 lanes put side by side. -/
abbrev quad (x y z w : FVec Ideal S8192x16 .f32) : FVec Ideal S8192x64 .f32 :=
  concatenate S8192x64 1 [⟨S8192x16, x⟩, ⟨S8192x16, y⟩, ⟨S8192x16, z⟩, ⟨S8192x16, w⟩] concatenates_S8192x16_S8192x16_S8192x16_S8192x16_S8192x64_d1

theorem quad_congr {x y z w x' y' z' w' : FVec Ideal S8192x16 .f32} (hx : x = x') (hy : y = y') (hz : z = z') (hw : w = w') : quad x y z w = quad x' y' z' w' := by
  rw [hx, hy, hz, hw]

/-- The cosine array of a head: cosines of the row angle twice, then of the column angle twice. -/
theorem waveCos (σ : Valuation τ sig (Elt Ideal)) : StableHlo.after ((hostOps0_4.drop 19).take 12) σ main_v25 = quad (Host.cos (σ main_v15)) (Host.cos (σ main_v15)) (Host.cos (σ main_v20)) (Host.cos (σ main_v20)) := by
  simp only [List.drop_succ_cons, List.drop_zero, List.take_succ_cons, List.take_zero]
  simp only [StableHlo.after_cons, StableHlo.after_nil]
  after_results_simp
  refine quad_congr ?_ ?_ ?_ ?_ <;> dsimp only [Matrix.cons_val] <;> after_results_simp

/-- The sine array of a head: each angle's sine negated, then as it is. -/
theorem waveSin (σ : Valuation τ sig (Elt Ideal)) : StableHlo.after ((hostOps0_4.drop 19).take 12) σ main_v32 = quad (Host.negf (F := Ideal) (Host.sin (σ main_v15))) (Host.sin (σ main_v15)) (Host.negf (F := Ideal) (Host.sin (σ main_v20))) (Host.sin (σ main_v20)) := by
  simp only [List.drop_succ_cons, List.drop_zero, List.take_succ_cons, List.take_zero]
  simp only [StableHlo.after_cons, StableHlo.after_nil]
  after_results_simp
  refine quad_congr ?_ ?_ ?_ ?_ <;> dsimp only [Matrix.cons_val] <;> after_results_simp

/-- Which of the four arrays a lane reads. -/
theorem quad_at (x y z w : FVec Ideal S8192x16 .f32) (s : Fin 8192) (e : Fin 64) : quad x y z w (ix2 s e) = (if e.val < 16 then x else if e.val < 32 then y else if e.val < 48 then z else w) (ix2 s ⟨e.val % 16, by omega⟩) := by
  pointwise
  have hi (n : ℕ) (hn : n < 16) (h : n = e.val % 16) : (ix2 s ⟨n, hn⟩ : S8192x16.Idx) = ix2 s ⟨e.val % 16, by omega⟩ := by subst h; rfl
  have hR (a : FVec Ideal S8192x16 .f32) (h : (if e.val < 16 then x else if e.val < 32 then y else if e.val < 48 then z else w) = a) (v : EReal) (hv : v = a (ix2 s ⟨e.val % 16, by omega⟩)) :
      v = (if e.val < 16 then x else if e.val < 32 then y else if e.val < 48 then z else w) (ix2 s ⟨e.val % 16, by omega⟩) := hv.trans (congrFun h _).symm
  by_cases h1 : e.val < 16
  · exact hR x (if_pos h1) _ ((dif_pos h1).trans (congrArg x (hi _ _ (by omega))))
  refine Eq.trans (dif_neg h1) ?_
  by_cases h2 : e.val - 16 < 16
  · exact hR y ((if_neg h1).trans (if_pos (by omega))) _ ((dif_pos h2).trans (congrArg y (hi _ _ (by omega))))
  refine Eq.trans (dif_neg h2) ?_
  by_cases h3 : e.val - 16 - 16 < 16
  · exact hR z ((if_neg h1).trans ((if_neg (by omega)).trans (if_pos (by omega)))) _ ((dif_pos h3).trans (congrArg z (hi _ _ (by omega))))
  · exact hR w ((if_neg h1).trans ((if_neg (by omega)).trans (if_neg (by omega)))) _ ((dif_neg h3).trans (congrArg w (hi _ _ (by omega))))

theorem waveCos_at (s : Fin 8192) (k : Fin 64) : quad (Host.cos (angled m c main_v15)) (Host.cos (angled m c main_v15)) (Host.cos (angled m c main_v20)) (Host.cos (angled m c main_v20)) (ix2 s k) = Ideal.cos (angle s.val k.val) := by
  rw [quad_at]
  have e (n : ℕ) (hn : n < 16) : (show FVec Ideal S8192x16 .f32 from angled m c main_v15) (ix2 s ⟨n, hn⟩) = _ := angleRow_at m c s ⟨n, hn⟩
  have f (n : ℕ) (hn : n < 16) : (show FVec Ideal S8192x16 .f32 from angled m c main_v20) (ix2 s ⟨n, hn⟩) = _ := angleCol_at m c s ⟨n, hn⟩
  dsimp only at e f
  unfold angle
  by_cases h1 : k.val < 16 <;> by_cases h2 : k.val < 32 <;> by_cases h3 : k.val < 48 <;> (first | omega | skip)
  all_goals (simp only [h1, h2, h3, if_true, if_false, or_true, or_false, false_or, true_or, not_true, not_false_eq_true, and_true, and_false]; pointwise [e, f])

/-- The cosine table. -/
theorem cosTable (s : Fin 8192) (l : Fin 128) : (show FVec Ideal S8192x128 .f32 from V m c main_v35) (ix2 s l) = Ideal.cos (angle s.val (l.val % 64)) :=
  (cos_at m c s l).trans ((congrFun (waveCos (angled m c)) _).trans (waveCos_at m c s _))

theorem waveSin_at (s : Fin 8192) (k : Fin 64) : quad (Host.negf (F := Ideal) (Host.sin (angled m c main_v15))) (Host.sin (angled m c main_v15)) (Host.negf (F := Ideal) (Host.sin (angled m c main_v20))) (Host.sin (angled m c main_v20)) (ix2 s k) = sgn k.val (Ideal.sin (angle s.val k.val)) := by
  rw [quad_at]
  have e (n : ℕ) (hn : n < 16) : (show FVec Ideal S8192x16 .f32 from angled m c main_v15) (ix2 s ⟨n, hn⟩) = _ := angleRow_at m c s ⟨n, hn⟩
  have f (n : ℕ) (hn : n < 16) : (show FVec Ideal S8192x16 .f32 from angled m c main_v20) (ix2 s ⟨n, hn⟩) = _ := angleCol_at m c s ⟨n, hn⟩
  dsimp only at e f
  unfold angle sgn
  have h4 : (k.val % 32 < 16) = (k.val < 16 ∨ (¬ k.val < 32 ∧ k.val < 48)) := propext (by omega)
  simp only [h4]
  by_cases h1 : k.val < 16 <;> by_cases h2 : k.val < 32 <;> by_cases h3 : k.val < 48 <;> (first | omega | skip)
  all_goals (simp only [h1, h2, h3, if_true, if_false, or_true, or_false, false_or, true_or, not_true, not_false_eq_true, and_true, and_false]; pointwise [e, f])

/-- The sine table: the first half of each pair's lanes carries the sign. -/
theorem sinTable (s : Fin 8192) (l : Fin 128) : (show FVec Ideal S8192x128 .f32 from V m c main_v38) (ix2 s l) = sgn (l.val % 64) (Ideal.sin (angle s.val (l.val % 64))) :=
  (sin_at m c s l).trans ((congrFun (waveSin (angled m c)) _).trans (waveSin_at m c s _))
end Cert.InWave
end
-- ==== Proof.InBody.lean ====
/- One grid point of the input projection: what it leaves in its four output blocks, as functions of the blocks it reads. -/
module

public import proofs.«01_k».proof.Proof.Gen.InProjIdeal.Value
public import Idealize.ShloMosaic.Lib.Pipeline.ReadBack
public import Idealize.ShloMosaic.Lib.Pointwise.Tactic
public import Idealize.ShloMosaic.Lib.Tactic

@[expose] public section

set_option maxRecDepth 16384

noncomputable section

namespace Cert.InBody

open Cert.InProjIdeal Cert.InProjIdeal.Gen
open Idealize.ShloMosaic Idealize.ShloMosaic.TcCoe Idealize.SL.Sem

variable {F : FTy → Type} [FloatOps F]

/-! ## The values of a block -/

variable (x0 : Vec F S512x1024 .f32) (x1 : Vec F S1x1024 .f32) (x2 : Vec F S1024x1792 .bf16) (x3 : Vec F S1x512 .f32) (x4 : Vec F S1x128 .f32)
  (x5 : Vec F S512x128 .f32) (x6 : Vec F S512x128 .f32) (x7 : Vec F S512x512 .bf16)

/-- The queries of a block after head normalisation. -/
def qn : FVec F S512x512 .f32 := k0_pay9 (k0_pay8 x0 x1 x2 x7) x3
def qs : FVec F S512x512 .bf16 :=
  k0_pay18 (qn x0 x1 x2 x3 x7) (k0_pay13 x5) (k0_pay14 x6) 32#32 k0_pay15 k0_pay16
def kn : FVec F S512x128 .f32 := k0_pay10 (k0_pay3 x0 x1 x2) (k0_pay7 x7) x4
def kr : FVec F S512x128 .f32 :=
  k0_pay17 (kn x0 x1 x2 x4 x7) (k0_pay11 x5) (k0_pay12 x6) (iota .tc S512x128 32 [1] iota_S512x128_d1_w32)

/-- The query block: a head's rows in the half of the lanes of its key head, zeros in the other half. -/
def outQ : Vec F S1x8x128x512 .bf16 := fun y =>
  if (y 2).val / 64 = (y 1).val / 4 then
    qs x0 x1 x2 x3 x5 x6 x7 (ix2 (⟨(y 1).val * 64 + (y 2).val % 64, by have : (y 1).val < 8 := (y 1).isLt; omega⟩ : Fin 512) (y 3 : Fin 512))
  else (k0_pay19 : FVec F S64x512 .bf16) (ix2 (⟨(y 2).val % 64, by omega⟩ : Fin 64) (y 3 : Fin 512))

/-- The value block: a key head's value rows, then a row of ones and fifteen of zeros. -/
def outV : Vec F S1x2x80x512 .bf16 := fun y =>
  if h : (y 2).val < 64 then
    k0_pay39 (k0_pay4 x0 x1 x2) (ix2 (⟨(y 1).val * 64 + (y 2).val, by have : (y 1).val < 2 := (y 1).isLt; omega⟩ : Fin 128) (y 3 : Fin 512))
  else (k0_pay40 : FVec F S16x512 .bf16) (ix2 (⟨(y 2).val - 64, by have : (y 2).val < 80 := (y 2).isLt; omega⟩ : Fin 16) (y 3 : Fin 512))

theorem outQ_pos {y : S1x8x128x512.Idx} (h : (y 2).val / 64 = (y 1).val / 4) : outQ x0 x1 x2 x3 x5 x6 x7 y
    = qs x0 x1 x2 x3 x5 x6 x7 (ix2 (⟨(y 1).val * 64 + (y 2).val % 64, by have : (y 1).val < 8 := (y 1).isLt; omega⟩ : Fin 512) (y 3 : Fin 512)) := if_pos h
theorem outQ_neg {y : S1x8x128x512.Idx} (h : ¬(y 2).val / 64 = (y 1).val / 4) : outQ x0 x1 x2 x3 x5 x6 x7 y
    = (k0_pay19 : FVec F S64x512 .bf16) (ix2 (⟨(y 2).val % 64, by omega⟩ : Fin 64) (y 3 : Fin 512)) := if_neg h
theorem outV_pos {y : S1x2x80x512.Idx} (h : (y 2).val < 64) : outV x0 x1 x2 y
    = k0_pay39 (k0_pay4 x0 x1 x2) (ix2 (⟨(y 1).val * 64 + (y 2).val, by have : (y 1).val < 2 := (y 1).isLt; omega⟩ : Fin 128) (y 3 : Fin 512)) := dif_pos h
theorem outV_neg {y : S1x2x80x512.Idx} (h : ¬(y 2).val < 64) : outV x0 x1 x2 y
    = (k0_pay40 : FVec F S16x512 .bf16) (ix2 (⟨(y 2).val - 64, by have : (y 2).val < 80 := (y 2).isLt; omega⟩ : Fin 16) (y 3 : Fin 512)) := dif_neg h

/-! ## The stores of the query and value blocks, one after the other -/

theorem zero2 : (![0, 0] : Fin 2 → ℕ) = fun _ => 0 := funext (by decide)

/-- Half `o` of head `h`'s lanes in the query block. -/
abbrev rectQ (h : Fin 8) (o : Fin 2) : Rect S1x8x128x512 := Rect.unit ![0, h.val, o.val * 64, 0] S1x1x64x512.size (by
  intro a; match a with
  | ⟨0, _⟩ => show 0 + 1 ≤ 1; omega
  | ⟨1, _⟩ => show h.val + 1 ≤ 8; omega
  | ⟨2, _⟩ => show o.val * 64 + 64 ≤ 128; omega
  | ⟨3, _⟩ => show 0 + 512 ≤ 512; omega)
/-- Key head `g`'s value rows, and the sixteen rows after them. -/
abbrev rectV (g : Fin 2) : Rect S1x2x80x512 := Rect.unit ![0, g.val, 0, 0] S1x1x64x512.size (by
  intro a; match a with
  | ⟨0, _⟩ => show 0 + 1 ≤ 1; omega
  | ⟨1, _⟩ => show g.val + 1 ≤ 2; omega
  | ⟨2, _⟩ => show 0 + 64 ≤ 80; omega
  | ⟨3, _⟩ => show 0 + 512 ≤ 512; omega)
abbrev rectP (g : Fin 2) : Rect S1x2x80x512 := Rect.unit ![0, g.val, 64, 0] S1x1x16x512.size (by
  intro a; match a with
  | ⟨0, _⟩ => show 0 + 1 ≤ 1; omega
  | ⟨1, _⟩ => show g.val + 1 ≤ 2; omega
  | ⟨2, _⟩ => show 64 + 16 ≤ 80; omega
  | ⟨3, _⟩ => show 0 + 512 ≤ 512; omega)

theorem canonQ_step {P : FVec F S1x1x64x512 .bf16} {L : List (View.Piece (Elt F) S1x8x128x512 .bf16)} {y : S1x8x128x512.Idx} (h : Fin 8) (o : Fin 2) {v : Elt F .bf16}
    (hit : (y 1).val = h.val → (y 2).val / 64 = o.val → P (ix4 (0 : Fin 1) (0 : Fin 1) (⟨(y 2).val % 64, by omega⟩ : Fin 64) (y 3 : Fin 512)) = v)
    (miss : ¬((y 1).val = h.val ∧ (y 2).val / 64 = o.val) → View.canon L y = v) : View.canon (⟨rectQ h o, P⟩ :: L) y = v := by
  by_cases e : (y 1).val = h.val ∧ (y 2).val / 64 = o.val
  · have : (rectQ h o).emb (ix4 (0 : Fin 1) (0 : Fin 1) (⟨(y 2).val % 64, by omega⟩ : Fin 64) (y 3 : Fin 512)) = y := by
      funext a; apply Fin.ext
      match a with
      | ⟨0, _⟩ => show 0 + 1 * 0 = (y 0).val; have : (y 0).val < 1 := (y 0).isLt; omega
      | ⟨1, _⟩ => show h.val + 1 * 0 = (y 1).val; omega
      | ⟨2, _⟩ => show o.val * 64 + 1 * ((y 2).val % 64) = (y 2).val; omega
      | ⟨3, _⟩ => show 0 + 1 * (y 3).val = (y 3).val; omega
    rw [← hit e.1 e.2]
    conv_lhs => rw [← this]
    exact View.canon_cons_emb _ _ _ _
  · rw [View.canon_cons_of_not_mem _ _ ?_]
    · exact miss e
    · intro hy
      obtain ⟨j, hj, e1⟩ := (rectQ h o).toLoadRect.mem_set.mp hy 1
      obtain ⟨k, hk, e2⟩ := (rectQ h o).toLoadRect.mem_set.mp hy 2
      have h1 : j < 1 := hj
      have h2 : (y 1).val = h.val + 1 * j := e1
      have h3 : k < 64 := hk
      have h4 : (y 2).val = o.val * 64 + 1 * k := e2
      exact e ⟨by omega, by omega⟩

theorem canonV_step {P : FVec F S1x1x64x512 .bf16} {L : List (View.Piece (Elt F) S1x2x80x512 .bf16)} {y : S1x2x80x512.Idx} (g : Fin 2) {v : Elt F .bf16}
    (hit : ∀ lt : (y 2).val < 64, (y 1).val = g.val → P (ix4 (0 : Fin 1) (0 : Fin 1) (⟨(y 2).val, lt⟩ : Fin 64) (y 3 : Fin 512)) = v)
    (miss : ¬((y 1).val = g.val ∧ (y 2).val < 64) → View.canon L y = v) : View.canon (⟨rectV g, P⟩ :: L) y = v := by
  by_cases e : (y 1).val = g.val ∧ (y 2).val < 64
  · have : (rectV g).emb (ix4 (0 : Fin 1) (0 : Fin 1) (⟨(y 2).val, e.2⟩ : Fin 64) (y 3 : Fin 512)) = y := by
      funext a; apply Fin.ext
      match a with
      | ⟨0, _⟩ => show 0 + 1 * 0 = (y 0).val; have : (y 0).val < 1 := (y 0).isLt; omega
      | ⟨1, _⟩ => show g.val + 1 * 0 = (y 1).val; omega
      | ⟨2, _⟩ => show 0 + 1 * (y 2).val = (y 2).val; omega
      | ⟨3, _⟩ => show 0 + 1 * (y 3).val = (y 3).val; omega
    rw [← hit e.2 e.1]
    conv_lhs => rw [← this]
    exact View.canon_cons_emb _ _ _ _
  · rw [View.canon_cons_of_not_mem _ _ ?_]
    · exact miss e
    · intro hy
      obtain ⟨j, hj, e1⟩ := (rectV g).toLoadRect.mem_set.mp hy 1
      obtain ⟨k, hk, e2⟩ := (rectV g).toLoadRect.mem_set.mp hy 2
      have h1 : j < 1 := hj
      have h2 : (y 1).val = g.val + 1 * j := e1
      have h3 : k < 64 := hk
      have h4 : (y 2).val = 0 + 1 * k := e2
      exact e ⟨by omega, by omega⟩

theorem canonP_step {P : FVec F S1x1x16x512 .bf16} {L : List (View.Piece (Elt F) S1x2x80x512 .bf16)} {y : S1x2x80x512.Idx} (g : Fin 2) {v : Elt F .bf16}
    (hit : ¬(y 2).val < 64 → (y 1).val = g.val → P (ix4 (0 : Fin 1) (0 : Fin 1) (⟨(y 2).val - 64, by have : (y 2).val < 80 := (y 2).isLt; omega⟩ : Fin 16) (y 3 : Fin 512)) = v)
    (miss : ¬((y 1).val = g.val ∧ ¬(y 2).val < 64) → View.canon L y = v) : View.canon (⟨rectP g, P⟩ :: L) y = v := by
  by_cases e : (y 1).val = g.val ∧ ¬(y 2).val < 64
  · have : (rectP g).emb (ix4 (0 : Fin 1) (0 : Fin 1) (⟨(y 2).val - 64, by have : (y 2).val < 80 := (y 2).isLt; omega⟩ : Fin 16) (y 3 : Fin 512)) = y := by
      funext a; apply Fin.ext
      match a with
      | ⟨0, _⟩ => show 0 + 1 * 0 = (y 0).val; have : (y 0).val < 1 := (y 0).isLt; omega
      | ⟨1, _⟩ => show g.val + 1 * 0 = (y 1).val; omega
      | ⟨2, _⟩ => show 64 + 1 * ((y 2).val - 64) = (y 2).val; omega
      | ⟨3, _⟩ => show 0 + 1 * (y 3).val = (y 3).val; omega
    rw [← hit e.2 e.1]
    conv_lhs => rw [← this]
    exact View.canon_cons_emb _ _ _ _
  · rw [View.canon_cons_of_not_mem _ _ ?_]
    · exact miss e
    · intro hy
      obtain ⟨j, hj, e1⟩ := (rectP g).toLoadRect.mem_set.mp hy 1
      obtain ⟨k, hk, e2⟩ := (rectP g).toLoadRect.mem_set.mp hy 2
      have h1 : j < 1 := hj
      have h2 : (y 1).val = g.val + 1 * j := e1
      have h3 : k < 16 := hk
      have h4 : (y 2).val = 64 + 1 * k := e2
      exact e ⟨by omega, by omega⟩

/-- A matrix stored as part of a four-axis block keeps its entries. -/
theorem tall_at {n : ℕ} {α : Type} (q : (⟨2, ![n, 512]⟩ : Shape).Idx → α) (hc : (⟨2, ![n, 512]⟩ : Shape).ShapeCasts ⟨4, ![1, 1, n, 512]⟩) (r : Fin n) (j : Fin 512) :
    shapeCast ⟨4, ![1, 1, n, 512]⟩ q hc (ix4 (0 : Fin 1) (0 : Fin 1) r j) = q (ix2 r j) :=
  shapeCast_apply _ _ _ _ ((Shape.rowMajor_val_two _).trans (Eq.trans (by
    show r.val * 512 + j.val = ((0 * 1 + 0) * n + r.val) * 512 + j.val
    omega) (Shape.rowMajor_val_four _).symm))

/-- Sixty-four rows of a matrix of queries or of values, stored as part of a block. -/
theorem slice_at {F : FTy → Type} (q : FVec F S512x512 .bf16) (o : ℕ) (hs : S512x512.Slices ![o, 0] S64x512) (hc : S64x512.ShapeCasts S1x1x64x512) (r : Fin 64) (j : Fin 512) (i : Fin 512)
    (hi : i.val = o + r.val) :
    shapeCast S1x1x64x512 (extractStridedSlice S64x512 ![o, 0] q hs) hc (ix4 (0 : Fin 1) (0 : Fin 1) r j) = q (ix2 i j) :=
  (tall_at _ hc r j).trans (extractStridedSlice_apply _ _ _ _ _ fun a => match a with
    | ⟨0, _⟩ => hi
    | ⟨1, _⟩ => (Nat.zero_add _).symm)
theorem slice_at' {F : FTy → Type} (q : FVec F S128x512 .bf16) (o : ℕ) (hs : S128x512.Slices ![o, 0] S64x512) (hc : S64x512.ShapeCasts S1x1x64x512) (r : Fin 64) (j : Fin 512) (i : Fin 128)
    (hi : i.val = o + r.val) :
    shapeCast S1x1x64x512 (extractStridedSlice S64x512 ![o, 0] q hs) hc (ix4 (0 : Fin 1) (0 : Fin 1) r j) = q (ix2 i j) :=
  (tall_at _ hc r j).trans (extractStridedSlice_apply _ _ _ _ _ fun a => match a with
    | ⟨0, _⟩ => hi
    | ⟨1, _⟩ => (Nat.zero_add _).symm)

end Cert.InBody

end
-- ==== Proof.InAt.lean ====
/- The values of one grid point's block of the input projection, read at an element over the extended reals. -/
module

public import proofs.«01_k».proof.Proof.InBody
public import proofs.«01_k».proof.Proof.InMath
public import Idealize.ShloMosaic.Lib.Pipeline.ValueKit

@[expose] public section

set_option maxRecDepth 16384

noncomputable section

namespace Cert.InBody

open Cert.InProjIdeal Cert.InProjIdeal.Gen
open Cert.InMath
open Idealize.ShloMosaic Idealize.ShloMosaic.TcCoe Idealize.SL.Sem

variable (x0 : Vec Ideal S512x1024 .f32) (x1 : Vec Ideal S1x1024 .f32) (x2 : Vec Ideal S1024x1792 .bf16) (x3 : Vec Ideal S1x512 .f32) (x4 : Vec Ideal S1x128 .f32)
  (x5 : Vec Ideal S512x128 .f32) (x6 : Vec Ideal S512x128 .f32) (x7 : Vec Ideal S512x512 .bf16)

/-- The projection of the block's rows. -/
theorem pay2_at (r : Fin 512) (l : Fin 1792) : k0_pay2 (F := Ideal) x0 x1 x2 (ix2 r l) = proj (fun d => x0 (ix2 r d)) (fun d => x1 (ix2 (0 : Fin 1) d)) (fun d => x2 (ix2 d l)) := by
  pointwise [k0_pay2]
  rfl

/-- The remainder of a lane by 32 as the kernel's vector unit takes it. -/
def laneWord (v d : BitVec 32) : BitVec 32 :=
  let e := Scalar.select (Scalar.cmpi .eq 32#32 0#32) 1#32 32#32
  Scalar.select (IntOp.andi (IntOp.xori (IntOp.cmpi .slt (IntOp.remsi .vector v e) 0#32) (Scalar.cmpi .slt e 0#32)) (IntOp.cmpi .ne (IntOp.remsi .vector v e) 0#32))
    (IntOp.addi (IntOp.remsi .vector v e) d) (IntOp.remsi .vector v e)

theorem lane_word : ∀ l : Fin 512, IntOp.cmpi .slt (laneWord (BitVec.ofNat 32 l.val) 32#32) 16#32 = if l.val % 32 < 16 then 1#1 else 0#1 := by decide +kernel

/-- The lane mask chooses between the two rotations. -/
theorem lane_select (l : Fin 512) (a b : EReal) : Scalar.select (IntOp.cmpi .slt (laneWord (BitVec.ofNat 32 l.val) 32#32) 16#32) a b = if l.val % 32 < 16 then a else b := by
  rw [lane_word]
  by_cases h : l.val % 32 < 16 <;> simp [h, Scalar.select]

/-- The queries after head normalisation: the mean of squares is the head's own. -/
theorem qn_at (r : Fin 512) (l : Fin 512) (γ : Fin 64 → EReal) (hp : ∀ j, ∃ y : ℝ, k0_pay2 (F := Ideal) x0 x1 x2 (ix2 r j) = (y : EReal))
    (hb : ∀ i l : Fin 512, x7 (ix2 i l) = if i.val / 64 = l.val / 64 then 1 else 0) (hg : x3 (ix2 (0 : Fin 1) l) = γ ⟨l.val % 64, by omega⟩) :
    qn (F := Ideal) x0 x1 x2 x3 x7 (ix2 r l)
      = headNorm (fun e => k0_pay2 (F := Ideal) x0 x1 x2 (ix2 r ⟨l.val / 64 * 64 + e.val, by omega⟩)) γ ⟨l.val % 64, by omega⟩ := by
  pointwise [qn, k0_pay9, k0_pay8, k0_pay7]
  have hm := group_mean (fun x : Fin 512 => k0_pay2 (F := Ideal) x0 x1 x2 (ix2 r ⟨x.val, by omega⟩))
    (fun x => x7 (ix2 (⟨x.val, by omega⟩ : Fin 512) (⟨l.val, by omega⟩ : Fin 512))) (l.val / 64) (by omega) (fun x => hb _ _) (fun x => hp _)
  refine (congrArg (fun z : EReal => k0_pay2 (F := Ideal) x0 x1 x2 (ix2 r ⟨l.val, by omega⟩) * Ideal.rsqrt (z + eps) * x3 (ix2 (0 : Fin 1) l)) hm).trans ?_
  have hl : ((⟨l.val, by omega⟩ : Fin 1792)) = ⟨l.val / 64 * 64 + l.val % 64, by omega⟩ := Fin.ext (by dsimp only; omega)
  rw [hg]
  exact congrArg (fun j : Fin 1792 => k0_pay2 (F := Ideal) x0 x1 x2 (ix2 r j) * _ * _) hl

/-- The keys after head normalisation: the mean of squares is the head's own. -/
theorem kn_at (r : Fin 512) (l : Fin 128) (γ : Fin 64 → EReal) (hp : ∀ j, ∃ y : ℝ, k0_pay2 (F := Ideal) x0 x1 x2 (ix2 r j) = (y : EReal))
    (hb : ∀ i l : Fin 512, x7 (ix2 i l) = if i.val / 64 = l.val / 64 then 1 else 0) (hg : x4 (ix2 (0 : Fin 1) l) = γ ⟨l.val % 64, by omega⟩) :
    kn (F := Ideal) x0 x1 x2 x4 x7 (ix2 r l)
      = headNorm (fun e => k0_pay2 (F := Ideal) x0 x1 x2 (ix2 r ⟨512 + (l.val / 64 * 64 + e.val), by omega⟩)) γ ⟨l.val % 64, by omega⟩ := by
  pointwise [kn, k0_pay10, k0_pay3, k0_pay7]
  have hm := group_mean (fun x : Fin 128 => k0_pay2 (F := Ideal) x0 x1 x2 (ix2 r ⟨512 + (x.val), by omega⟩))
    (fun x => x7 (ix2 (⟨x.val, by omega⟩ : Fin 512) (⟨l.val, by omega⟩ : Fin 512))) (l.val / 64) (by omega) (fun x => hb _ _) (fun x => hp _)
  refine (congrArg (fun z : EReal => k0_pay2 (F := Ideal) x0 x1 x2 (ix2 r ⟨512 + (l.val), by omega⟩) * Ideal.rsqrt (z + eps) * x4 (ix2 (0 : Fin 1) l)) hm).trans ?_
  have hl : ((⟨512 + (l.val), by omega⟩ : Fin 1792)) = ⟨512 + (l.val / 64 * 64 + l.val % 64), by omega⟩ := Fin.ext (by dsimp only; omega)
  rw [hg]
  exact congrArg (fun j : Fin 1792 => k0_pay2 (F := Ideal) x0 x1 x2 (ix2 r j) * _ * _) hl

/-- The lane a lane is rotated with, among several heads. -/
theorem partner_lane {N : ℕ} (n : Fin N → EReal) (l up down : ℕ) (hl : l / 64 * 64 + 64 ≤ N) (hu : up < N) (hd : down < N)
    (eu : l % 32 < 16 → up = l + 16) (ed : ¬ l % 32 < 16 → down + 16 = l) :
    (if l % 32 < 16 then n ⟨up, hu⟩ else n ⟨down, hd⟩)
      = n ⟨l / 64 * 64 + (partner ⟨l % 64, by omega⟩).val, by have := (partner ⟨l % 64, by omega⟩).isLt; omega⟩ := by
  by_cases h : l % 32 < 16
  · rw [if_pos h]
    refine congrArg n (Fin.ext ?_)
    have : (partner ⟨l % 64, by omega⟩).val = l % 64 + 16 := if_pos (by dsimp only; omega)
    dsimp only
    rw [this, eu h]
    omega
  · rw [if_neg h]
    refine congrArg n (Fin.ext ?_)
    have : (partner ⟨l % 64, by omega⟩).val = l % 64 - 16 := if_neg (by dsimp only; omega)
    have := ed h
    dsimp only
    omega

/-- The rotated keys. -/
theorem kr_at (r : Fin 512) (l : Fin 128) (s : ℕ) (hc : x5 (ix2 r l) = Ideal.cos (angle s (l.val % 64))) (hs : x6 (ix2 r l) = sgn (l.val % 64) (Ideal.sin (angle s (l.val % 64)))) :
    kr (F := Ideal) x0 x1 x2 x4 x5 x6 x7 (ix2 r l) = rot (fun e => kn (F := Ideal) x0 x1 x2 x4 x7 (ix2 r ⟨l.val / 64 * 64 + e.val, by omega⟩)) s ⟨l.val % 64, by omega⟩ := by
  unfold kr
  generalize kn (F := Ideal) x0 x1 x2 x4 x7 = n
  pointwise [k0_pay17, k0_pay11, k0_pay12]
  rw [hc, hs]
  have hsel := (lane_select ⟨l.val, by omega⟩ (n (ix2 r ⟨(l.val + 128 - 112) % 128, by omega⟩)) (n (ix2 r ⟨(l.val + 128 - 16) % 128, by omega⟩))).trans
    (partner_lane (fun j : Fin 128 => n (ix2 r j)) l.val _ _ (by omega) (by omega) (by omega) (by omega) (by omega))
  refine congrArg₂ (fun a b : EReal => a * _ + b * _) ?_ hsel
  exact congrArg (fun j : Fin 128 => n (ix2 r j)) (Fin.ext (by dsimp only; omega))

/-- Four copies of the table side by side. -/
theorem copies {t : Fin 128 → EReal} (l : Fin 512) (v : EReal) (h : ∀ k : Fin 128, k.val % 64 = l.val % 64 → t k = v) :
    (if h : l.val < 128 then t ⟨l.val, h⟩ else if h : l.val - 128 < 128 then t ⟨l.val - 128, h⟩
      else if h : l.val - 128 - 128 < 128 then t ⟨l.val - 128 - 128, h⟩ else t ⟨l.val - 128 - 128 - 128, by omega⟩) = v := by
  split_ifs <;> exact h _ (by first | rfl | (dsimp only; omega))

/-- The rotated and scaled queries, transposed. -/
theorem qs_at (r : Fin 512) (l : Fin 512) (s : ℕ) (hc : ∀ k : Fin 128, x5 (ix2 r k) = Ideal.cos (angle s (k.val % 64))) (hs : ∀ k : Fin 128, x6 (ix2 r k) = sgn (k.val % 64) (Ideal.sin (angle s (k.val % 64)))) :
    qs (F := Ideal) x0 x1 x2 x3 x5 x6 x7 (ix2 l r)
      = rot (fun e => qn (F := Ideal) x0 x1 x2 x3 x7 (ix2 r ⟨l.val / 64 * 64 + e.val, by omega⟩)) s ⟨l.val % 64, by omega⟩ * Ideal.ofBits .f32 1043900987#32 := by
  unfold qs
  generalize qn (F := Ideal) x0 x1 x2 x3 x7 = n
  pointwise [k0_pay18, k0_pay16, k0_pay15, k0_pay13, k0_pay14, k0_pay11, k0_pay12]
  have hsel := (lane_select l (n (ix2 r ⟨(l.val + 512 - 496) % 512, by omega⟩)) (n (ix2 r ⟨(l.val + 512 - 16) % 512, by omega⟩))).trans
    (partner_lane (fun j : Fin 512 => n (ix2 r j)) l.val _ _ (by omega) (by omega) (by omega) (by omega) (by omega))
  have h5 := copies (t := fun k => x5 (ix2 r k)) l (Ideal.cos (angle s (l.val % 64))) (fun k hk => (hc k).trans (by rw [hk]))
  have h6 := copies (t := fun k => x6 (ix2 r k)) l (sgn (l.val % 64) (Ideal.sin (angle s (l.val % 64)))) (fun k hk => (hs k).trans (by rw [hk]))
  have h0 : n (ix2 r l) = n (ix2 r ⟨l.val / 64 * 64 + l.val % 64, by omega⟩) := congrArg (fun j : Fin 512 => n (ix2 r j)) (Fin.ext (by dsimp only; omega))
  exact congrArg (· * Ideal.ofBits .f32 1043900987#32) (congrArg₂ (fun a b : EReal => a + b) (congrArg₂ (fun a b : EReal => a * b) h0 h5) (congrArg₂ (fun a b : EReal => a * b) hsel h6))

/-- The gate branch. -/
theorem hg_at (r : Fin 512) (l : Fin 512) : k0_pay1 (F := Ideal) (k0_pay5 x0 x1 x2) (k0_pay6 x0 x1 x2) (ix2 r l)
    = gated (k0_pay2 (F := Ideal) x0 x1 x2 (ix2 r ⟨768 + l.val, by omega⟩)) (k0_pay2 (F := Ideal) x0 x1 x2 (ix2 r ⟨1280 + l.val, by omega⟩)) := by
  pointwise [k0_pay1, k0_pay5, k0_pay6]
  unfold gated
  rw [zero_sub]

/-- The values, transposed. -/
theorem v_at (r : Fin 512) (l : Fin 128) : k0_pay39 (F := Ideal) (k0_pay4 x0 x1 x2) (ix2 l r) = k0_pay2 (F := Ideal) x0 x1 x2 (ix2 r ⟨640 + l.val, by omega⟩) := by
  pointwise [k0_pay39, k0_pay4]

/-- The row of ones and the rows of zeros below the values. -/
theorem one_at (r : Fin 16) (l : Fin 512) : k0_pay40 (F := Ideal) (ix2 r l) = if r.val < 1 then 1 else 0 := by
  pointwise [k0_pay40]
  have key : ∀ r : Fin 16, IntOp.cmpi .eq (BitVec.ofNat 32 r.val) 0#32 = if r.val < 1 then 1#1 else 0#1 := by decide +kernel
  rw [key]
  by_cases h : r.val < 1 <;> simp [h, Scalar.select]

theorem zero_at (r : Fin 64) (l : Fin 512) : k0_pay19 (F := Ideal) (ix2 r l) = 0 := by
  pointwise [k0_pay19]
end Cert.InBody

end
-- ==== Proof.InOut.lean ====
/- The run of one grid point's body leaves in the four output blocks the values of the blocks it read. -/
module

public import proofs.«01_k».proof.Proof.InBody

@[expose] public section

set_option maxRecDepth 16384

noncomputable section

namespace Cert.InBody

open Cert.InProjIdeal Cert.InProjIdeal.Gen
open Idealize.ShloMosaic Idealize.ShloMosaic.TcCoe Idealize.SL.Sem

variable {F : FTy → Type} [FloatOps F]
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1792 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S1x8x128x512 .bf16) (harg9 : arg9.IsWhole) (arg10 : Memref sig .tc .vmem S512x128 .bf16) (harg10 : arg10.IsWhole) (arg11 : Memref sig .tc .vmem S1x2x80x512 .bf16) (harg11 : arg11.IsWhole) (arg12 : Memref sig .tc .vmem S512x512 .f32) (harg12 : arg12.IsWhole)
  (x0 : Vec F S512x1024 .f32) (x1 : Vec F S1x1024 .f32) (x2 : Vec F S1024x1792 .bf16) (x3 : Vec F S1x512 .f32) (x4 : Vec F S1x128 .f32)
  (x5 : Vec F S512x128 .f32) (x6 : Vec F S512x128 .f32) (x7 : Vec F S512x512 .bf16)

/-- The key block. -/
theorem out9 : out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay38 (kr x0 x1 x2 x4 x5 x6 x7) := by
  have e0 : ∀ inb, View.ld x0 (Rect.unit (s := S512x1024) ![0, 0] ![512, 1024] inb) = x0 := fun inb => View.ld_unit_zero (S := S512x1024) zero2 inb x0
  have e1 : ∀ inb, View.ld x1 (Rect.unit (s := S1x1024) ![0, 0] ![1, 1024] inb) = x1 := fun inb => View.ld_unit_zero (S := S1x1024) zero2 inb x1
  have e2 : ∀ inb, View.ld x2 (Rect.unit (s := S1024x1792) ![0, 0] ![1024, 1792] inb) = x2 := fun inb => View.ld_unit_zero (S := S1024x1792) zero2 inb x2
  have e3 : ∀ inb, View.ld x3 (Rect.unit (s := S1x512) ![0, 0] ![1, 512] inb) = x3 := fun inb => View.ld_unit_zero (S := S1x512) zero2 inb x3
  have e4 : ∀ inb, View.ld x4 (Rect.unit (s := S1x128) ![0, 0] ![1, 128] inb) = x4 := fun inb => View.ld_unit_zero (S := S1x128) zero2 inb x4
  have e5 : ∀ inb, View.ld x5 (Rect.unit (s := S512x128) ![0, 0] ![512, 128] inb) = x5 := fun inb => View.ld_unit_zero (S := S512x128) zero2 inb x5
  have e6 : ∀ inb, View.ld x6 (Rect.unit (s := S512x128) ![0, 0] ![512, 128] inb) = x6 := fun inb => View.ld_unit_zero (S := S512x128) zero2 inb x6
  have e7 : ∀ inb, View.ld x7 (Rect.unit (s := S512x512) ![0, 0] ![512, 512] inb) = x7 := fun inb => View.ld_unit_zero (S := S512x512) zero2 inb x7
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, e0, e1, e2, e3, e4, e5, e6, e7]
  rw [View.canon_unit_zero zero2]
  rfl

/-- The gated convolution input. -/
theorem out11 : out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 = k0_pay1 (k0_pay5 x0 x1 x2) (k0_pay6 x0 x1 x2) := by
  have e0 : ∀ inb, View.ld x0 (Rect.unit (s := S512x1024) ![0, 0] ![512, 1024] inb) = x0 := fun inb => View.ld_unit_zero (S := S512x1024) zero2 inb x0
  have e1 : ∀ inb, View.ld x1 (Rect.unit (s := S1x1024) ![0, 0] ![1, 1024] inb) = x1 := fun inb => View.ld_unit_zero (S := S1x1024) zero2 inb x1
  have e2 : ∀ inb, View.ld x2 (Rect.unit (s := S1024x1792) ![0, 0] ![1024, 1792] inb) = x2 := fun inb => View.ld_unit_zero (S := S1024x1792) zero2 inb x2
  have e3 : ∀ inb, View.ld x3 (Rect.unit (s := S1x512) ![0, 0] ![1, 512] inb) = x3 := fun inb => View.ld_unit_zero (S := S1x512) zero2 inb x3
  have e4 : ∀ inb, View.ld x4 (Rect.unit (s := S1x128) ![0, 0] ![1, 128] inb) = x4 := fun inb => View.ld_unit_zero (S := S1x128) zero2 inb x4
  have e5 : ∀ inb, View.ld x5 (Rect.unit (s := S512x128) ![0, 0] ![512, 128] inb) = x5 := fun inb => View.ld_unit_zero (S := S512x128) zero2 inb x5
  have e6 : ∀ inb, View.ld x6 (Rect.unit (s := S512x128) ![0, 0] ![512, 128] inb) = x6 := fun inb => View.ld_unit_zero (S := S512x128) zero2 inb x6
  have e7 : ∀ inb, View.ld x7 (Rect.unit (s := S512x512) ![0, 0] ![512, 512] inb) = x7 := fun inb => View.ld_unit_zero (S := S512x512) zero2 inb x7
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, e0, e1, e2, e3, e4, e5, e6, e7]
  rw [View.canon_unit_zero zero2]

/-- The value block. -/
theorem out10 : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 = outV x0 x1 x2 := by
  have e0 : ∀ inb, View.ld x0 (Rect.unit (s := S512x1024) ![0, 0] ![512, 1024] inb) = x0 := fun inb => View.ld_unit_zero (S := S512x1024) zero2 inb x0
  have e1 : ∀ inb, View.ld x1 (Rect.unit (s := S1x1024) ![0, 0] ![1, 1024] inb) = x1 := fun inb => View.ld_unit_zero (S := S1x1024) zero2 inb x1
  have e2 : ∀ inb, View.ld x2 (Rect.unit (s := S1024x1792) ![0, 0] ![1024, 1792] inb) = x2 := fun inb => View.ld_unit_zero (S := S1024x1792) zero2 inb x2
  have e3 : ∀ inb, View.ld x3 (Rect.unit (s := S1x512) ![0, 0] ![1, 512] inb) = x3 := fun inb => View.ld_unit_zero (S := S1x512) zero2 inb x3
  have e4 : ∀ inb, View.ld x4 (Rect.unit (s := S1x128) ![0, 0] ![1, 128] inb) = x4 := fun inb => View.ld_unit_zero (S := S1x128) zero2 inb x4
  have e5 : ∀ inb, View.ld x5 (Rect.unit (s := S512x128) ![0, 0] ![512, 128] inb) = x5 := fun inb => View.ld_unit_zero (S := S512x128) zero2 inb x5
  have e6 : ∀ inb, View.ld x6 (Rect.unit (s := S512x128) ![0, 0] ![512, 128] inb) = x6 := fun inb => View.ld_unit_zero (S := S512x128) zero2 inb x6
  have e7 : ∀ inb, View.ld x7 (Rect.unit (s := S512x512) ![0, 0] ![512, 512] inb) = x7 := fun inb => View.ld_unit_zero (S := S512x512) zero2 inb x7
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, e0, e1, e2, e3, e4, e5, e6, e7]
  have b1 : (y 1).val < 2 := (y 1).isLt
  refine canonP_step 1 (fun ge e => ?_) fun (n1 : ¬((y 1).val = 1 ∧ ¬(y 2).val < 64)) => canonV_step 1 (fun lt e => ?_) fun (n2 : ¬((y 1).val = 1 ∧ (y 2).val < 64)) => canonP_step 0 (fun ge e => ?_) fun (n3 : ¬((y 1).val = 0 ∧ ¬(y 2).val < 64)) =>
    canonV_step 0 (fun lt e => ?_) fun (n4 : ¬((y 1).val = 0 ∧ (y 2).val < 64)) => absurd (show False by omega) id
  · exact (tall_at (k0_pay40 : FVec F S16x512 .bf16) shapeCasts_S16x512_S1x1x16x512 _ _).trans (outV_neg x0 x1 x2 ge).symm
  · exact (slice_at' (k0_pay39 (k0_pay4 x0 x1 x2)) 64 slices_S128x512_o64_0_S64x512 shapeCasts_S64x512_S1x1x64x512 (⟨(y 2).val, lt⟩ : Fin 64) (y 3 : Fin 512) (⟨(y 1).val * 64 + (y 2).val, by omega⟩ : Fin 128) (by show (y 1).val * 64 + (y 2).val = 64 + (y 2).val; have : (y 1).val = 1 := e; omega)).trans (outV_pos x0 x1 x2 lt).symm
  · exact (tall_at (k0_pay40 : FVec F S16x512 .bf16) shapeCasts_S16x512_S1x1x16x512 _ _).trans (outV_neg x0 x1 x2 ge).symm
  · exact (slice_at' (k0_pay39 (k0_pay4 x0 x1 x2)) 0 slices_S128x512_o0_0_S64x512 shapeCasts_S64x512_S1x1x64x512 (⟨(y 2).val, lt⟩ : Fin 64) (y 3 : Fin 512) (⟨(y 1).val * 64 + (y 2).val, by omega⟩ : Fin 128) (by show (y 1).val * 64 + (y 2).val = 0 + (y 2).val; have : (y 1).val = 0 := e; omega)).trans (outV_pos x0 x1 x2 lt).symm

/-- The query block. -/
theorem out8 : out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 = outQ x0 x1 x2 x3 x5 x6 x7 := by
  have e0 : ∀ inb, View.ld x0 (Rect.unit (s := S512x1024) ![0, 0] ![512, 1024] inb) = x0 := fun inb => View.ld_unit_zero (S := S512x1024) zero2 inb x0
  have e1 : ∀ inb, View.ld x1 (Rect.unit (s := S1x1024) ![0, 0] ![1, 1024] inb) = x1 := fun inb => View.ld_unit_zero (S := S1x1024) zero2 inb x1
  have e2 : ∀ inb, View.ld x2 (Rect.unit (s := S1024x1792) ![0, 0] ![1024, 1792] inb) = x2 := fun inb => View.ld_unit_zero (S := S1024x1792) zero2 inb x2
  have e3 : ∀ inb, View.ld x3 (Rect.unit (s := S1x512) ![0, 0] ![1, 512] inb) = x3 := fun inb => View.ld_unit_zero (S := S1x512) zero2 inb x3
  have e4 : ∀ inb, View.ld x4 (Rect.unit (s := S1x128) ![0, 0] ![1, 128] inb) = x4 := fun inb => View.ld_unit_zero (S := S1x128) zero2 inb x4
  have e5 : ∀ inb, View.ld x5 (Rect.unit (s := S512x128) ![0, 0] ![512, 128] inb) = x5 := fun inb => View.ld_unit_zero (S := S512x128) zero2 inb x5
  have e6 : ∀ inb, View.ld x6 (Rect.unit (s := S512x128) ![0, 0] ![512, 128] inb) = x6 := fun inb => View.ld_unit_zero (S := S512x128) zero2 inb x6
  have e7 : ∀ inb, View.ld x7 (Rect.unit (s := S512x512) ![0, 0] ![512, 512] inb) = x7 := fun inb => View.ld_unit_zero (S := S512x512) zero2 inb x7
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, e0, e1, e2, e3, e4, e5, e6, e7]
  have b1 : (y 1).val < 8 := (y 1).isLt
  have b2 : (y 2).val < 128 := (y 2).isLt
  refine canonQ_step 7 0 (fun e e' => ?_) <|
    fun (n1 : ¬((y 1).val = 7 ∧ (y 2).val / 64 = 0)) => canonQ_step 7 1 (fun e e' => ?_) <|
    fun (n2 : ¬((y 1).val = 7 ∧ (y 2).val / 64 = 1)) => canonQ_step 6 0 (fun e e' => ?_) <|
    fun (n3 : ¬((y 1).val = 6 ∧ (y 2).val / 64 = 0)) => canonQ_step 6 1 (fun e e' => ?_) <|
    fun (n4 : ¬((y 1).val = 6 ∧ (y 2).val / 64 = 1)) => canonQ_step 5 0 (fun e e' => ?_) <|
    fun (n5 : ¬((y 1).val = 5 ∧ (y 2).val / 64 = 0)) => canonQ_step 5 1 (fun e e' => ?_) <|
    fun (n6 : ¬((y 1).val = 5 ∧ (y 2).val / 64 = 1)) => canonQ_step 4 0 (fun e e' => ?_) <|
    fun (n7 : ¬((y 1).val = 4 ∧ (y 2).val / 64 = 0)) => canonQ_step 4 1 (fun e e' => ?_) <|
    fun (n8 : ¬((y 1).val = 4 ∧ (y 2).val / 64 = 1)) => canonQ_step 3 1 (fun e e' => ?_) <|
    fun (n9 : ¬((y 1).val = 3 ∧ (y 2).val / 64 = 1)) => canonQ_step 3 0 (fun e e' => ?_) <|
    fun (n10 : ¬((y 1).val = 3 ∧ (y 2).val / 64 = 0)) => canonQ_step 2 1 (fun e e' => ?_) <|
    fun (n11 : ¬((y 1).val = 2 ∧ (y 2).val / 64 = 1)) => canonQ_step 2 0 (fun e e' => ?_) <|
    fun (n12 : ¬((y 1).val = 2 ∧ (y 2).val / 64 = 0)) => canonQ_step 1 1 (fun e e' => ?_) <|
    fun (n13 : ¬((y 1).val = 1 ∧ (y 2).val / 64 = 1)) => canonQ_step 1 0 (fun e e' => ?_) <|
    fun (n14 : ¬((y 1).val = 1 ∧ (y 2).val / 64 = 0)) => canonQ_step 0 1 (fun e e' => ?_) <|
    fun (n15 : ¬((y 1).val = 0 ∧ (y 2).val / 64 = 1)) => canonQ_step 0 0 (fun e e' => ?_) <|
    fun (n16 : ¬((y 1).val = 0 ∧ (y 2).val / 64 = 0)) => absurd (show False by
      omega) id
  · exact (tall_at (k0_pay19 : FVec F S64x512 .bf16) shapeCasts_S64x512_S1x1x64x512 _ _).trans (outQ_neg x0 x1 x2 x3 x5 x6 x7 (show ¬(y 2).val / 64 = (y 1).val / 4 by rw [show (y 1).val = 7 from e, show (y 2).val / 64 = 0 from e']; decide)).symm
  · exact (slice_at (qs x0 x1 x2 x3 x5 x6 x7) 448 slices_S512x512_o448_0_S64x512 shapeCasts_S64x512_S1x1x64x512 (⟨(y 2).val % 64, by omega⟩ : Fin 64) (y 3 : Fin 512) (⟨(y 1).val * 64 + (y 2).val % 64, by omega⟩ : Fin 512) (by show (y 1).val * 64 + (y 2).val % 64 = 448 + (y 2).val % 64; have : (y 1).val = 7 := e; omega)).trans (outQ_pos x0 x1 x2 x3 x5 x6 x7 (show (y 2).val / 64 = (y 1).val / 4 by rw [show (y 1).val = 7 from e, show (y 2).val / 64 = 1 from e'])).symm
  · exact (tall_at (k0_pay19 : FVec F S64x512 .bf16) shapeCasts_S64x512_S1x1x64x512 _ _).trans (outQ_neg x0 x1 x2 x3 x5 x6 x7 (show ¬(y 2).val / 64 = (y 1).val / 4 by rw [show (y 1).val = 6 from e, show (y 2).val / 64 = 0 from e']; decide)).symm
  · exact (slice_at (qs x0 x1 x2 x3 x5 x6 x7) 384 slices_S512x512_o384_0_S64x512 shapeCasts_S64x512_S1x1x64x512 (⟨(y 2).val % 64, by omega⟩ : Fin 64) (y 3 : Fin 512) (⟨(y 1).val * 64 + (y 2).val % 64, by omega⟩ : Fin 512) (by show (y 1).val * 64 + (y 2).val % 64 = 384 + (y 2).val % 64; have : (y 1).val = 6 := e; omega)).trans (outQ_pos x0 x1 x2 x3 x5 x6 x7 (show (y 2).val / 64 = (y 1).val / 4 by rw [show (y 1).val = 6 from e, show (y 2).val / 64 = 1 from e'])).symm
  · exact (tall_at (k0_pay19 : FVec F S64x512 .bf16) shapeCasts_S64x512_S1x1x64x512 _ _).trans (outQ_neg x0 x1 x2 x3 x5 x6 x7 (show ¬(y 2).val / 64 = (y 1).val / 4 by rw [show (y 1).val = 5 from e, show (y 2).val / 64 = 0 from e']; decide)).symm
  · exact (slice_at (qs x0 x1 x2 x3 x5 x6 x7) 320 slices_S512x512_o320_0_S64x512 shapeCasts_S64x512_S1x1x64x512 (⟨(y 2).val % 64, by omega⟩ : Fin 64) (y 3 : Fin 512) (⟨(y 1).val * 64 + (y 2).val % 64, by omega⟩ : Fin 512) (by show (y 1).val * 64 + (y 2).val % 64 = 320 + (y 2).val % 64; have : (y 1).val = 5 := e; omega)).trans (outQ_pos x0 x1 x2 x3 x5 x6 x7 (show (y 2).val / 64 = (y 1).val / 4 by rw [show (y 1).val = 5 from e, show (y 2).val / 64 = 1 from e'])).symm
  · exact (tall_at (k0_pay19 : FVec F S64x512 .bf16) shapeCasts_S64x512_S1x1x64x512 _ _).trans (outQ_neg x0 x1 x2 x3 x5 x6 x7 (show ¬(y 2).val / 64 = (y 1).val / 4 by rw [show (y 1).val = 4 from e, show (y 2).val / 64 = 0 from e']; decide)).symm
  · exact (slice_at (qs x0 x1 x2 x3 x5 x6 x7) 256 slices_S512x512_o256_0_S64x512 shapeCasts_S64x512_S1x1x64x512 (⟨(y 2).val % 64, by omega⟩ : Fin 64) (y 3 : Fin 512) (⟨(y 1).val * 64 + (y 2).val % 64, by omega⟩ : Fin 512) (by show (y 1).val * 64 + (y 2).val % 64 = 256 + (y 2).val % 64; have : (y 1).val = 4 := e; omega)).trans (outQ_pos x0 x1 x2 x3 x5 x6 x7 (show (y 2).val / 64 = (y 1).val / 4 by rw [show (y 1).val = 4 from e, show (y 2).val / 64 = 1 from e'])).symm
  · exact (tall_at (k0_pay19 : FVec F S64x512 .bf16) shapeCasts_S64x512_S1x1x64x512 _ _).trans (outQ_neg x0 x1 x2 x3 x5 x6 x7 (show ¬(y 2).val / 64 = (y 1).val / 4 by rw [show (y 1).val = 3 from e, show (y 2).val / 64 = 1 from e']; decide)).symm
  · exact (slice_at (qs x0 x1 x2 x3 x5 x6 x7) 192 slices_S512x512_o192_0_S64x512 shapeCasts_S64x512_S1x1x64x512 (⟨(y 2).val % 64, by omega⟩ : Fin 64) (y 3 : Fin 512) (⟨(y 1).val * 64 + (y 2).val % 64, by omega⟩ : Fin 512) (by show (y 1).val * 64 + (y 2).val % 64 = 192 + (y 2).val % 64; have : (y 1).val = 3 := e; omega)).trans (outQ_pos x0 x1 x2 x3 x5 x6 x7 (show (y 2).val / 64 = (y 1).val / 4 by rw [show (y 1).val = 3 from e, show (y 2).val / 64 = 0 from e'])).symm
  · exact (tall_at (k0_pay19 : FVec F S64x512 .bf16) shapeCasts_S64x512_S1x1x64x512 _ _).trans (outQ_neg x0 x1 x2 x3 x5 x6 x7 (show ¬(y 2).val / 64 = (y 1).val / 4 by rw [show (y 1).val = 2 from e, show (y 2).val / 64 = 1 from e']; decide)).symm
  · exact (slice_at (qs x0 x1 x2 x3 x5 x6 x7) 128 slices_S512x512_o128_0_S64x512 shapeCasts_S64x512_S1x1x64x512 (⟨(y 2).val % 64, by omega⟩ : Fin 64) (y 3 : Fin 512) (⟨(y 1).val * 64 + (y 2).val % 64, by omega⟩ : Fin 512) (by show (y 1).val * 64 + (y 2).val % 64 = 128 + (y 2).val % 64; have : (y 1).val = 2 := e; omega)).trans (outQ_pos x0 x1 x2 x3 x5 x6 x7 (show (y 2).val / 64 = (y 1).val / 4 by rw [show (y 1).val = 2 from e, show (y 2).val / 64 = 0 from e'])).symm
  · exact (tall_at (k0_pay19 : FVec F S64x512 .bf16) shapeCasts_S64x512_S1x1x64x512 _ _).trans (outQ_neg x0 x1 x2 x3 x5 x6 x7 (show ¬(y 2).val / 64 = (y 1).val / 4 by rw [show (y 1).val = 1 from e, show (y 2).val / 64 = 1 from e']; decide)).symm
  · exact (slice_at (qs x0 x1 x2 x3 x5 x6 x7) 64 slices_S512x512_o64_0_S64x512 shapeCasts_S64x512_S1x1x64x512 (⟨(y 2).val % 64, by omega⟩ : Fin 64) (y 3 : Fin 512) (⟨(y 1).val * 64 + (y 2).val % 64, by omega⟩ : Fin 512) (by show (y 1).val * 64 + (y 2).val % 64 = 64 + (y 2).val % 64; have : (y 1).val = 1 := e; omega)).trans (outQ_pos x0 x1 x2 x3 x5 x6 x7 (show (y 2).val / 64 = (y 1).val / 4 by rw [show (y 1).val = 1 from e, show (y 2).val / 64 = 0 from e'])).symm
  · exact (tall_at (k0_pay19 : FVec F S64x512 .bf16) shapeCasts_S64x512_S1x1x64x512 _ _).trans (outQ_neg x0 x1 x2 x3 x5 x6 x7 (show ¬(y 2).val / 64 = (y 1).val / 4 by rw [show (y 1).val = 0 from e, show (y 2).val / 64 = 1 from e']; decide)).symm
  · exact (slice_at (qs x0 x1 x2 x3 x5 x6 x7) 0 slices_S512x512_o0_0_S64x512 shapeCasts_S64x512_S1x1x64x512 (⟨(y 2).val % 64, by omega⟩ : Fin 64) (y 3 : Fin 512) (⟨(y 1).val * 64 + (y 2).val % 64, by omega⟩ : Fin 512) (by show (y 1).val * 64 + (y 2).val % 64 = 0 + (y 2).val % 64; have : (y 1).val = 0 := e; omega)).trans (outQ_pos x0 x1 x2 x3 x5 x6 x7 (show (y 2).val / 64 = (y 1).val / 4 by rw [show (y 1).val = 0 from e, show (y 2).val / 64 = 0 from e'])).symm

end Cert.InBody

end
-- ==== Proof.InRef.lean ====
/- The reference's arrays of the input projection, read at an element. -/
module

public import proofs.«01_k».proof.Proof.Gen.InProjRefIdeal.Read
public import proofs.«01_k».proof.Proof.InMath
public import Idealize.ShloMosaic.Lib.Pipeline.ValueKit
public import Idealize.ShloMosaic.Lib.Pointwise.Tactic

@[expose] public section

set_option maxRecDepth 16384

noncomputable section

namespace Cert.InRef

open Cert.InProjRefIdeal Cert.InProjRefIdeal.Gen Cert.InProjRefIdeal.Read Cert.InMath
open Idealize.ShloMosaic Idealize.ShloMosaic.TcCoe

variable (x : FVec Ideal S4x8192x1024 .f32) (g : FVec Ideal S1024 .f32) (w : FVec Ideal S1024x1792 .f32) (gq gk : FVec Ideal S64 .f32)

theorem row_at (s : Fin 8192) : val_main_v3 (F := Ideal) (ix1 s) = FloatOps.sitofp (F := Ideal) .f32 (BitVec.ofNat 32 (s.val / 64)) := by
  pointwise [val_main_v3, val_main_v2, val_main_v1, val_main_v0]

theorem col_at (s : Fin 8192) : val_main_v8 (F := Ideal) (ix1 s) = FloatOps.sitofp (F := Ideal) .f32 (BitVec.ofNat 32 (s.val % 64)) := by
  pointwise [val_main_v8, val_main_v7, val_main_v6, val_main_v5, val_main_v4]

theorem freq_at (j : Fin 16) : val_main_v14 (F := Ideal) (ix1 j) = freq j.val := by
  pointwise [val_main_v14, val_main_v13, val_main_v12, val_main_v11, val_main_v10, val_main_v9, val_main_cst, val_main_cst_0]
  rfl

theorem p_at (b : Fin 4) (s : Fin 8192) (l : Fin 1792) :
    val_main_v38 (F := Ideal) x g w (ix3 b s l) = proj (fun d => x (ix3 b s d)) (fun d => g (ix1 d)) (fun d => w (ix2 d l)) := by
  pointwise [val_main_v38, val_main_v37, val_main_v36, val_main_v35, val_main_v34, val_main_v33, val_main_v32, val_main_v31, val_main_v30, val_main_v29, val_main_v28, val_main_v27, val_main_v26, val_main_v25, val_main_cst_1, val_main_cst_2, val_main_cst_3]
  rfl

theorem q_at (b : Fin 4) (s : Fin 8192) (h : Fin 8) (e : Fin 64) :
    val_main_v40 (F := Ideal) x g w (ix4 b s h e) = val_main_v38 (F := Ideal) x g w (ix3 b s ⟨h.val * 64 + e.val, by omega⟩) := by
  pointwise [val_main_v40, val_main_v39]
theorem k_at (b : Fin 4) (s : Fin 8192) (h : Fin 2) (e : Fin 64) :
    val_main_v42 (F := Ideal) x g w (ix4 b s h e) = val_main_v38 (F := Ideal) x g w (ix3 b s ⟨512 + (h.val * 64 + e.val), by omega⟩) := by
  pointwise [val_main_v42, val_main_v41]
theorem v_at (b : Fin 4) (s : Fin 8192) (h : Fin 2) (e : Fin 64) :
    val_main_v44 (F := Ideal) x g w (ix4 b s h e) = val_main_v38 (F := Ideal) x g w (ix3 b s ⟨640 + (h.val * 64 + e.val), by omega⟩) := by
  pointwise [val_main_v44, val_main_v43]

theorem qn_at (b : Fin 4) (s : Fin 8192) (h : Fin 8) (e : Fin 64) :
    val_main_v57 (F := Ideal) x g w gq (ix4 b s h e) = headNorm (fun e => val_main_v40 (F := Ideal) x g w (ix4 b s h e)) (fun e => gq (ix1 e)) e := by
  pointwise [val_main_v57, val_main_v56, val_main_v55, val_main_v54, val_main_v53, val_main_v52, val_main_v51, val_main_v50, val_main_v49, val_main_v48, val_main_v47, val_main_v46, val_main_v45, val_main_cst_4, val_main_cst_5, val_main_cst_6]
  rfl
theorem kn_at (b : Fin 4) (s : Fin 8192) (h : Fin 2) (e : Fin 64) :
    val_main_v117 (F := Ideal) x g w gk (ix4 b s h e) = headNorm (fun e => val_main_v42 (F := Ideal) x g w (ix4 b s h e)) (fun e => gk (ix1 e)) e := by
  pointwise [val_main_v117, val_main_v116, val_main_v115, val_main_v114, val_main_v113, val_main_v112, val_main_v111, val_main_v110, val_main_v109, val_main_v108, val_main_v107, val_main_v106, val_main_v105, val_main_cst_8, val_main_cst_9, val_main_cst_10]
  rfl

theorem gated_at (b : Fin 4) (s : Fin 8192) (l : Fin 512) :
    val_main_v171 (F := Ideal) x g w (ix3 b s l) = gated (val_main_v38 (F := Ideal) x g w (ix3 b s ⟨768 + l.val, by omega⟩)) (val_main_v38 (F := Ideal) x g w (ix3 b s ⟨1280 + l.val, by omega⟩)) := by
  pointwise [val_main_v171, val_main_v170, val_main_v169, val_main_v168, val_main_v167, val_main_v166, val_main_v165, val_main_v164, val_main_v163, val_main_cst_11, val_main_cst_12]
  rfl

theorem angleRow_at (s : Fin 8192) (j : Fin 16) : val_main_v19 (F := Ideal) (ix2 s j) = angle s.val j.val := by
  have h : angle s.val j.val = FloatOps.sitofp (F := Ideal) .f32 (BitVec.ofNat 32 (s.val / 64)) * freq j.val := by
    rw [angle, if_pos (by omega), Nat.mod_eq_of_lt (by omega)]
  rw [h]
  pointwise [val_main_v19, val_main_v18, val_main_v17, val_main_v16, val_main_v15]
  exact congrArg₂ (fun a b : EReal => a * b) (row_at s) (freq_at j)

theorem angleCol_at (s : Fin 8192) (j : Fin 16) : val_main_v24 (F := Ideal) (ix2 s j) = angle s.val (32 + j.val) := by
  have h : angle s.val (32 + j.val) = FloatOps.sitofp (F := Ideal) .f32 (BitVec.ofNat 32 (s.val % 64)) * freq j.val := by
    rw [angle, if_neg (by omega), show (32 + j.val) % 16 = j.val by omega]
  rw [h]
  pointwise [val_main_v24, val_main_v23, val_main_v22, val_main_v21, val_main_v20]
  exact congrArg₂ (fun a b : EReal => a * b) (col_at s) (freq_at j)

theorem q0 (b : Fin 4) (s : Fin 8192) (h : Fin 8) (j : Fin 16) :
    val_main_v71 (F := Ideal) x g w gq (ix4 b s h j)
      = val_main_v57 (F := Ideal) x g w gq (ix4 b s h ⟨j.val, by omega⟩) * Ideal.cos (angle s.val j.val) - val_main_v57 (F := Ideal) x g w gq (ix4 b s h ⟨16 + j.val, by omega⟩) * Ideal.sin (angle s.val j.val) := by
  rw [← angleRow_at]
  pointwise [val_main_v71, val_main_v70, val_main_v69, val_main_v68, val_main_v67, val_main_v66, val_main_v65, val_main_v64, val_main_v63, val_main_v62, val_main_v61, val_main_v60, val_main_v59, val_main_v58]
theorem q1 (b : Fin 4) (s : Fin 8192) (h : Fin 8) (j : Fin 16) :
    val_main_v78 (F := Ideal) x g w gq (ix4 b s h j)
      = val_main_v57 (F := Ideal) x g w gq (ix4 b s h ⟨16 + j.val, by omega⟩) * Ideal.cos (angle s.val j.val) + val_main_v57 (F := Ideal) x g w gq (ix4 b s h ⟨j.val, by omega⟩) * Ideal.sin (angle s.val j.val) := by
  rw [← angleRow_at]
  pointwise [val_main_v78, val_main_v77, val_main_v76, val_main_v75, val_main_v74, val_main_v73, val_main_v72, val_main_v64, val_main_v63, val_main_v62, val_main_v61, val_main_v60, val_main_v59, val_main_v58]
theorem q2 (b : Fin 4) (s : Fin 8192) (h : Fin 8) (j : Fin 16) :
    val_main_v93 (F := Ideal) x g w gq (ix4 b s h j)
      = val_main_v57 (F := Ideal) x g w gq (ix4 b s h ⟨32 + j.val, by omega⟩) * Ideal.cos (angle s.val (32 + j.val)) - val_main_v57 (F := Ideal) x g w gq (ix4 b s h ⟨32 + (16 + j.val), by omega⟩) * Ideal.sin (angle s.val (32 + j.val)) := by
  rw [← angleCol_at]
  pointwise [val_main_v93, val_main_v92, val_main_v91, val_main_v90, val_main_v89, val_main_v88, val_main_v87, val_main_v86, val_main_v85, val_main_v84, val_main_v83, val_main_v82, val_main_v81, val_main_v80]
theorem q3 (b : Fin 4) (s : Fin 8192) (h : Fin 8) (j : Fin 16) :
    val_main_v100 (F := Ideal) x g w gq (ix4 b s h j)
      = val_main_v57 (F := Ideal) x g w gq (ix4 b s h ⟨32 + (16 + j.val), by omega⟩) * Ideal.cos (angle s.val (32 + j.val)) + val_main_v57 (F := Ideal) x g w gq (ix4 b s h ⟨32 + j.val, by omega⟩) * Ideal.sin (angle s.val (32 + j.val)) := by
  rw [← angleCol_at]
  pointwise [val_main_v100, val_main_v99, val_main_v98, val_main_v97, val_main_v96, val_main_v95, val_main_v94, val_main_v86, val_main_v85, val_main_v84, val_main_v83, val_main_v82, val_main_v81, val_main_v80]
theorem k0 (b : Fin 4) (s : Fin 8192) (h : Fin 2) (j : Fin 16) :
    val_main_v131 (F := Ideal) x g w gk (ix4 b s h j)
      = val_main_v117 (F := Ideal) x g w gk (ix4 b s h ⟨j.val, by omega⟩) * Ideal.cos (angle s.val j.val) - val_main_v117 (F := Ideal) x g w gk (ix4 b s h ⟨16 + j.val, by omega⟩) * Ideal.sin (angle s.val j.val) := by
  rw [← angleRow_at]
  pointwise [val_main_v131, val_main_v130, val_main_v129, val_main_v128, val_main_v127, val_main_v126, val_main_v125, val_main_v124, val_main_v123, val_main_v122, val_main_v121, val_main_v120, val_main_v119, val_main_v118]
theorem k1 (b : Fin 4) (s : Fin 8192) (h : Fin 2) (j : Fin 16) :
    val_main_v138 (F := Ideal) x g w gk (ix4 b s h j)
      = val_main_v117 (F := Ideal) x g w gk (ix4 b s h ⟨16 + j.val, by omega⟩) * Ideal.cos (angle s.val j.val) + val_main_v117 (F := Ideal) x g w gk (ix4 b s h ⟨j.val, by omega⟩) * Ideal.sin (angle s.val j.val) := by
  rw [← angleRow_at]
  pointwise [val_main_v138, val_main_v137, val_main_v136, val_main_v135, val_main_v134, val_main_v133, val_main_v132, val_main_v124, val_main_v123, val_main_v122, val_main_v121, val_main_v120, val_main_v119, val_main_v118]
theorem k2 (b : Fin 4) (s : Fin 8192) (h : Fin 2) (j : Fin 16) :
    val_main_v153 (F := Ideal) x g w gk (ix4 b s h j)
      = val_main_v117 (F := Ideal) x g w gk (ix4 b s h ⟨32 + j.val, by omega⟩) * Ideal.cos (angle s.val (32 + j.val)) - val_main_v117 (F := Ideal) x g w gk (ix4 b s h ⟨32 + (16 + j.val), by omega⟩) * Ideal.sin (angle s.val (32 + j.val)) := by
  rw [← angleCol_at]
  pointwise [val_main_v153, val_main_v152, val_main_v151, val_main_v150, val_main_v149, val_main_v148, val_main_v147, val_main_v146, val_main_v145, val_main_v144, val_main_v143, val_main_v142, val_main_v141, val_main_v140]
theorem k3 (b : Fin 4) (s : Fin 8192) (h : Fin 2) (j : Fin 16) :
    val_main_v160 (F := Ideal) x g w gk (ix4 b s h j)
      = val_main_v117 (F := Ideal) x g w gk (ix4 b s h ⟨32 + (16 + j.val), by omega⟩) * Ideal.cos (angle s.val (32 + j.val)) + val_main_v117 (F := Ideal) x g w gk (ix4 b s h ⟨32 + j.val, by omega⟩) * Ideal.sin (angle s.val (32 + j.val)) := by
  rw [← angleCol_at]
  pointwise [val_main_v160, val_main_v159, val_main_v158, val_main_v157, val_main_v156, val_main_v155, val_main_v154, val_main_v146, val_main_v145, val_main_v144, val_main_v143, val_main_v142, val_main_v141, val_main_v140]

theorem qr_at (b : Fin 4) (s : Fin 8192) (h : Fin 8) (e : Fin 64) :
    val_main_v102 (F := Ideal) x g w gq (ix4 b s h e) = rot (fun e => val_main_v57 (F := Ideal) x g w gq (ix4 b s h e)) s e := by
  pointwise [val_main_v102, val_main_v101, val_main_v79]
  exact rot_cases (fun e => val_main_v57 (F := Ideal) x g w gq (ix4 b s h e)) s e _ _ _ _ (q0 x g w gq b s h) (q1 x g w gq b s h) (q2 x g w gq b s h) (q3 x g w gq b s h)

theorem kr_at (b : Fin 4) (s : Fin 8192) (h : Fin 2) (e : Fin 64) :
    val_main_v162 (F := Ideal) x g w gk (ix4 b s h e) = rot (fun e => val_main_v117 (F := Ideal) x g w gk (ix4 b s h e)) s e := by
  pointwise [val_main_v162, val_main_v161, val_main_v139]
  exact rot_cases (fun e => val_main_v117 (F := Ideal) x g w gk (ix4 b s h e)) s e _ _ _ _ (k0 x g w gk b s h) (k1 x g w gk b s h) (k2 x g w gk b s h) (k3 x g w gk b s h)

theorem ref_k (b : Fin 4) (s : Fin 8192) (l : Fin 128) :
    val_main_v187 (F := Ideal) x g w gk (ix2 (⟨b.val * 8192 + s.val, by omega⟩ : Fin 32768) l) = val_main_v162 (F := Ideal) x g w gk (ix4 b s ⟨l.val / 64, by omega⟩ ⟨l.val % 64, by omega⟩) := by
  pointwise [val_main_v187, val_main_v186]

theorem ref_hg (b : Fin 4) (s : Fin 8192) (l : Fin 512) :
    val_main_v188 (F := Ideal) x g w (ix2 (⟨b.val * 8192 + s.val, by omega⟩ : Fin 32768) l) = val_main_v171 (F := Ideal) x g w (ix3 b s l) := by
  pointwise [val_main_v188]

theorem ref_q (b : Fin 4) (h : Fin 8) (y : Fin 128) (s : Fin 8192) :
    val_main_v179 (F := Ideal) x g w gq (ix4 b h y s)
      = if h.val / 4 = y.val / 64 then val_main_v102 (F := Ideal) x g w gq (ix4 b s h ⟨y.val % 64, by omega⟩) * Ideal.ofBits .f32 1043900987#32 else 0 := by
  pointwise [val_main_v179, val_main_v178, val_main_v177, val_main_v176, val_main_v175, val_main_v174, val_main_v173, val_main_v172, val_main_v104, val_main_v103, val_main_cst_7, val_main_cst_13]
  have hv (h' : ℕ) (y' : ℕ) (e1 : h' < 8) (e2 : y' < 64) (he1 : h' = h.val) (he2 : y' = y.val % 64) :
      val_main_v102 (F := Ideal) x g w gq (ix4 b s (⟨h', e1⟩ : Fin 8) (⟨y', e2⟩ : Fin 64)) * Ideal.ofBits .f32 1043900987#32
        = val_main_v102 (F := Ideal) x g w gq (ix4 b s h (⟨y.val % 64, by omega⟩ : Fin 64)) * Ideal.ofBits .f32 1043900987#32 := by
    subst he2; subst he1; rfl
  by_cases h1 : h.val < 4
  · refine (dif_pos h1).trans ?_
    by_cases h2 : y.val < 64
    · exact (dif_pos h2).trans ((hv _ _ _ _ rfl (by omega)).trans (if_pos (by omega)).symm)
    · exact (dif_neg h2).trans (if_neg (by omega)).symm
  · refine (dif_neg h1).trans ?_
    by_cases h2 : y.val < 64
    · exact (dif_pos h2).trans (if_neg (by omega)).symm
    · exact (dif_neg h2).trans ((hv _ _ _ _ (by omega) (by omega)).trans (if_pos (by omega)).symm)

theorem ref_v (b : Fin 4) (h : Fin 2) (y : Fin 80) (s : Fin 8192) :
    val_main_v185 (F := Ideal) x g w (ix4 b h y s)
      = if hy : y.val < 64 then val_main_v44 (F := Ideal) x g w (ix4 b s h ⟨y.val, hy⟩) else if y.val - 64 < 1 then 1 else 0 := by
  pointwise [val_main_v185, val_main_v184, val_main_v183, val_main_v182, val_main_v181, val_main_v180, val_main_cst_14, val_main_cst_15]
  simp only [dite_eq_ite]

end Cert.InRef

end
-- ==== Proof.InRun.lean ====
/- What one grid point of the input projection writes, against the reference's arrays. -/
module

public import proofs.«01_k».proof.Proof.InWave
public import proofs.«01_k».proof.Proof.InAt
public import proofs.«01_k».proof.Proof.InOut
public import proofs.«01_k».proof.Proof.InRef

@[expose] public section

set_option maxRecDepth 16384

noncomputable section

namespace Cert.InRun

open Cert.InProjIdeal Cert.InProjIdeal.Gen Cert.InHost Cert.InWave Cert.InBody Cert.InMath
open Idealize.ShloMosaic Idealize.ShloMosaic.TcCoe Idealize.SL.Sem

variable (m : (ℓ : Loc nD τ sig) → Buf (Elt Ideal) ℓ) (c : Dev nD)

/-- Point `t` is the row block `t % 16` of batch `t / 16`. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val % 16, 0] ∧ win0_6.index t = ![t.val % 16, 0] ∧ win0_7.index t = ![0, 0]
    ∧ win0_8.index t = ![t.val / 16, 0, 0, t.val % 16] ∧ win0_9.index t = ![t.val, 0] ∧ win0_10.index t = ![t.val / 16, 0, 0, t.val % 16] ∧ win0_11.index t = ![t.val, 0] :=
  (by decide +kernel : ∀ t : Fin grid0.N, _)

theorem lt64 (t : Fin cfg0.N) : t.val < 64 := lt_of_lt_of_eq t.isLt N_0

abbrev batch (t : Fin cfg0.N) : Fin 4 := ⟨t.val / 16, by have := lt64 t; omega⟩
abbrev tok (t : Fin cfg0.N) (r : Fin 512) : Fin 8192 := ⟨t.val % 16 * 512 + r.val, by omega⟩

/-! ## The blocks a point reads -/

theorem blkX (t : Fin cfg0.N) (r : Fin 512) (d : Fin 1024) : (show FVec Ideal S512x1024 .f32 from iblk m c 0 t) (ix2 r d) = X m c (ix3 (batch t) (tok t r) d) := by
  refine Eq.trans ?_ (x_at m c (batch t) (tok t r) d)
  have := lt64 t
  blk_ext [iblk, idx t]
theorem blkG (t : Fin cfg0.N) (d : Fin 1024) : (show FVec Ideal S1x1024 .f32 from iblk m c 1 t) (ix2 (0 : Fin 1) d) = G m c (ix1 d) := by
  refine Eq.trans ?_ (g_at m c d)
  blk_ext [iblk, idx t]
theorem blkW (t : Fin cfg0.N) (d : Fin 1024) (l : Fin 1792) : (show FVec Ideal S1024x1792 .bf16 from iblk m c 2 t) (ix2 d l) = W m c (ix2 d l) := by
  refine Eq.trans ?_ (w_at m c d l)
  blk_ext [iblk, idx t]
theorem blkGQ (t : Fin cfg0.N) (l : Fin 512) : (show FVec Ideal S1x512 .f32 from iblk m c 3 t) (ix2 (0 : Fin 1) l) = GQ m c (ix1 (⟨l.val % 64, by omega⟩ : Fin 64)) := by
  refine Eq.trans ?_ (gq_at m c l)
  blk_ext [iblk, idx t]
theorem blkGK (t : Fin cfg0.N) (l : Fin 128) : (show FVec Ideal S1x128 .f32 from iblk m c 4 t) (ix2 (0 : Fin 1) l) = GK m c (ix1 (⟨l.val % 64, by omega⟩ : Fin 64)) := by
  refine Eq.trans ?_ (gk_at m c l)
  blk_ext [iblk, idx t]
theorem blkC (t : Fin cfg0.N) (r : Fin 512) (l : Fin 128) : (show FVec Ideal S512x128 .f32 from iblk m c 5 t) (ix2 r l) = Ideal.cos (angle (tok t r).val (l.val % 64)) := by
  refine Eq.trans ?_ (cosTable m c (tok t r) l)
  blk_ext [iblk, idx t]
theorem blkS (t : Fin cfg0.N) (r : Fin 512) (l : Fin 128) : (show FVec Ideal S512x128 .f32 from iblk m c 6 t) (ix2 r l) = sgn (l.val % 64) (Ideal.sin (angle (tok t r).val (l.val % 64))) := by
  refine Eq.trans ?_ (sinTable m c (tok t r) l)
  blk_ext [iblk, idx t]
theorem blkO (t : Fin cfg0.N) (i l : Fin 512) : (show FVec Ideal S512x512 .bf16 from iblk m c 7 t) (ix2 i l) = if i.val / 64 = l.val / 64 then 1 else 0 := by
  refine Eq.trans ?_ (ones_at m c i l)
  blk_ext [iblk, idx t]

/-! ## What a point leaves in the four output blocks -/

theorem outs8 (t : Fin cfg0.N) : (outsAt0 m c t).1 = outQ (F := Ideal) (iblk m c 0 t) (iblk m c 1 t) (iblk m c 2 t) (iblk m c 3 t) (iblk m c 5 t) (iblk m c 6 t) (iblk m c 7 t) := by
  dsimp only [outsAt0]
  rw [out8]
theorem outs9 (t : Fin cfg0.N) : (outsAt0 m c t).2.1 = k0_pay38 (F := Ideal) (kr (F := Ideal) (iblk m c 0 t) (iblk m c 1 t) (iblk m c 2 t) (iblk m c 4 t) (iblk m c 5 t) (iblk m c 6 t) (iblk m c 7 t)) := by
  dsimp only [outsAt0]
  rw [out9]
theorem outs10 (t : Fin cfg0.N) : (outsAt0 m c t).2.2.1 = outV (F := Ideal) (iblk m c 0 t) (iblk m c 1 t) (iblk m c 2 t) := by
  dsimp only [outsAt0]
  rw [out10]
theorem outs11 (t : Fin cfg0.N) : (outsAt0 m c t).2.2.2 = k0_pay1 (F := Ideal) (k0_pay5 (iblk m c 0 t) (iblk m c 1 t) (iblk m c 2 t)) (k0_pay6 (iblk m c 0 t) (iblk m c 1 t) (iblk m c 2 t)) := by
  dsimp only [outsAt0]
  rw [out11]

/-! ## The same values in the reference -/

theorem p_at (t : Fin cfg0.N) (r : Fin 512) (l : Fin 1792) :
    k0_pay2 (F := Ideal) (iblk m c 0 t) (iblk m c 1 t) (iblk m c 2 t) (ix2 r l)
      = Cert.InProjRefIdeal.Read.val_main_v38 (F := Ideal) (X m c) (G m c) (W m c) (ix3 (batch t) (tok t r) l) := by
  refine (pay2_at _ _ _ r l).trans (Eq.trans ?_ (InRef.p_at (X m c) (G m c) (W m c) (batch t) (tok t r) l).symm)
  have h (x x' g g' w w' : Fin 1024 → EReal) (hx : x = x') (hg : g = g') (hw : w = w') : proj x g w = proj x' g' w' := by rw [hx, hg, hw]
  exact h _ _ _ _ _ _ (funext fun d => blkX m c t r d) (funext fun d => blkG m c t d) (funext fun d => blkW m c t d l)

/-- The scale of the normalised tokens and the weights are real. -/
def Real₂ : Prop := (∀ i, ∃ y : ℝ, G m c i = (y : EReal)) ∧ (∀ i, ∃ y : ℝ, W m c i = (y : EReal))

theorem p_real (h : Real₂ m c) (t : Fin cfg0.N) (r : Fin 512) (l : Fin 1792) : ∃ y : ℝ, k0_pay2 (F := Ideal) (iblk m c 0 t) (iblk m c 1 t) (iblk m c 2 t) (ix2 r l) = (y : EReal) := by
  rw [p_at, InRef.p_at]
  exact proj_real _ _ _ (fun d => h.1 _) (fun d => h.2 _)

/-! ## One entry of each output block, as the reference's entry -/

variable {m c}

theorem headNorm_congr {p p' γ γ' : Fin 64 → EReal} (hp : p = p') (hγ : γ = γ') (e : Fin 64) : headNorm p γ e = headNorm p' γ' e := by rw [hp, hγ]
theorem rot_congr {n n' : Fin 64 → EReal} (h : n = n') (s : ℕ) (e : Fin 64) : rot n s e = rot n' s e := by rw [h]

/-- A normalised query: lane `l` of the block belongs to head `l / 64`. -/
theorem qn_ref (h : Real₂ m c) (t : Fin cfg0.N) (r : Fin 512) (l : Fin 512) (k : Fin 8) (e : Fin 64) (hl : l.val = k.val * 64 + e.val) :
    qn (F := Ideal) (iblk m c 0 t) (iblk m c 1 t) (iblk m c 2 t) (iblk m c 3 t) (iblk m c 7 t) (ix2 r l)
      = Cert.InProjRefIdeal.Read.val_main_v57 (F := Ideal) (X m c) (G m c) (W m c) (GQ m c) (ix4 (batch t) (tok t r) k e) := by
  refine (qn_at _ _ _ _ _ r l (fun e => GQ m c (ix1 e)) (p_real m c h t r) (blkO m c t) (blkGQ m c t l)).trans (Eq.trans ?_ (InRef.qn_at _ _ _ _ (batch t) (tok t r) k e).symm)
  have he : (⟨l.val % 64, by omega⟩ : Fin 64) = e := Fin.ext (by dsimp only; omega)
  rw [he]
  refine headNorm_congr (funext fun e' => ?_) rfl e
  refine (p_at m c t r _).trans (Eq.trans ?_ (InRef.q_at _ _ _ (batch t) (tok t r) k e').symm)
  exact congrArg (fun j => Cert.InProjRefIdeal.Read.val_main_v38 (F := Ideal) (X m c) (G m c) (W m c) (ix3 (batch t) (tok t r) j)) (Fin.ext (by dsimp only; omega))

/-- A normalised key: lane `l` of the block belongs to key head `l / 64`. -/
theorem kn_ref (h : Real₂ m c) (t : Fin cfg0.N) (r : Fin 512) (l : Fin 128) (k : Fin 2) (e : Fin 64) (hl : l.val = k.val * 64 + e.val) :
    kn (F := Ideal) (iblk m c 0 t) (iblk m c 1 t) (iblk m c 2 t) (iblk m c 4 t) (iblk m c 7 t) (ix2 r l)
      = Cert.InProjRefIdeal.Read.val_main_v117 (F := Ideal) (X m c) (G m c) (W m c) (GK m c) (ix4 (batch t) (tok t r) k e) := by
  refine (kn_at _ _ _ _ _ r l (fun e => GK m c (ix1 e)) (p_real m c h t r) (blkO m c t) (blkGK m c t l)).trans (Eq.trans ?_ (InRef.kn_at _ _ _ _ (batch t) (tok t r) k e).symm)
  have he : (⟨l.val % 64, by omega⟩ : Fin 64) = e := Fin.ext (by dsimp only; omega)
  rw [he]
  refine headNorm_congr (funext fun e' => ?_) rfl e
  refine (p_at m c t r _).trans (Eq.trans ?_ (InRef.k_at _ _ _ (batch t) (tok t r) k e').symm)
  exact congrArg (fun j => Cert.InProjRefIdeal.Read.val_main_v38 (F := Ideal) (X m c) (G m c) (W m c) (ix3 (batch t) (tok t r) j)) (Fin.ext (by dsimp only; omega))

/-- A rotated key. -/
theorem kr_ref (h : Real₂ m c) (t : Fin cfg0.N) (r : Fin 512) (l : Fin 128) (k : Fin 2) (e : Fin 64) (hl : l.val = k.val * 64 + e.val) :
    kr (F := Ideal) (iblk m c 0 t) (iblk m c 1 t) (iblk m c 2 t) (iblk m c 4 t) (iblk m c 5 t) (iblk m c 6 t) (iblk m c 7 t) (ix2 r l)
      = Cert.InProjRefIdeal.Read.val_main_v162 (F := Ideal) (X m c) (G m c) (W m c) (GK m c) (ix4 (batch t) (tok t r) k e) := by
  refine (kr_at _ _ _ _ _ _ _ r l (tok t r).val (blkC m c t r l) (blkS m c t r l)).trans (Eq.trans ?_ (InRef.kr_at _ _ _ _ (batch t) (tok t r) k e).symm)
  have he : (⟨l.val % 64, by omega⟩ : Fin 64) = e := Fin.ext (by dsimp only; omega)
  rw [he]
  exact rot_congr (funext fun e' => kn_ref h t r _ k e' (by dsimp only; omega)) _ e

/-- A rotated and scaled query. -/
theorem qs_ref (h : Real₂ m c) (t : Fin cfg0.N) (r : Fin 512) (l : Fin 512) (k : Fin 8) (e : Fin 64) (hl : l.val = k.val * 64 + e.val) :
    qs (F := Ideal) (iblk m c 0 t) (iblk m c 1 t) (iblk m c 2 t) (iblk m c 3 t) (iblk m c 5 t) (iblk m c 6 t) (iblk m c 7 t) (ix2 l r)
      = Cert.InProjRefIdeal.Read.val_main_v102 (F := Ideal) (X m c) (G m c) (W m c) (GQ m c) (ix4 (batch t) (tok t r) k e) * Ideal.ofBits .f32 1043900987#32 := by
  refine (qs_at _ _ _ _ _ _ _ r l (tok t r).val (blkC m c t r) (blkS m c t r)).trans (congrArg (· * Ideal.ofBits .f32 1043900987#32) (Eq.trans ?_ (InRef.qr_at _ _ _ _ (batch t) (tok t r) k e).symm))
  have he : (⟨l.val % 64, by omega⟩ : Fin 64) = e := Fin.ext (by dsimp only; omega)
  rw [he]
  exact rot_congr (funext fun e' => qn_ref h t r _ k e' (by dsimp only; omega)) _ e

/-- The key block is a block of the reference's keys. -/
theorem point9 (h : Real₂ m c) (t : Fin cfg0.N) (r : Fin 512) (l : Fin 128) :
    (outsAt0 m c t).2.1 (ix2 r l) = Cert.InProjRefIdeal.Read.val_main_v187 (F := Ideal) (X m c) (G m c) (W m c) (GK m c) (ix2 (⟨(batch t).val * 8192 + (tok t r).val, by have := lt64 t; dsimp only; omega⟩ : Fin 32768) l) := by
  rw [outs9]
  refine Eq.trans ?_ (InRef.ref_k _ _ _ _ (batch t) (tok t r) l).symm
  exact kr_ref h t r l _ _ (by dsimp only; omega)

/-- The gate block is a block of the reference's gates. -/
theorem point11 (t : Fin cfg0.N) (r : Fin 512) (l : Fin 512) :
    (outsAt0 m c t).2.2.2 (ix2 r l) = Cert.InProjRefIdeal.Read.val_main_v188 (F := Ideal) (X m c) (G m c) (W m c) (ix2 (⟨(batch t).val * 8192 + (tok t r).val, by have := lt64 t; dsimp only; omega⟩ : Fin 32768) l) := by
  rw [outs11]
  refine Eq.trans ?_ (InRef.ref_hg _ _ _ (batch t) (tok t r) l).symm
  refine (hg_at _ _ _ r l).trans (Eq.trans ?_ (InRef.gated_at _ _ _ (batch t) (tok t r) l).symm)
  rw [p_at, p_at]

/-- The query block is a block of the reference's queries. -/
theorem point8 (h : Real₂ m c) (t : Fin cfg0.N) (a : Fin 1) (k : Fin 8) (y : Fin 128) (r : Fin 512) :
    (outsAt0 m c t).1 (ix4 a k y r) = Cert.InProjRefIdeal.Read.val_main_v179 (F := Ideal) (X m c) (G m c) (W m c) (GQ m c) (ix4 (batch t) k y (tok t r)) := by
  rw [outs8]
  refine Eq.trans ?_ (InRef.ref_q _ _ _ _ (batch t) k y (tok t r)).symm
  by_cases hh : k.val / 4 = y.val / 64
  · rw [if_pos hh]
    exact (outQ_pos _ _ _ _ _ _ _ hh.symm).trans (qs_ref h t r _ k ⟨y.val % 64, by omega⟩ rfl)
  · rw [if_neg hh]
    exact (outQ_neg _ _ _ _ _ _ _ fun e => hh e.symm).trans (zero_at _ _)

/-- The value block is a block of the reference's values. -/
theorem point10 (t : Fin cfg0.N) (a : Fin 1) (k : Fin 2) (y : Fin 80) (r : Fin 512) :
    (outsAt0 m c t).2.2.1 (ix4 a k y r) = Cert.InProjRefIdeal.Read.val_main_v185 (F := Ideal) (X m c) (G m c) (W m c) (ix4 (batch t) k y (tok t r)) := by
  rw [outs10]
  refine Eq.trans ?_ (InRef.ref_v _ _ _ (batch t) k y (tok t r)).symm
  by_cases hh : y.val < 64
  · refine Eq.trans ?_ (dif_pos hh).symm
    refine (outV_pos _ _ _ hh).trans ((v_at _ _ _ r _).trans ((p_at m c t r _).trans ?_))
    exact (InRef.v_at _ _ _ (batch t) (tok t r) k ⟨y.val, hh⟩).symm
  · refine Eq.trans ?_ (dif_neg hh).symm
    exact (outV_neg _ _ _ hh).trans (one_at _ _)

end Cert.InRun

end
-- ==== Proof.InEq.lean ====
/- The precondition as real weights, and the four arrays the input projection leaves, as the reference's. -/
module

public import proofs.«01_k».proof.Proof.InRun
public import proofs.«01_k».proof.Proof.AttnEq
public import proofs.«01_k».proof.Proof.Gen.InProjIdeal.Value
public import proofs.«01_k».proof.Pre_finite_weights

@[expose] public section

set_option maxRecDepth 16384

noncomputable section

namespace Cert.InRun

open Cert.InProjIdeal Cert.InProjIdeal.Gen Cert.InHost
open Idealize.ShloMosaic Idealize.ShloMosaic.TcCoe Idealize.SL.Sem

/-- The precondition makes the scale of the tokens and the weights real. -/
theorem reals [Cert.Pre_finite_weights.Facts] (m : (ℓ : Loc nD τ sig) → Buf (Elt Ideal) ℓ) (c : Dev nD)
    (h : (Cert.Pre_finite_weights.fn (F := Ideal) (X m c) (G m c) (W m c) (GQ m c) (GK m c)).1 = (fun _ => 1#1)
      ∧ (Cert.Pre_finite_weights.fn (F := Ideal) (X m c) (G m c) (W m c) (GQ m c) (GK m c)).2 = (fun _ => 1#1)) : Real₂ m c :=
  ⟨fun i => Cert.AttnEq.real_of_abs_lt (G m c i) (congrFun h.1 i), fun i => Cert.AttnEq.real_of_abs_lt (W m c i) (congrFun h.2 i)⟩

variable {m : (ℓ : Loc nD τ sig) → Buf (Elt Ideal) ℓ} {c : Dev nD}

/-- The queries. -/
theorem final8 (h : Real₂ m c) : (dats m 0 c).arrAt 8 cfg0.N = Cert.InProjRefIdeal.Read.val_main_v179 (F := Ideal) (X m c) (G m c) (W m c) (GQ m c) := by
  refine (dats m 0 c).arrAt_eq_of_covers 8 _ (by decide +kernel) fun t _ y => ?_
  blk_simp
  rw [after0_8]
  refine (congrArg (outsAt0 m c t).1 (by blk_ext : _ = ix4 (y 0 : Fin 1) (y 1 : Fin 8) (y 2 : Fin 128) (y 3 : Fin 512))).trans ((point8 h t (y 0) (y 1) (y 2) (y 3)).trans (congrArg _ ?_))
  blk_ext [idx t]

/-- The keys. -/
theorem final9 (h : Real₂ m c) : (dats m 0 c).arrAt 9 cfg0.N = Cert.InProjRefIdeal.Read.val_main_v187 (F := Ideal) (X m c) (G m c) (W m c) (GK m c) := by
  refine (dats m 0 c).arrAt_eq_of_covers 9 _ (by decide +kernel) fun t _ y => ?_
  blk_simp
  rw [after0_9]
  refine (congrArg (outsAt0 m c t).2.1 (by blk_ext : _ = ix2 (y 0 : Fin 512) (y 1 : Fin 128))).trans ((point9 h t (y 0) (y 1)).trans (congrArg _ ?_))
  blk_ext [idx t]

/-- The values. -/
theorem final10 : (dats m 0 c).arrAt 10 cfg0.N = Cert.InProjRefIdeal.Read.val_main_v185 (F := Ideal) (X m c) (G m c) (W m c) := by
  refine (dats m 0 c).arrAt_eq_of_covers 10 _ (by decide +kernel) fun t _ y => ?_
  blk_simp
  rw [after0_10]
  refine (congrArg (outsAt0 m c t).2.2.1 (by blk_ext : _ = ix4 (y 0 : Fin 1) (y 1 : Fin 2) (y 2 : Fin 80) (y 3 : Fin 512))).trans ((point10 t (y 0) (y 1) (y 2) (y 3)).trans (congrArg _ ?_))
  blk_ext [idx t]

/-- The gates. -/
theorem final11 : (dats m 0 c).arrAt 11 cfg0.N = Cert.InProjRefIdeal.Read.val_main_v188 (F := Ideal) (X m c) (G m c) (W m c) := by
  refine (dats m 0 c).arrAt_eq_of_covers 11 _ (by decide +kernel) fun t _ y => ?_
  blk_simp
  rw [after0_11]
  refine (congrArg (outsAt0 m c t).2.2.2 (by blk_ext : _ = ix2 (y 0 : Fin 512) (y 1 : Fin 512))).trans ((point11 t (y 0) (y 1)).trans (congrArg _ ?_))
  blk_ext [idx t]

end Cert.InRun

end
-- ==== Proof.MixHost.lean ====
/- The arrays the token mixing's launch stages, read at an element over the arguments. -/
module

public import proofs.«01_k».proof.Proof.Gen.MixIdeal.Value
public import Idealize.ShloMosaic.Lib.Claim
public import Idealize.ShloMosaic.Lib.Pipeline.ValueKit
public import Idealize.ShloMosaic.Lib.Pointwise.Tactic

@[expose] public section

set_option maxRecDepth 16384

noncomputable section

namespace Cert.MixHost

open Cert.MixIdeal Cert.MixIdeal.Gen
open Idealize.ShloMosaic Idealize.ShloMosaic.TcCoe Idealize.SL.Sem

variable (m : (ℓ : Loc nD τ sig) → Buf (Elt Ideal) ℓ) (c : Dev nD)

abbrev A : FVec Ideal S4x8192x512 .f32 := m ((c : Thread nD τ).loc main_arg0)
abbrev H : FVec Ideal S4x8192x512 .f32 := m ((c : Thread nD τ).loc main_arg1)
abbrev CW : FVec Ideal S31x1x512 .f32 := m ((c : Thread nD τ).loc main_arg2)
abbrev CB : FVec Ideal S512 .f32 := m ((c : Thread nD τ).loc main_arg3)
abbrev LG : FVec Ideal S512 .f32 := m ((c : Thread nD τ).loc main_arg4)
abbrev LB : FVec Ideal S512 .f32 := m ((c : Thread nD τ).loc main_arg5)
abbrev W : FVec Ideal S1024x1024 .f32 := m ((c : Thread nD τ).loc main_arg6)
abbrev X : FVec Ideal S4x8192x1024 .f32 := m ((c : Thread nD τ).loc main_arg7)
abbrev G : FVec Ideal S1024 .f32 := m ((c : Thread nD τ).loc main_arg8)

theorem a_at (b : Fin 4) (s : Fin 8192) (q : Fin 512) :
    (show FVec Ideal S32768x512 .bf16 from V m c main_v4) (ix2 (⟨b.val * 8192 + s.val, by omega⟩ : Fin 32768) q) = A m c (ix3 b s q) := by
  entry_read
  pointwise
  exact congrArg₂ (fun a d => A m c (ix3 a d q)) (Fin.ext (by dsimp only; omega)) (Fin.ext (by dsimp only; omega))
theorem h_at (b : Fin 4) (s : Fin 8192) (q : Fin 512) :
    (show FVec Ideal S32768x512 .f32 from V m c main_v5) (ix2 (⟨b.val * 8192 + s.val, by omega⟩ : Fin 32768) q) = H m c (ix3 b s q) := by
  entry_read
  pointwise
theorem cw_at (k : ℕ) (hk : k < 31) (q : Fin 512) :
    (show FVec Ideal S32x512 .f32 from V m c main_v2) (ix2 (⟨k, by omega⟩ : Fin 32) q) = CW m c (ix3 (⟨k, hk⟩ : Fin 31) (0 : Fin 1) q) := by
  entry_read
  pointwise
  exact dif_pos hk
theorem cb_at (q : Fin 512) : (show FVec Ideal S1x512 .f32 from V m c main_v6) (ix2 (0 : Fin 1) q) = CB m c (ix1 q) := by
  entry_read
  pointwise
theorem lg_at (q : Fin 512) : (show FVec Ideal S1x512 .f32 from V m c main_v7) (ix2 (0 : Fin 1) q) = LG m c (ix1 q) := by
  entry_read
  pointwise
theorem lb_at (q : Fin 512) : (show FVec Ideal S1x512 .f32 from V m c main_v8) (ix2 (0 : Fin 1) q) = LB m c (ix1 q) := by
  entry_read
  pointwise
theorem w_at (e d : Fin 1024) : (show FVec Ideal S1024x1024 .bf16 from V m c main_v9) (ix2 e d) = W m c (ix2 e d) := by
  entry_read
  pointwise
theorem x_at (b : Fin 4) (s : Fin 8192) (d : Fin 1024) :
    (show FVec Ideal S32768x1024 .f32 from V m c main_v10) (ix2 (⟨b.val * 8192 + s.val, by omega⟩ : Fin 32768) d) = X m c (ix3 b s d) := by
  entry_read
  pointwise
theorem g_at (d : Fin 1024) : (show FVec Ideal S1x1024 .f32 from V m c main_v11) (ix2 (0 : Fin 1) d) = G m c (ix1 d) := by
  entry_read
  pointwise

end Cert.MixHost

end
-- ==== Proof.MixTile.lean ====
/- The depthwise convolution and its normalisation on thirty-two rows: the kernel's two copies of the text are one function. -/
module

public import proofs.«01_k».proof.Proof.Gen.MixIdeal.Value

@[expose] public section

set_option maxRecDepth 16384

noncomputable section

namespace Cert.MixTile

open Cert.MixIdeal Cert.MixIdeal.Gen
open Idealize.ShloMosaic Idealize.ShloMosaic.TcCoe Idealize.SL.Sem

variable {F : FTy → Type} [FloatOps F]

/-- A window's rows rotated. -/
def turn (n : BitVec 32) (w : FVec F S64x128 .f32) : FVec F S64x128 .f32 := dynamicRotate 0 n none w rotates_S64x128_d0

/-- One tap: thirty-two rows of the window from row `o`, times row `k` of the weights at the lane tile that starts at `l`. -/
def tap (w : FVec F S64x128 .f32) (cw : FVec F S32x512 .f32) (o k l : ℕ) (h : S64x128.Slices ![o, 0] S32x128) (h' : S32x512.Slices ![k, l] S1x128) : FVec F S32x128 .f32 :=
  mulf (extractStridedSlice S32x128 ![o, 0] w h) (broadcastTo S32x128 (extractStridedSlice S1x128 ![k, l] cw h') broadcasts_S1x128_S32x128)

theorem at_tap {l : ℕ} (h : S32x512.Slices ![0, l] S1x128) (k : ℕ) (hk : k + 1 ≤ 32) : S32x512.Slices ![k, l] S1x128 := by
  obtain ⟨hr, h⟩ := h
  refine ⟨hr, fun a => ?_⟩
  have e := h a
  match a with
  | ⟨0, _⟩ => exact hk
  | ⟨1, _⟩ => exact e

/-- The thirty-one taps of a lane tile, in the order the kernel adds them. -/
def taps (cw : FVec F S32x512 .f32) (l : ℕ) (h : S32x512.Slices ![0, l] S1x128) (w : FVec F S64x128 .f32) : FVec F S32x128 .f32 :=
  addf (addf (addf (addf (addf (addf (addf (addf (addf (addf (addf (addf (addf (addf (addf (addf (addf (addf (addf (addf (addf (addf (addf (addf (addf (addf (addf (addf (addf (addf (addf (broadcast S32x128 (Scalar.ofBits .f32 0x00000000#32))
    (tap w cw 8 7 l (by decide) (at_tap h 7 (by decide))))
    (tap w cw 16 15 l (by decide) (at_tap h 15 (by decide))))
    (tap w cw 24 23 l (by decide) (at_tap h 23 (by decide))))
    (tap (turn 63#32 w) cw 0 0 l (by decide) (at_tap h 0 (by decide))))
    (tap (turn 63#32 w) cw 8 8 l (by decide) (at_tap h 8 (by decide))))
    (tap (turn 63#32 w) cw 16 16 l (by decide) (at_tap h 16 (by decide))))
    (tap (turn 63#32 w) cw 24 24 l (by decide) (at_tap h 24 (by decide))))
    (tap (turn 62#32 w) cw 0 1 l (by decide) (at_tap h 1 (by decide))))
    (tap (turn 62#32 w) cw 8 9 l (by decide) (at_tap h 9 (by decide))))
    (tap (turn 62#32 w) cw 16 17 l (by decide) (at_tap h 17 (by decide))))
    (tap (turn 62#32 w) cw 24 25 l (by decide) (at_tap h 25 (by decide))))
    (tap (turn 61#32 w) cw 0 2 l (by decide) (at_tap h 2 (by decide))))
    (tap (turn 61#32 w) cw 8 10 l (by decide) (at_tap h 10 (by decide))))
    (tap (turn 61#32 w) cw 16 18 l (by decide) (at_tap h 18 (by decide))))
    (tap (turn 61#32 w) cw 24 26 l (by decide) (at_tap h 26 (by decide))))
    (tap (turn 60#32 w) cw 0 3 l (by decide) (at_tap h 3 (by decide))))
    (tap (turn 60#32 w) cw 8 11 l (by decide) (at_tap h 11 (by decide))))
    (tap (turn 60#32 w) cw 16 19 l (by decide) (at_tap h 19 (by decide))))
    (tap (turn 60#32 w) cw 24 27 l (by decide) (at_tap h 27 (by decide))))
    (tap (turn 59#32 w) cw 0 4 l (by decide) (at_tap h 4 (by decide))))
    (tap (turn 59#32 w) cw 8 12 l (by decide) (at_tap h 12 (by decide))))
    (tap (turn 59#32 w) cw 16 20 l (by decide) (at_tap h 20 (by decide))))
    (tap (turn 59#32 w) cw 24 28 l (by decide) (at_tap h 28 (by decide))))
    (tap (turn 58#32 w) cw 0 5 l (by decide) (at_tap h 5 (by decide))))
    (tap (turn 58#32 w) cw 8 13 l (by decide) (at_tap h 13 (by decide))))
    (tap (turn 58#32 w) cw 16 21 l (by decide) (at_tap h 21 (by decide))))
    (tap (turn 58#32 w) cw 24 29 l (by decide) (at_tap h 29 (by decide))))
    (tap (turn 57#32 w) cw 0 6 l (by decide) (at_tap h 6 (by decide))))
    (tap (turn 57#32 w) cw 8 14 l (by decide) (at_tap h 14 (by decide))))
    (tap (turn 57#32 w) cw 16 22 l (by decide) (at_tap h 22 (by decide))))
    (tap (turn 57#32 w) cw 24 30 l (by decide) (at_tap h 30 (by decide)))

/-- A chunk's normalised and gated rows, from its four lane tiles before the bias. -/
def norm (t0 t1 t2 t3 : FVec F S32x128 .f32) (cb lg lb : FVec F S1x512 .f32) : FVec F S32x512 .bf16 :=
  let x := addf (concatenate S32x512 1 [⟨S32x128, t0⟩, ⟨S32x128, t1⟩, ⟨S32x128, t2⟩, ⟨S32x128, t3⟩] concatenates_S32x128_S32x128_S32x128_S32x128_S32x512_d1)
    (broadcastTo S32x512 cb broadcasts_S1x512_S32x512)
  let d := subf x (broadcastTo S32x512 (divf (shapeCast S32x1 (multiReduction .add [1] S32 x 0x00000000#32 reduces_S32x512_S32 (.inl rfl) rfl) shapeCasts_S32_S32x1) (broadcast S32x1 (Scalar.ofBits .f32 0x44000000#32))) broadcasts_S32x1_S32x512)
  let v := divf (shapeCast S32x1 (multiReduction .add [1] S32 (mulf d d) 0x00000000#32 reduces_S32x512_S32 (.inl rfl) rfl) shapeCasts_S32_S32x1) (broadcast S32x1 (Scalar.ofBits .f32 0x44000000#32))
  let y := addf (mulf (mulf d (broadcastTo S32x512 (rsqrt (addf v (broadcast S32x1 (Scalar.ofBits .f32 0x358637BD#32)))) broadcasts_S32x1_S32x512)) (broadcastTo S32x512 lg broadcasts_S1x512_S32x512)) (broadcastTo S32x512 lb broadcasts_S1x512_S32x512)
  shapeCast S32x512 (truncf .bf16 (mulf y (divf (broadcast S32x512 (Scalar.ofBits .f32 0x3F800000#32)) (addf (broadcast S32x512 (Scalar.ofBits .f32 0x3F800000#32)) (exp (subf (broadcast S32x512 (Scalar.ofBits .f32 0x00000000#32)) y))))) bitsLt_bf16_f32) shapeCasts_S32x512_S32x512

/-- A chunk's rows, from its four windows. -/
def chunk (cw : Vec F S32x512 .f32) (cb lg lb : Vec F S1x512 .f32) (w0 w1 w2 w3 : Vec F S64x128 .f32) : FVec F S32x512 .bf16 :=
  norm (taps (k0_pay78 cw) 0 slices_S32x512_o0_0_S1x128 w0) (taps (k0_pay78 cw) 128 slices_S32x512_o0_128_S1x128 w1) (taps (k0_pay78 cw) 256 slices_S32x512_o0_256_S1x128 w2)
    (taps (k0_pay78 cw) 384 slices_S32x512_o0_384_S1x128 w3) (k0_pay79 cb) (k0_pay80 lg) (k0_pay81 lb)

variable (v36 : FVec F S32x512 .f32) (w : Vec F S64x128 .f32)

theorem tile0 : k0_pay8 v36 w (k0_pay5 v36 w (k0_pay3 w) (k0_pay4 v36 w)) (k0_pay6 w) (k0_pay7 v36 w) = taps v36 0 slices_S32x512_o0_0_S1x128 w := rfl
theorem tile1 : k0_pay14 v36 w (k0_pay12 w) (k0_pay13 v36 w (k0_pay10 v36 w) (k0_pay11 w)) = taps v36 128 slices_S32x512_o0_128_S1x128 w := rfl
theorem tile2 : k0_pay22 v36 w (k0_pay20 v36 w (k0_pay17 v36 w k0_pay15 (k0_pay16 w)) (k0_pay18 w)) (k0_pay21 w) = taps v36 256 slices_S32x512_o0_256_S1x128 w := rfl
theorem tile4 : k0_pay45 v36 w (k0_pay41 w) (k0_pay42 v36 w (k0_pay39 v36 w (k0_pay34 v36 w) (k0_pay35 w) (k0_pay36 w) (k0_pay37 v36)) (k0_pay40 v36 w)) (k0_pay43 w) (k0_pay44 v36)
    = taps v36 0 slices_S32x512_o0_0_S1x128 w := rfl
theorem tile5 : k0_pay56 v36 w (k0_pay54 v36 w (k0_pay49 v36 w (k0_pay46 w) (k0_pay47 v36 w) (k0_pay48 v36 w)) (k0_pay50 w) (k0_pay51 w) (k0_pay52 v36)) (k0_pay55 v36 w)
    = taps v36 128 slices_S32x512_o0_128_S1x128 w := rfl
theorem tile6 : k0_pay66 v36 (k0_pay62 v36 w (k0_pay59 w) (k0_pay60 v36 w (k0_pay57 w) (k0_pay58 v36 w)) (k0_pay61 v36 w)) (k0_pay63 w) (k0_pay64 w) (k0_pay65 v36)
    = taps v36 256 slices_S32x512_o0_256_S1x128 w := rfl

/-- The first chunk's rows. -/
theorem chunkA (v38 v40 v42 : FVec F S1x512 .f32) (t0 t1 t2 : FVec F S32x128 .f32) :
    k0_pay33 v40 v42
      (k0_pay31 v36 v38 t0 t1 t2 w (k0_pay29 v36 w (k0_pay26 w) (k0_pay27 v36 w (k0_pay23 v36 w) (k0_pay24 w) (k0_pay25 v36)) (k0_pay28 w)) (k0_pay30 w))
      (k0_pay32 v36 v38 t0 t1 t2 w (k0_pay29 v36 w (k0_pay26 w) (k0_pay27 v36 w (k0_pay23 v36 w) (k0_pay24 w) (k0_pay25 v36)) (k0_pay28 w)) (k0_pay30 w))
      = norm t0 t1 t2 (taps v36 384 slices_S32x512_o0_384_S1x128 w) v38 v40 v42 := rfl

/-- The second chunk's rows. -/
theorem chunkB (v38 v40 : FVec F S1x512 .f32) (v41 : Vec F S1x512 .f32) (t0 t1 t2 : FVec F S32x128 .f32) :
    k0_pay82 v41
      (k0_pay73 v36 v38 t0 t1 t2 (k0_pay70 w) (k0_pay71 v36 w (k0_pay68 w) (k0_pay69 v36 w (k0_pay67 v36 w) 62#32)) (k0_pay72 v36 w))
      (k0_pay74 v40)
      = norm t0 t1 t2 (taps v36 384 slices_S32x512_o0_384_S1x128 w) v38 v40 (k0_pay81 v41) := rfl

end Cert.MixTile

end
-- ==== Proof.MixLoop.lean ====
/- The convolution loop of the output mixing: what its trips leave in the scratch, as a function of the rows they read. -/
module

public import proofs.«01_k».proof.Proof.MixTile
public import Idealize.ShloMosaic.Lib.Pipeline.ReadBack
public import Idealize.ShloMosaic.Lib.Pipeline.ValueKit
public import Idealize.ShloMosaic.Lib.Pointwise.Tactic
public import Idealize.ShloMosaic.Lib.Tactic

@[expose] public section

set_option maxRecDepth 16384

noncomputable section

namespace Cert.MixLoop

open Cert.MixIdeal Cert.MixIdeal.Gen Cert.MixTile
open Idealize.ShloMosaic Idealize.ShloMosaic.TcCoe Idealize.SL.Sem

variable {F : FTy → Type} [FloatOps F]

/-- Sixty-four rows of a lane tile. -/
def win (X : Vec F S544x512 .f32) (s l : ℕ) (hs : s + 64 ≤ 544) (hl : l + 128 ≤ 512) : Vec F S64x128 .f32 := fun y =>
  X (ix2 (⟨s + (y 0).val, by have : (y 0).val < 64 := (y 0).isLt; omega⟩ : Fin 544) (⟨l + (y 1).val, by have : (y 1).val < 128 := (y 1).isLt; omega⟩ : Fin 512))

theorem ld_win (X : Vec F S544x512 .f32) (off : Fin 2 → ℕ) (inb) (s l : ℕ) (hs : s + 64 ≤ 544) (hl : l + 128 ≤ 512) (h : off = ![s, l]) :
    View.ld X (Rect.unit (s := S544x512) off S64x128.size inb) = win X s l hs hl := by
  subst h
  funext y
  refine congrArg X (funext fun a => Fin.ext ?_)
  match a with
  | ⟨0, _⟩ => show s + 1 * (y 0).val = s + (y 0).val; omega
  | ⟨1, _⟩ => show l + 1 * (y 1).val = l + (y 1).val; omega

/-- The rows of the chunk that starts at row `s`. -/
def rowsAt (X : Vec F S544x512 .f32) (cw : Vec F S32x512 .f32) (cb lg lb : Vec F S1x512 .f32) (s : ℕ) (hs : s + 64 ≤ 544) : FVec F S32x512 .bf16 :=
  chunk cw cb lg lb (win X s 0 hs (by omega)) (win X s 128 hs (by omega)) (win X s 256 hs (by omega)) (win X s 384 hs (by omega))

theorem rowsAt_congr (X : Vec F S544x512 .f32) (cw : Vec F S32x512 .f32) (cb lg lb : Vec F S1x512 .f32) {s s' : ℕ} (hs : s + 64 ≤ 544) (hs' : s' + 64 ≤ 544) (e : s = s') :
    rowsAt X cw cb lg lb s hs = rowsAt X cw cb lg lb s' hs' := by subst e; rfl

theorem chunk_of {cw : Vec F S32x512 .f32} {cb lg lb : Vec F S1x512 .f32} {a0 a1 a2 a3 w0 w1 w2 w3 : Vec F S64x128 .f32} (h0 : a0 = w0) (h1 : a1 = w1) (h2 : a2 = w2) (h3 : a3 = w3) :
    norm (taps (k0_pay78 cw) 0 slices_S32x512_o0_0_S1x128 a0) (taps (k0_pay78 cw) 128 slices_S32x512_o0_128_S1x128 a1) (taps (k0_pay78 cw) 256 slices_S32x512_o0_256_S1x128 a2)
      (taps (k0_pay78 cw) 384 slices_S32x512_o0_384_S1x128 a3) (k0_pay79 cb) (k0_pay80 lg) (k0_pay81 lb) = chunk cw cb lg lb w0 w1 w2 w3 := by
  subst h0 h1 h2 h3; rfl

/-- All rows. -/
def rows (X : Vec F S544x512 .f32) (cw : Vec F S32x512 .f32) (cb lg lb : Vec F S1x512 .f32) : Vec F S512x512 .bf16 := fun y =>
  rowsAt X cw cb lg lb ((y 0).val / 32 * 32) (by have : (y 0).val < 512 := (y 0).isLt; omega) (ix2 (⟨(y 0).val % 32, by omega⟩ : Fin 32) (y 1 : Fin 512))

/-- One store of thirty-two rows: an index inside reads it, an index outside the earlier ones. -/
theorem canon_rows {P : FVec F S32x512 .bf16} {L : List (View.Piece (Elt F) S512x512 .bf16)} {y : S512x512.Idx} (off : Fin 2 → ℕ) (inb) (s : ℕ) (h : off = ![s, 0]) {v : Elt F .bf16}
    (hit : ∀ lt : (y 0).val - s < 32, s ≤ (y 0).val → P (ix2 (⟨(y 0).val - s, lt⟩ : Fin 32) (y 1 : Fin 512)) = v)
    (miss : ¬(s ≤ (y 0).val ∧ (y 0).val - s < 32) → View.canon L y = v) :
    View.canon (⟨Rect.unit (s := S512x512) off S32x512.size inb, P⟩ :: L) y = v := by
  subst h
  by_cases e : s ≤ (y 0).val ∧ (y 0).val - s < 32
  · have : (Rect.unit (s := S512x512) ![s, 0] S32x512.size inb).emb (ix2 (⟨(y 0).val - s, e.2⟩ : Fin 32) (y 1 : Fin 512)) = y := by
      funext a; apply Fin.ext
      match a with
      | ⟨0, _⟩ => show s + 1 * ((y 0).val - s) = (y 0).val; omega
      | ⟨1, _⟩ => show 0 + 1 * (y 1).val = (y 1).val; omega
    rw [← hit e.2 e.1]
    conv_lhs => rw [← this]
    exact View.canon_cons_emb _ _ _ _
  · rw [View.canon_cons_of_not_mem _ _ ?_]
    · exact miss e
    · intro hy
      obtain ⟨j, hj, e1⟩ := (Rect.unit (s := S512x512) ![s, 0] S32x512.size inb).toLoadRect.mem_set.mp hy 0
      have h1 : j < 32 := hj
      have h2 : (y 0).val = s + 1 * j := e1
      exact e ⟨by omega, by omega⟩

variable (𝒱 : Variants) (c : Dev nD) (bd : Option 𝒱.V) (i : grid0.Coords)
  (arg1 : Memref sig .tc .vmem S512x512 .bf16) (harg1 : arg1.IsWhole)
  (arg2 : Memref sig .tc .vmem S512x512 .f32) (harg2 : arg2.IsWhole)
  (arg3 : Memref sig .tc .vmem S16x512 .f32) (harg3 : arg3.IsWhole)
  (arg4 : Memref sig .tc .vmem S16x512 .f32) (harg4 : arg4.IsWhole)
  (arg5 : Memref sig .tc .vmem S32x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1024x1024 .bf16) (harg9 : arg9.IsWhole)
  (arg10 : Memref sig .tc .vmem S512x1024 .f32) (harg10 : arg10.IsWhole)
  (arg11 : Memref sig .tc .vmem S1x1024 .f32) (harg11 : arg11.IsWhole)
  (arg12 : Memref sig .tc .vmem S512x1024 .f32) (harg12 : arg12.IsWhole)
  (arg13 : Memref sig .tc .vmem S512x1024 .f32) (harg13 : arg13.IsWhole)
  (arg14 : Memref sig .tc .vmem S512x8x128 .f32) (harg14 : arg14.IsWhole)
  (arg15 : Memref sig .tc .vmem S544x512 .f32) (harg15 : arg15.IsWhole)
  (arg16 : Memref sig .tc .vmem S512x512 .bf16) (harg16 : arg16.IsWhole)
  (cw : Vec F S32x512 .f32) (cb lg lb : Vec F S1x512 .f32) (X : BufTy.Contents (Elt F) arg15.view.ty)

theorem trip_lt (k : Fin k0_t1_loop.trips) : k.val < 8 := Nat.lt_of_lt_of_le k.isLt k0_t1_abs.2.1

/-- What one trip stores. -/
theorem trip_eq (k : Fin k0_t1_loop.trips) : tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 cw cb lg lb X k
    = [⟨Rect.unit (s := S512x512) (k0_off10 k) S32x512.size (k0_off10_inb k), rowsAt (arg15.view.read (Elt F) X) cw cb lg lb (64 * k.val + 32) (by have := trip_lt k; omega)⟩,
       ⟨Rect.unit (s := S512x512) (k0_off5 k) S32x512.size (k0_off5_inb k), rowsAt (arg15.view.read (Elt F) X) cw cb lg lb (64 * k.val) (by have := trip_lt k; omega)⟩] := by
  have hk := trip_lt k
  unfold tripL_k0_t1 trip_k0_t1
  dsimp only
  sl_unfold_words
  simp only [View.readAt_eq_ld]
  simp only [tile0, tile1, tile2, chunkA, tile4, tile5, tile6, chunkB]
  refine congrArg₂ List.cons (congrArg (Sigma.mk _) (chunk_of ?_ ?_ ?_ ?_)) (congrArg₂ List.cons (congrArg (Sigma.mk _) (chunk_of ?_ ?_ ?_ ?_)) rfl)
  · exact ld_win _ (k0_off6 k) _ _ _ _ _ (k0_off6_eq k)
  · exact ld_win _ (k0_off7 k) _ _ _ _ _ (k0_off7_eq k)
  · exact ld_win _ (k0_off8 k) _ _ _ _ _ (k0_off8_eq k)
  · exact ld_win _ (k0_off9 k) _ _ _ _ _ (k0_off9_eq k)
  · exact ld_win _ (k0_off1 k) _ _ _ _ _ (k0_off1_eq k)
  · exact ld_win _ (k0_off2 k) _ _ _ _ _ (k0_off2_eq k)
  · exact ld_win _ (k0_off3 k) _ _ _ _ _ (k0_off3_eq k)
  · exact ld_win _ (k0_off4 k) _ _ _ _ _ (k0_off4_eq k)

/-- What the trips before `n` leave in the rows they cover. -/
theorem canon_trips (n : ℕ) (hn : n ≤ 8) (y : S512x512.Idx) (hy : (y 0).val < 64 * n) :
    View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 cw cb lg lb X n) y = rows (arg15.view.read (Elt F) X) cw cb lg lb y := by
  induction n with
  | zero => omega
  | succ n ih =>
    have hk : n < k0_t1_loop.trips := lt_of_lt_of_eq (show n < 8 by omega) (by decide +kernel)
    rw [pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 cw cb lg lb X ⟨n, hk⟩, trip_eq]
    refine canon_rows _ _ (64 * n + 32) (k0_off10_eq ⟨n, hk⟩) (fun lt le => ?_) (fun m1 => canon_rows _ _ (64 * n) (k0_off5_eq ⟨n, hk⟩) (fun lt le => ?_) (fun m2 => ?_))
    · unfold rows
      refine congr (rowsAt_congr _ _ _ _ _ _ _ (by dsimp only; omega)) (funext fun a => Fin.ext ?_)
      match a with
      | ⟨0, _⟩ => show (y 0).val - (64 * n + 32) = (y 0).val % 32; omega
      | ⟨1, _⟩ => rfl
    · unfold rows
      refine congr (rowsAt_congr _ _ _ _ _ _ _ (by dsimp only; omega)) (funext fun a => Fin.ext ?_)
      match a with
      | ⟨0, _⟩ => show (y 0).val - 64 * n = (y 0).val % 32; omega
      | ⟨1, _⟩ => rfl
    · exact ih (by omega) (by omega)

end Cert.MixLoop

end
-- ==== Proof.MixBody.lean ====
/- One grid point of the output mixing: what it leaves in its three output blocks, as functions of the blocks it reads. -/
module

public import proofs.«01_k».proof.Proof.MixLoop

@[expose] public section

set_option maxRecDepth 16384

noncomputable section

namespace Cert.MixBody

open Cert.MixIdeal Cert.MixIdeal.Gen Cert.MixTile Cert.MixLoop
open Idealize.ShloMosaic Idealize.ShloMosaic.TcCoe Idealize.SL.Sem

variable {F : FTy → Type} [FloatOps F]

theorem zero2 : (![0, 0] : Fin 2 → ℕ) = fun _ => 0 := funext (by decide)

variable {c : Dev nD} {i : grid0.Coords}
  {arg1 : Memref sig .tc .vmem S512x512 .bf16} {harg1 : arg1.IsWhole}
  {arg2 : Memref sig .tc .vmem S512x512 .f32} {harg2 : arg2.IsWhole}
  {arg3 : Memref sig .tc .vmem S16x512 .f32} {harg3 : arg3.IsWhole}
  {arg4 : Memref sig .tc .vmem S16x512 .f32} {harg4 : arg4.IsWhole}
  {arg5 : Memref sig .tc .vmem S32x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x1024 .bf16} {harg9 : arg9.IsWhole}
  {arg10 : Memref sig .tc .vmem S512x1024 .f32} {harg10 : arg10.IsWhole}
  {arg11 : Memref sig .tc .vmem S1x1024 .f32} {harg11 : arg11.IsWhole}
  {arg12 : Memref sig .tc .vmem S512x1024 .f32} {harg12 : arg12.IsWhole}
  {arg13 : Memref sig .tc .vmem S512x1024 .f32} {harg13 : arg13.IsWhole}
  {arg14 : Memref sig .tc .vmem S512x8x128 .f32} {harg14 : arg14.IsWhole}
  {arg15 : Memref sig .tc .vmem S544x512 .f32} {harg15 : arg15.IsWhole}
  {arg16 : Memref sig .tc .vmem S512x512 .bf16} {harg16 : arg16.IsWhole}
  (x0 : Vec F S512x512 .bf16) (x1 : Vec F S512x512 .f32) (x2 x3 : Vec F S16x512 .f32) (x4 : Vec F S32x512 .f32) (x5 x6 x7 : Vec F S1x512 .f32) (x8 : Vec F S1024x1024 .bf16) (x9 : Vec F S512x1024 .f32) (x10 : Vec F S1x1024 .f32)

/-- The convolution's input rows: sixteen before the block (zeros at a sequence's start), the block, sixteen after it (zeros at a sequence's end). -/
def ext (i : grid0.Coords) (x1 : Vec F S512x512 .f32) (x2 x3 : Vec F S16x512 .f32) : Vec F S544x512 .f32 := fun y =>
  if h : (y 0).val < 16 then k0_pay75 i x2 (ix2 (⟨(y 0).val, h⟩ : Fin 16) (y 1 : Fin 512))
  else if h' : (y 0).val < 528 then k0_pay76 x1 (ix2 (⟨(y 0).val - 16, by omega⟩ : Fin 512) (y 1 : Fin 512))
  else k0_pay77 i x3 (ix2 (⟨(y 0).val - 528, by have : (y 0).val < 544 := (y 0).isLt; omega⟩ : Fin 16) (y 1 : Fin 512))

/-- The mixing matrix's upper and lower halves. -/
def topW (x8 : Vec F S1024x1024 .bf16) : Vec F S512x1024 .bf16 := fun y => x8 (ix2 (⟨(y 0).val, by have : (y 0).val < 512 := (y 0).isLt; omega⟩ : Fin 1024) (y 1 : Fin 1024))
def botW (x8 : Vec F S1024x1024 .bf16) : Vec F S512x1024 .bf16 := fun y => x8 (ix2 (⟨512 + (y 0).val, by have : (y 0).val < 512 := (y 0).isLt; omega⟩ : Fin 1024) (y 1 : Fin 1024))

theorem ld_top (x8 : Vec F S1024x1024 .bf16) (inb) : View.ld x8 (Rect.unit (s := S1024x1024) ![0, 0] ![512, 1024] inb) = topW x8 := by
  funext y
  refine congrArg x8 (funext fun a => Fin.ext ?_)
  match a with
  | ⟨0, _⟩ => show 0 + 1 * (y 0).val = (y 0).val; omega
  | ⟨1, _⟩ => show 0 + 1 * (y 1).val = (y 1).val; omega
theorem ld_bot (x8 : Vec F S1024x1024 .bf16) (inb) : View.ld x8 (Rect.unit (s := S1024x1024) ![512, 0] ![512, 1024] inb) = botW x8 := by
  funext y
  refine congrArg x8 (funext fun a => Fin.ext ?_)
  match a with
  | ⟨0, _⟩ => show 512 + 1 * (y 0).val = 512 + (y 0).val; omega
  | ⟨1, _⟩ => show 0 + 1 * (y 1).val = (y 1).val; omega

/-- One store of `n` rows from row `s` into the extended rows. -/
theorem canon_ext {n s : ℕ} {P : (⟨2, ![n, 512]⟩ : Shape).Idx → Elt F .f32} {L : List (View.Piece (Elt F) S544x512 .f32)} {y : S544x512.Idx} (inb) {v : Elt F .f32}
    (hit : ∀ lt : (y 0).val - s < n, s ≤ (y 0).val → P (ix2 (⟨(y 0).val - s, lt⟩ : Fin n) (y 1 : Fin 512)) = v)
    (miss : ¬(s ≤ (y 0).val ∧ (y 0).val - s < n) → View.canon L y = v) :
    View.canon (⟨Rect.unit (s := S544x512) ![s, 0] ![n, 512] inb, P⟩ :: L) y = v := by
  by_cases e : s ≤ (y 0).val ∧ (y 0).val - s < n
  · have : (Rect.unit (s := S544x512) ![s, 0] ![n, 512] inb).emb (ix2 (⟨(y 0).val - s, e.2⟩ : Fin n) (y 1 : Fin 512)) = y := by
      funext a; apply Fin.ext
      match a with
      | ⟨0, _⟩ => show s + 1 * ((y 0).val - s) = (y 0).val; omega
      | ⟨1, _⟩ => show 0 + 1 * (y 1).val = (y 1).val; omega
    rw [← hit e.2 e.1]
    conv_lhs => rw [← this]
    exact View.canon_cons_emb _ _ _ _
  · rw [View.canon_cons_of_not_mem _ _ ?_]
    · exact miss e
    · intro hy
      obtain ⟨j, hj, e1⟩ := (Rect.unit (s := S544x512) ![s, 0] ![n, 512] inb).toLoadRect.mem_set.mp hy 0
      have h1 : j < n := hj
      have h2 : (y 0).val = s + 1 * j := e1
      exact e ⟨by omega, by omega⟩

theorem canon_parts (i : grid0.Coords) (x1 : Vec F S512x512 .f32) (x2 x3 : Vec F S16x512 .f32) (b1 b2 b3) :
    View.canon [⟨Rect.unit (s := S544x512) ![528, 0] ![16, 512] b1, k0_pay77 i x3⟩, ⟨Rect.unit ![16, 0] ![512, 512] b2, k0_pay76 x1⟩,
      ⟨Rect.unit ![0, 0] ![16, 512] b3, k0_pay75 i x2⟩] = ext i x1 x2 x3 := by
  funext y
  have hy : (y 0).val < 544 := (y 0).isLt
  unfold ext
  refine canon_ext _ (fun lt le => ?_) fun m1 => canon_ext _ (fun lt le => ?_) fun m2 => canon_ext _ (fun lt le => ?_) fun m3 => absurd hy (by omega)
  · rw [dif_neg (by omega), dif_neg (by omega)]
  · rw [dif_neg (by omega), dif_pos (by omega)]
  · rw [dif_pos (by omega)]
    rfl

/-- The whole scratch read after the loop. -/
theorem read_trips {c : Dev nD} {i : grid0.Coords}
  {arg1 : Memref sig .tc .vmem S512x512 .bf16} {harg1 : arg1.IsWhole}
  {arg2 : Memref sig .tc .vmem S512x512 .f32} {harg2 : arg2.IsWhole}
  {arg3 : Memref sig .tc .vmem S16x512 .f32} {harg3 : arg3.IsWhole}
  {arg4 : Memref sig .tc .vmem S16x512 .f32} {harg4 : arg4.IsWhole}
  {arg5 : Memref sig .tc .vmem S32x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x1024 .bf16} {harg9 : arg9.IsWhole}
  {arg10 : Memref sig .tc .vmem S512x1024 .f32} {harg10 : arg10.IsWhole}
  {arg11 : Memref sig .tc .vmem S1x1024 .f32} {harg11 : arg11.IsWhole}
  {arg12 : Memref sig .tc .vmem S512x1024 .f32} {harg12 : arg12.IsWhole}
  {arg13 : Memref sig .tc .vmem S512x1024 .f32} {harg13 : arg13.IsWhole}
  {arg14 : Memref sig .tc .vmem S512x8x128 .f32} {harg14 : arg14.IsWhole}
  {arg15 : Memref sig .tc .vmem S544x512 .f32} {harg15 : arg15.IsWhole}
  {arg16 : Memref sig .tc .vmem S512x512 .bf16} {harg16 : arg16.IsWhole}
  (cw : Vec F S32x512 .f32) (cb lg lb : Vec F S1x512 .f32) (L : List (View.Piece (Elt F) S544x512 .f32)) (inb) :
    arg16.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 cw cb lg lb (arg15.view.writes (Elt F) arg15.view.junk L) (Scf.trips (0#32) (Scalar.addi 0#32 8#32) 1#32))
      (Rect.unit (s := S512x512) ![0, 0] ![512, 512] inb).toLoadRect = rows (View.canon L) cw cb lg lb := by
  rw [View.readCov_eq_canon']
  funext y
  have hy : (y 0).val < 512 := (y 0).isLt
  have e : (Rect.unit (s := S512x512) ![0, 0] ![512, 512] inb).toLoadRect.idx y = y := by
    funext a; apply Fin.ext
    match a with
    | ⟨0, _⟩ => show 0 + 1 * (y 0).val = (y 0).val; omega
    | ⟨1, _⟩ => show 0 + 1 * (y 1).val = (y 1).val; omega
  rw [e, show Scf.trips (0#32) (Scalar.addi 0#32 8#32) 1#32 = 8 by decide +kernel]
  refine (canon_trips Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 cw cb lg lb _ 8 (by omega) y (by omega)).trans ?_
  rw [View.read_writes_junk_eq_canon]

/-- The block's convolved, normalised and gated rows. -/
def conv (i : grid0.Coords) (x1 : Vec F S512x512 .f32) (x2 x3 : Vec F S16x512 .f32) (x4 : Vec F S32x512 .f32) (x5 x6 x7 : Vec F S1x512 .f32) : Vec F S512x512 .bf16 :=
  rows (ext i x1 x2 x3) x4 x5 x6 x7

/-- The residual rows, the normalised rows, and these by lane tiles. -/
def outX (i : grid0.Coords) (x0 : Vec F S512x512 .bf16) (x1 : Vec F S512x512 .f32) (x2 x3 : Vec F S16x512 .f32) (x4 : Vec F S32x512 .f32) (x5 x6 x7 : Vec F S1x512 .f32) (x8 : Vec F S1024x1024 .bf16) (x9 : Vec F S512x1024 .f32) (x10 : Vec F S1x1024 .f32) : Vec F S512x1024 .f32 := k0_pay83 x0 (topW x8) (conv i x1 x2 x3 x4 x5 x6 x7) (botW x8) x9
def outN (i : grid0.Coords) (x0 : Vec F S512x512 .bf16) (x1 : Vec F S512x512 .f32) (x2 x3 : Vec F S16x512 .f32) (x4 : Vec F S32x512 .f32) (x5 x6 x7 : Vec F S1x512 .f32) (x8 : Vec F S1024x1024 .bf16) (x9 : Vec F S512x1024 .f32) (x10 : Vec F S1x1024 .f32) : Vec F S512x1024 .f32 :=
  k0_pay85 (outX i x0 x1 x2 x3 x4 x5 x6 x7 x8 x9 x10) (k0_pay84 x0 (topW x8) (conv i x1 x2 x3 x4 x5 x6 x7) (botW x8) x9) x10
def outT (i : grid0.Coords) (x0 : Vec F S512x512 .bf16) (x1 : Vec F S512x512 .f32) (x2 x3 : Vec F S16x512 .f32) (x4 : Vec F S32x512 .f32) (x5 x6 x7 : Vec F S1x512 .f32) (x8 : Vec F S1024x1024 .bf16) (x9 : Vec F S512x1024 .f32) (x10 : Vec F S1x1024 .f32) : Vec F S512x8x128 .f32 := fun y =>
  outN i x0 x1 x2 x3 x4 x5 x6 x7 x8 x9 x10 (ix2 (y 0 : Fin 512) (⟨(y 1).val % 2 * 512 + (y 1).val / 2 * 128 + (y 2).val, by have : (y 1).val < 8 := (y 1).isLt; have : (y 2).val < 128 := (y 2).isLt; omega⟩ : Fin 1024))

/-- One store of a lane tile. -/
theorem canon_tile {P : FVec F S512x1x128 .f32} {L : List (View.Piece (Elt F) S512x8x128 .f32)} {y : S512x8x128.Idx} (u : ℕ) (inb) {v : Elt F .f32}
    (hit : (y 1).val = u → P (ix3 (y 0 : Fin 512) (0 : Fin 1) (y 2 : Fin 128)) = v)
    (miss : ¬(y 1).val = u → View.canon L y = v) :
    View.canon (⟨Rect.unit (s := S512x8x128) ![0, u, 0] ![512, 1, 128] inb, P⟩ :: L) y = v := by
  by_cases e : (y 1).val = u
  · have : (Rect.unit (s := S512x8x128) ![0, u, 0] ![512, 1, 128] inb).emb (ix3 (y 0 : Fin 512) (0 : Fin 1) (y 2 : Fin 128)) = y := by
      funext a; apply Fin.ext
      match a with
      | ⟨0, _⟩ => show 0 + 1 * (y 0).val = (y 0).val; omega
      | ⟨1, _⟩ => show u + 1 * 0 = (y 1).val; omega
      | ⟨2, _⟩ => show 0 + 1 * (y 2).val = (y 2).val; omega
    rw [← hit e]
    conv_lhs => rw [← this]
    exact View.canon_cons_emb _ _ _ _
  · rw [View.canon_cons_of_not_mem _ _ ?_]
    · exact miss e
    · intro hy
      obtain ⟨j, hj, e1⟩ := (Rect.unit (s := S512x8x128) ![0, u, 0] ![512, 1, 128] inb).toLoadRect.mem_set.mp hy 1
      have h1 : j < 1 := hj
      have h2 : (y 1).val = u + 1 * j := e1
      exact e (by omega)

/-- A lane tile of the normalised rows. -/
theorem tile_at (v : FVec F S512x1024 .f32) (l : ℕ) (h : S512x1024.Slices ![0, l] S512x128) (h' : S512x128.ShapeCasts S512x1x128) (r : Fin 512) (j : Fin 128) (q : Fin 1024) (hq : q.val = l + j.val) :
    shapeCast S512x1x128 (extractStridedSlice S512x128 ![0, l] v h) h' (ix3 r (0 : Fin 1) j) = v (ix2 r q) := by
  pointwise
  exact congrArg v (congrArg (ix2 r) (Fin.ext (by first | omega | (dsimp only; omega))))

variable {c : Dev nD} {i : grid0.Coords}
  {arg1 : Memref sig .tc .vmem S512x512 .bf16} {harg1 : arg1.IsWhole}
  {arg2 : Memref sig .tc .vmem S512x512 .f32} {harg2 : arg2.IsWhole}
  {arg3 : Memref sig .tc .vmem S16x512 .f32} {harg3 : arg3.IsWhole}
  {arg4 : Memref sig .tc .vmem S16x512 .f32} {harg4 : arg4.IsWhole}
  {arg5 : Memref sig .tc .vmem S32x512 .f32} {harg5 : arg5.IsWhole}
  {arg6 : Memref sig .tc .vmem S1x512 .f32} {harg6 : arg6.IsWhole}
  {arg7 : Memref sig .tc .vmem S1x512 .f32} {harg7 : arg7.IsWhole}
  {arg8 : Memref sig .tc .vmem S1x512 .f32} {harg8 : arg8.IsWhole}
  {arg9 : Memref sig .tc .vmem S1024x1024 .bf16} {harg9 : arg9.IsWhole}
  {arg10 : Memref sig .tc .vmem S512x1024 .f32} {harg10 : arg10.IsWhole}
  {arg11 : Memref sig .tc .vmem S1x1024 .f32} {harg11 : arg11.IsWhole}
  {arg12 : Memref sig .tc .vmem S512x1024 .f32} {harg12 : arg12.IsWhole}
  {arg13 : Memref sig .tc .vmem S512x1024 .f32} {harg13 : arg13.IsWhole}
  {arg14 : Memref sig .tc .vmem S512x8x128 .f32} {harg14 : arg14.IsWhole}
  {arg15 : Memref sig .tc .vmem S544x512 .f32} {harg15 : arg15.IsWhole}
  {arg16 : Memref sig .tc .vmem S512x512 .bf16} {harg16 : arg16.IsWhole}
  (x0 : Vec F S512x512 .bf16) (x1 : Vec F S512x512 .f32) (x2 x3 : Vec F S16x512 .f32) (x4 : Vec F S32x512 .f32) (x5 x6 x7 : Vec F S1x512 .f32) (x8 : Vec F S1024x1024 .bf16) (x9 : Vec F S512x1024 .f32) (x10 : Vec F S1x1024 .f32)

/-- The residual block. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = outX i x0 x1 x2 x3 x4 x5 x6 x7 x8 x9 x10 := by
  have e0 : ∀ inb, View.ld x0 (Rect.unit (s := S512x512) ![0, 0] ![512, 512] inb) = x0 := fun inb => View.ld_unit_zero (S := S512x512) zero2 inb x0
  have e1 : ∀ inb, View.ld x1 (Rect.unit (s := S512x512) ![0, 0] ![512, 512] inb) = x1 := fun inb => View.ld_unit_zero (S := S512x512) zero2 inb x1
  have e2 : ∀ inb, View.ld x2 (Rect.unit (s := S16x512) ![0, 0] ![16, 512] inb) = x2 := fun inb => View.ld_unit_zero (S := S16x512) zero2 inb x2
  have e3 : ∀ inb, View.ld x3 (Rect.unit (s := S16x512) ![0, 0] ![16, 512] inb) = x3 := fun inb => View.ld_unit_zero (S := S16x512) zero2 inb x3
  have e4 : ∀ inb, View.ld x4 (Rect.unit (s := S32x512) ![0, 0] ![32, 512] inb) = x4 := fun inb => View.ld_unit_zero (S := S32x512) zero2 inb x4
  have e5 : ∀ inb, View.ld x5 (Rect.unit (s := S1x512) ![0, 0] ![1, 512] inb) = x5 := fun inb => View.ld_unit_zero (S := S1x512) zero2 inb x5
  have e6 : ∀ inb, View.ld x6 (Rect.unit (s := S1x512) ![0, 0] ![1, 512] inb) = x6 := fun inb => View.ld_unit_zero (S := S1x512) zero2 inb x6
  have e7 : ∀ inb, View.ld x7 (Rect.unit (s := S1x512) ![0, 0] ![1, 512] inb) = x7 := fun inb => View.ld_unit_zero (S := S1x512) zero2 inb x7
  have e9 : ∀ inb, View.ld x9 (Rect.unit (s := S512x1024) ![0, 0] ![512, 1024] inb) = x9 := fun inb => View.ld_unit_zero (S := S512x1024) zero2 inb x9
  have e10 : ∀ inb, View.ld x10 (Rect.unit (s := S1x1024) ![0, 0] ![1, 1024] inb) = x10 := fun inb => View.ld_unit_zero (S := S1x1024) zero2 inb x10
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, e0, e1, e2, e3, e4, e5, e6, e7, e9, e10]
  rw [ld_top, ld_bot, read_trips, canon_parts]
  exact View.canon_unit_zero (S := S512x1024) zero2 _ _

/-- The normalised block. -/
theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = outN i x0 x1 x2 x3 x4 x5 x6 x7 x8 x9 x10 := by
  have e0 : ∀ inb, View.ld x0 (Rect.unit (s := S512x512) ![0, 0] ![512, 512] inb) = x0 := fun inb => View.ld_unit_zero (S := S512x512) zero2 inb x0
  have e1 : ∀ inb, View.ld x1 (Rect.unit (s := S512x512) ![0, 0] ![512, 512] inb) = x1 := fun inb => View.ld_unit_zero (S := S512x512) zero2 inb x1
  have e2 : ∀ inb, View.ld x2 (Rect.unit (s := S16x512) ![0, 0] ![16, 512] inb) = x2 := fun inb => View.ld_unit_zero (S := S16x512) zero2 inb x2
  have e3 : ∀ inb, View.ld x3 (Rect.unit (s := S16x512) ![0, 0] ![16, 512] inb) = x3 := fun inb => View.ld_unit_zero (S := S16x512) zero2 inb x3
  have e4 : ∀ inb, View.ld x4 (Rect.unit (s := S32x512) ![0, 0] ![32, 512] inb) = x4 := fun inb => View.ld_unit_zero (S := S32x512) zero2 inb x4
  have e5 : ∀ inb, View.ld x5 (Rect.unit (s := S1x512) ![0, 0] ![1, 512] inb) = x5 := fun inb => View.ld_unit_zero (S := S1x512) zero2 inb x5
  have e6 : ∀ inb, View.ld x6 (Rect.unit (s := S1x512) ![0, 0] ![1, 512] inb) = x6 := fun inb => View.ld_unit_zero (S := S1x512) zero2 inb x6
  have e7 : ∀ inb, View.ld x7 (Rect.unit (s := S1x512) ![0, 0] ![1, 512] inb) = x7 := fun inb => View.ld_unit_zero (S := S1x512) zero2 inb x7
  have e9 : ∀ inb, View.ld x9 (Rect.unit (s := S512x1024) ![0, 0] ![512, 1024] inb) = x9 := fun inb => View.ld_unit_zero (S := S512x1024) zero2 inb x9
  have e10 : ∀ inb, View.ld x10 (Rect.unit (s := S1x1024) ![0, 0] ![1, 1024] inb) = x10 := fun inb => View.ld_unit_zero (S := S1x1024) zero2 inb x10
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, e0, e1, e2, e3, e4, e5, e6, e7, e9, e10]
  rw [ld_top, ld_bot, read_trips, canon_parts]
  exact View.canon_unit_zero (S := S512x1024) zero2 _ _

/-- The normalised block by lane tiles. -/
theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = outT i x0 x1 x2 x3 x4 x5 x6 x7 x8 x9 x10 := by
  have e0 : ∀ inb, View.ld x0 (Rect.unit (s := S512x512) ![0, 0] ![512, 512] inb) = x0 := fun inb => View.ld_unit_zero (S := S512x512) zero2 inb x0
  have e1 : ∀ inb, View.ld x1 (Rect.unit (s := S512x512) ![0, 0] ![512, 512] inb) = x1 := fun inb => View.ld_unit_zero (S := S512x512) zero2 inb x1
  have e2 : ∀ inb, View.ld x2 (Rect.unit (s := S16x512) ![0, 0] ![16, 512] inb) = x2 := fun inb => View.ld_unit_zero (S := S16x512) zero2 inb x2
  have e3 : ∀ inb, View.ld x3 (Rect.unit (s := S16x512) ![0, 0] ![16, 512] inb) = x3 := fun inb => View.ld_unit_zero (S := S16x512) zero2 inb x3
  have e4 : ∀ inb, View.ld x4 (Rect.unit (s := S32x512) ![0, 0] ![32, 512] inb) = x4 := fun inb => View.ld_unit_zero (S := S32x512) zero2 inb x4
  have e5 : ∀ inb, View.ld x5 (Rect.unit (s := S1x512) ![0, 0] ![1, 512] inb) = x5 := fun inb => View.ld_unit_zero (S := S1x512) zero2 inb x5
  have e6 : ∀ inb, View.ld x6 (Rect.unit (s := S1x512) ![0, 0] ![1, 512] inb) = x6 := fun inb => View.ld_unit_zero (S := S1x512) zero2 inb x6
  have e7 : ∀ inb, View.ld x7 (Rect.unit (s := S1x512) ![0, 0] ![1, 512] inb) = x7 := fun inb => View.ld_unit_zero (S := S1x512) zero2 inb x7
  have e9 : ∀ inb, View.ld x9 (Rect.unit (s := S512x1024) ![0, 0] ![512, 1024] inb) = x9 := fun inb => View.ld_unit_zero (S := S512x1024) zero2 inb x9
  have e10 : ∀ inb, View.ld x10 (Rect.unit (s := S1x1024) ![0, 0] ![1, 1024] inb) = x10 := fun inb => View.ld_unit_zero (S := S1x1024) zero2 inb x10
  funext y
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, e0, e1, e2, e3, e4, e5, e6, e7, e9, e10]
  rw [ld_top, ld_bot, read_trips, canon_parts]
  have h1 : (y 1).val < 8 := (y 1).isLt
  have h2 : (y 2).val < 128 := (y 2).isLt
  refine canon_tile 7 _ (fun e7 => ?_) fun n7 => canon_tile 6 _ (fun e6 => ?_) fun n6 => canon_tile 5 _ (fun e5 => ?_) fun n5 => canon_tile 4 _ (fun e4 => ?_) fun n4 =>
    canon_tile 3 _ (fun e3 => ?_) fun n3 => canon_tile 2 _ (fun e2 => ?_) fun n2 => canon_tile 1 _ (fun e1 => ?_) fun n1 => canon_tile 0 _ (fun e0 => ?_) fun n0 => absurd h1 (by omega)
  all_goals exact tile_at _ _ _ _ (y 0 : Fin 512) (y 2 : Fin 128) _ (by dsimp only; omega)

end Cert.MixBody

end
-- ==== Proof.MixAt.lean ====
/- The convolution block read at an element over the extended reals. -/
module

public import proofs.«01_k».proof.Proof.MixBody
public import proofs.«01_k».proof.Proof.InMath
public import Idealize.ShloMosaic.Lib.Pipeline.ValueKit

@[expose] public section

set_option maxRecDepth 16384

noncomputable section

namespace Cert.MixAt

open Cert.MixIdeal Cert.MixIdeal.Gen Cert.MixTile Cert.MixLoop Cert.MixBody
open Cert.InMath (eps)
open Idealize.ShloMosaic Idealize.ShloMosaic.TcCoe Idealize.SL.Sem

/-! ## One lane tile's taps -/

theorem tap_at (w : FVec Ideal S64x128 .f32) (cw : FVec Ideal S32x512 .f32) (o k l : ℕ) (h : S64x128.Slices ![o, 0] S32x128) (h' : S32x512.Slices ![k, l] S1x128)
    (r : Fin 32) (j : Fin 128) (q : Fin 64) (k' : Fin 32) (j' : Fin 512) (hq : q.val = o + r.val) (hk : k'.val = k) (hj : j'.val = l + j.val) :
    tap w cw o k l h h' (ix2 r j) = w (ix2 q j) * cw (ix2 k' j') := by
  subst hk
  pointwise [tap]
  exact congrArg₂ (fun a b : EReal => a * b) (congrArg (fun a => w (ix2 a j)) (Fin.ext (by first | omega | (dsimp only; omega)))) (congrArg (fun a => cw (ix2 k' a)) (Fin.ext (by first | omega | (dsimp only; omega))))

theorem turn_at (w : FVec Ideal S64x128 .f32) (n : BitVec 32) (p q : Fin 64) (j : Fin 128) (h : q.val = (p.val + 64 - n.toNat % 64) % 64) : turn n w (ix2 p j) = w (ix2 q j) := by
  refine congrArg w (funext fun a => Fin.ext ?_)
  match a with
  | ⟨0, _⟩ => exact h.symm
  | ⟨1, _⟩ => rfl

section
variable (w : FVec Ideal S64x128 .f32) (cw : FVec Ideal S32x512 .f32) (n : BitVec 32) (o k l : ℕ) (h : S64x128.Slices ![o, 0] S32x128) (h' : S32x512.Slices ![k, l] S1x128)
  (r : Fin 32) (j : Fin 128) (f : ℕ → EReal)
  (hf : ∀ (k : ℕ) (hk : k < 31) (hj : l + j.val < 512), w (ix2 (⟨r.val + 1 + k, by omega⟩ : Fin 64) j) * cw (ix2 (⟨k, by omega⟩ : Fin 32) (⟨l + j.val, hj⟩ : Fin 512)) = f k)
include hf

theorem plain_at (hk : k < 31) (hj : l + 128 ≤ 512) (ho : o = 1 + k) : tap w cw o k l h h' (ix2 r j) = f k :=
  (tap_at w cw o k l h h' r j ⟨r.val + 1 + k, by omega⟩ ⟨k, by omega⟩ ⟨l + j.val, by omega⟩ (by dsimp only; omega) rfl rfl).trans (hf k hk (by omega))

theorem turned_at (hk : k < 31) (hj : l + 128 ≤ 512) (hn : 57 ≤ n.toNat ∧ n.toNat < 64) (ho : o + (64 - n.toNat) = 1 + k) : tap (turn n w) cw o k l h h' (ix2 r j) = f k :=
  (tap_at (turn n w) cw o k l h h' r j ⟨o + r.val, by omega⟩ ⟨k, by omega⟩ ⟨l + j.val, by omega⟩ rfl rfl rfl).trans
    ((congrArg (fun z : EReal => z * _) (turn_at w n _ ⟨r.val + 1 + k, by omega⟩ j (by dsimp only; omega))).trans (hf k hk (by omega)))

end

/-- The kernel adds the taps by their row modulo eight; the sum is the sum over all taps. -/
theorem tap_order (f : ℕ → EReal) : f 7 + f 15 + f 23 + f 0 + f 8 + f 16 + f 24 + f 1 + f 9 + f 17 + f 25 + f 2 + f 10 + f 18 + f 26 + f 3 + f 11 + f 19 + f 27 + f 4 + f 12 + f 20 + f 28 + f 5 + f 13 + f 21 + f 29 + f 6 + f 14 + f 22 + f 30 = ∑ k ∈ Finset.range 31, f k := by
  simp only [Finset.sum_range_succ, Finset.sum_range_zero, zero_add]
  ac_rfl

theorem add_eq {a a' b b' : EReal} (h : a = a') (h' : b = b') : a + b = a' + b' := by rw [h, h']

/-- A lane tile of the convolution at row `r` of the chunk is the sum over the taps. -/
theorem taps_at (w : FVec Ideal S64x128 .f32) (cw : FVec Ideal S32x512 .f32) (l : ℕ) (h : S32x512.Slices ![0, l] S1x128) (hl : l + 128 ≤ 512) (r : Fin 32) (j : Fin 128) (f : ℕ → EReal)
    (hf : ∀ (k : ℕ) (hk : k < 31) (hj : l + j.val < 512), w (ix2 (⟨r.val + 1 + k, by omega⟩ : Fin 64) j) * cw (ix2 (⟨k, by omega⟩ : Fin 32) (⟨l + j.val, hj⟩ : Fin 512)) = f k) :
    taps cw l h w (ix2 r j) = ∑ k ∈ Finset.range 31, f k := by
  refine Eq.trans ?_ (tap_order f)
  have z : (Scalar.ofBits (F := Ideal) .f32 0x00000000#32 : EReal) = 0 := by simp [Scalar.ofBits, Ideal.ofBits, Ideal.ieee]
  have s (a : EReal) : (Scalar.ofBits (F := Ideal) .f32 0x00000000#32 : EReal) + a = a := by rw [z, zero_add]
  exact (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq ((s _).trans (plain_at w cw 8 7 l _ _ r j f hf (by decide) hl (by decide)))
      (plain_at w cw 16 15 l _ _ r j f hf (by decide) hl (by decide)))
      (plain_at w cw 24 23 l _ _ r j f hf (by decide) hl (by decide)))
      (turned_at w cw 63#32 0 0 l _ _ r j f hf (by decide) hl (by decide) (by decide)))
      (turned_at w cw 63#32 8 8 l _ _ r j f hf (by decide) hl (by decide) (by decide)))
      (turned_at w cw 63#32 16 16 l _ _ r j f hf (by decide) hl (by decide) (by decide)))
      (turned_at w cw 63#32 24 24 l _ _ r j f hf (by decide) hl (by decide) (by decide)))
      (turned_at w cw 62#32 0 1 l _ _ r j f hf (by decide) hl (by decide) (by decide)))
      (turned_at w cw 62#32 8 9 l _ _ r j f hf (by decide) hl (by decide) (by decide)))
      (turned_at w cw 62#32 16 17 l _ _ r j f hf (by decide) hl (by decide) (by decide)))
      (turned_at w cw 62#32 24 25 l _ _ r j f hf (by decide) hl (by decide) (by decide)))
      (turned_at w cw 61#32 0 2 l _ _ r j f hf (by decide) hl (by decide) (by decide)))
      (turned_at w cw 61#32 8 10 l _ _ r j f hf (by decide) hl (by decide) (by decide)))
      (turned_at w cw 61#32 16 18 l _ _ r j f hf (by decide) hl (by decide) (by decide)))
      (turned_at w cw 61#32 24 26 l _ _ r j f hf (by decide) hl (by decide) (by decide)))
      (turned_at w cw 60#32 0 3 l _ _ r j f hf (by decide) hl (by decide) (by decide)))
      (turned_at w cw 60#32 8 11 l _ _ r j f hf (by decide) hl (by decide) (by decide)))
      (turned_at w cw 60#32 16 19 l _ _ r j f hf (by decide) hl (by decide) (by decide)))
      (turned_at w cw 60#32 24 27 l _ _ r j f hf (by decide) hl (by decide) (by decide)))
      (turned_at w cw 59#32 0 4 l _ _ r j f hf (by decide) hl (by decide) (by decide)))
      (turned_at w cw 59#32 8 12 l _ _ r j f hf (by decide) hl (by decide) (by decide)))
      (turned_at w cw 59#32 16 20 l _ _ r j f hf (by decide) hl (by decide) (by decide)))
      (turned_at w cw 59#32 24 28 l _ _ r j f hf (by decide) hl (by decide) (by decide)))
      (turned_at w cw 58#32 0 5 l _ _ r j f hf (by decide) hl (by decide) (by decide)))
      (turned_at w cw 58#32 8 13 l _ _ r j f hf (by decide) hl (by decide) (by decide)))
      (turned_at w cw 58#32 16 21 l _ _ r j f hf (by decide) hl (by decide) (by decide)))
      (turned_at w cw 58#32 24 29 l _ _ r j f hf (by decide) hl (by decide) (by decide)))
      (turned_at w cw 57#32 0 6 l _ _ r j f hf (by decide) hl (by decide) (by decide)))
      (turned_at w cw 57#32 8 14 l _ _ r j f hf (by decide) hl (by decide) (by decide)))
      (turned_at w cw 57#32 16 22 l _ _ r j f hf (by decide) hl (by decide) (by decide)))
      (turned_at w cw 57#32 24 30 l _ _ r j f hf (by decide) hl (by decide) (by decide)))

/-! ## Normalisation and gate -/

/-- The mean of a row of 512 lanes. -/
def mean (p : Fin 512 → EReal) : EReal := Ideal.div (∑ q, p q) (Ideal.ofBits .f32 0x44000000#32)

/-- A row with its mean taken off, divided by its standard deviation, scaled and shifted. -/
def layernorm (p lg lb : Fin 512 → EReal) (q : Fin 512) : EReal :=
  (p q - mean p) * Ideal.rsqrt (mean (fun q => (p q - mean p) * (p q - mean p)) + eps) * lg q + lb q

/-- A value times its logistic function. -/
def silu (y : EReal) : EReal := y * Ideal.div 1 (1 + Ideal.exp (-y))

/-- The normalisation and gate of thirty-two rows. -/
def normOf {F : FTy → Type} [FloatOps F] (x : FVec F S32x512 .f32) (lg lb : FVec F S1x512 .f32) : FVec F S32x512 .bf16 :=
  let d := subf x (broadcastTo S32x512 (divf (shapeCast S32x1 (multiReduction .add [1] S32 x 0x00000000#32 reduces_S32x512_S32 (.inl rfl) rfl) shapeCasts_S32_S32x1) (broadcast S32x1 (Scalar.ofBits .f32 0x44000000#32))) broadcasts_S32x1_S32x512)
  let v := divf (shapeCast S32x1 (multiReduction .add [1] S32 (mulf d d) 0x00000000#32 reduces_S32x512_S32 (.inl rfl) rfl) shapeCasts_S32_S32x1) (broadcast S32x1 (Scalar.ofBits .f32 0x44000000#32))
  let y := addf (mulf (mulf d (broadcastTo S32x512 (rsqrt (addf v (broadcast S32x1 (Scalar.ofBits .f32 0x358637BD#32)))) broadcasts_S32x1_S32x512)) (broadcastTo S32x512 lg broadcasts_S1x512_S32x512)) (broadcastTo S32x512 lb broadcasts_S1x512_S32x512)
  shapeCast S32x512 (truncf .bf16 (mulf y (divf (broadcast S32x512 (Scalar.ofBits .f32 0x3F800000#32)) (addf (broadcast S32x512 (Scalar.ofBits .f32 0x3F800000#32)) (exp (subf (broadcast S32x512 (Scalar.ofBits .f32 0x00000000#32)) y))))) bitsLt_bf16_f32) shapeCasts_S32x512_S32x512

theorem normOf_at (x : FVec Ideal S32x512 .f32) (lg lb : FVec Ideal S1x512 .f32) (r : Fin 32) (q : Fin 512) (p : Fin 512 → EReal) (hp : ∀ q, x (ix2 r q) = p q) :
    normOf x lg lb (ix2 r q) = silu (layernorm p (fun q => lg (ix2 (0 : Fin 1) q)) (fun q => lb (ix2 (0 : Fin 1) q)) q) := by
  have hx : (fun q => x (ix2 r q)) = p := funext hp
  subst hx
  pointwise [normOf]
  rw [zero_sub]
  rfl

theorem cat_at (t0 t1 t2 t3 : FVec Ideal S32x128 .f32) (r : Fin 32) (q : Fin 512) (f : Fin 512 → EReal) (h0 : ∀ j : Fin 128, t0 (ix2 r j) = f ⟨j.val, by omega⟩)
    (h1 : ∀ j : Fin 128, t1 (ix2 r j) = f ⟨128 + j.val, by omega⟩) (h2 : ∀ j : Fin 128, t2 (ix2 r j) = f ⟨256 + j.val, by omega⟩) (h3 : ∀ j : Fin 128, t3 (ix2 r j) = f ⟨384 + j.val, by omega⟩) :
    concatenate S32x512 1 [⟨S32x128, t0⟩, ⟨S32x128, t1⟩, ⟨S32x128, t2⟩, ⟨S32x128, t3⟩] concatenates_S32x128_S32x128_S32x128_S32x128_S32x512_d1 (ix2 r q) = f q := by
  pointwise
  by_cases a : q.val < 128
  · exact (dif_pos a).trans (h0 _)
  · refine (dif_neg a).trans ?_
    by_cases b : q.val - 128 < 128
    · exact (dif_pos b).trans ((h1 _).trans (congrArg f (Fin.ext (by dsimp only; omega))))
    · refine (dif_neg b).trans ?_
      by_cases d : q.val - 128 - 128 < 128
      · exact (dif_pos d).trans ((h2 _).trans (congrArg f (Fin.ext (by dsimp only; omega))))
      · exact (dif_neg d).trans ((h3 _).trans (congrArg f (Fin.ext (by dsimp only; omega))))

/-! ## The block -/

/-- Entry `(R, q)` of the convolution block, from the extended rows `R + 1 … R + 31`. -/
theorem rows_at (X : Vec Ideal S544x512 .f32) (cw : Vec Ideal S32x512 .f32) (cb lg lb : Vec Ideal S1x512 .f32) (R q : Fin 512) (f : Fin 512 → ℕ → EReal)
    (hf : ∀ (q : Fin 512) (k : ℕ) (hk : k < 31), X (ix2 (⟨R.val + 1 + k, by omega⟩ : Fin 544) q) * cw (ix2 (⟨k, by omega⟩ : Fin 32) q) = f q k) :
    rows X cw cb lg lb (ix2 R q)
      = silu (layernorm (fun q => (∑ k ∈ Finset.range 31, f q k) + cb (ix2 (0 : Fin 1) q)) (fun q => lg (ix2 (0 : Fin 1) q)) (fun q => lb (ix2 (0 : Fin 1) q)) q) := by
  have hp (l : ℕ) (h : S32x512.Slices ![0, l] S1x128) (hl : l + 128 ≤ 512) (hs) (j : Fin 128) :
      taps (k0_pay78 cw) l h (win X (R.val / 32 * 32) l hs hl) (ix2 (⟨R.val % 32, by omega⟩ : Fin 32) j) = ∑ k ∈ Finset.range 31, f ⟨l + j.val, by omega⟩ k := by
    have e : k0_pay78 (F := Ideal) cw = cw := by unfold k0_pay78; rw [shapeCast_self]
    rw [e]
    refine taps_at _ _ l h hl _ j _ fun k hk hj => Eq.trans ?_ (hf ⟨l + j.val, hj⟩ k hk)
    exact congrArg (fun a : Fin 544 => X (ix2 a _) * _) (Fin.ext (show R.val / 32 * 32 + (R.val % 32 + 1 + k) = R.val + 1 + k by omega))
  have e79 : k0_pay79 (F := Ideal) cb = cb := by unfold k0_pay79; rw [shapeCast_self]
  have e80 : k0_pay80 (F := Ideal) lg = lg := by unfold k0_pay80; rw [shapeCast_self]
  have e81 : k0_pay81 (F := Ideal) lb = lb := by unfold k0_pay81; rw [shapeCast_self]
  unfold rows rowsAt chunk
  rw [e79, e80, e81]
  refine normOf_at _ lg lb _ q _ fun q' => ?_
  refine add_eq (cat_at _ _ _ _ _ q' (fun q => ∑ k ∈ Finset.range 31, f q k) (fun j => (hp 0 _ _ _ j).trans ?_) (fun j => hp 128 _ _ _ j) (fun j => hp 256 _ _ _ j) (fun j => hp 384 _ _ _ j)) ?_
  · exact congrArg (fun a => ∑ k ∈ Finset.range 31, f a k) (Fin.ext (by dsimp only; omega))
  · pointwise

/-! ## The extended rows' edges -/

/-- A grid point's tile within its sequence, as the kernel's words compute it. -/
def tileWord (a : Fin 64) : BitVec 32 :=
  let d : BitVec 32 := Scalar.select (Scalar.cmpi .eq 16#32 0#32) 1#32 16#32
  let e : BitVec 32 := Scalar.remsi (BitVec.ofNat 32 a.val) d
  Scalar.select (Scalar.andi (Scalar.xori (Scalar.cmpi .slt e 0#32) (Scalar.cmpi .slt d 0#32)) (Scalar.cmpi .ne e 0#32)) (Scalar.addi e d) e

/-- The keep words of a grid point: zero at a sequence's first tile, and at its last. -/
theorem keep_before : ∀ a : Fin 64, (Scalar.extui (Scalar.cmpi .sgt (tileWord a) 0#32) : BitVec 32) = if a.val % 16 = 0 then 0#32 else 1#32 := by decide +kernel
theorem keep_after : ∀ a : Fin 64, (Scalar.extui (Scalar.cmpi .slt (tileWord a) 15#32) : BitVec 32) = if a.val % 16 = 15 then 0#32 else 1#32 := by decide +kernel

theorem keep (b : Prop) [Decidable b] (x : EReal) : x * FloatOps.sitofp (F := Ideal) .f32 (if b then 0#32 else 1#32) = if b then 0 else x := by
  by_cases h : b
  · rw [if_pos h, if_pos h]
    have : (FloatOps.sitofp (F := Ideal) .f32 0#32 : EReal) = 0 := by simp [FloatOps.sitofp]
    rw [this, mul_zero]
  · rw [if_neg h, if_neg h]
    have : (FloatOps.sitofp (F := Ideal) .f32 1#32 : EReal) = 1 := by simp [FloatOps.sitofp]
    rw [this, mul_one]

theorem pay75_at (i : grid0.Coords) (x2 : Vec Ideal S16x512 .f32) (r : Fin 16) (q : Fin 512) : k0_pay75 (F := Ideal) i x2 (ix2 r q) = if (i 0).val % 16 = 0 then 0 else x2 (ix2 r q) := by
  refine Eq.trans ?_ ((congrArg (fun w => x2 (ix2 r q) * FloatOps.sitofp (F := Ideal) .f32 w) (keep_before (i 0))).trans (keep _ _))
  pointwise [k0_pay75]
  rfl
theorem pay77_at (i : grid0.Coords) (x3 : Vec Ideal S16x512 .f32) (r : Fin 16) (q : Fin 512) : k0_pay77 (F := Ideal) i x3 (ix2 r q) = if (i 0).val % 16 = 15 then 0 else x3 (ix2 r q) := by
  refine Eq.trans ?_ ((congrArg (fun w => x3 (ix2 r q) * FloatOps.sitofp (F := Ideal) .f32 w) (keep_after (i 0))).trans (keep _ _))
  pointwise [k0_pay77]
  rfl
theorem pay76_at (x1 : Vec Ideal S512x512 .f32) : k0_pay76 (F := Ideal) x1 = x1 := by
  simp only [k0_pay76, shapeCast_self]

/-! ## The mixed rows -/

/-- A row of 1024 lanes divided by its root mean square and scaled. -/
def rms (p g : Fin 1024 → EReal) (d : Fin 1024) : EReal := p d * Ideal.rsqrt (Ideal.div (∑ d, p d * p d) (Ideal.ofBits .f32 0x44800000#32) + eps) * g d

theorem pay83_at (a : Vec Ideal S512x512 .bf16) (w : Vec Ideal S512x1024 .bf16) (y : Vec Ideal S512x512 .bf16) (w' : Vec Ideal S512x1024 .bf16) (x : Vec Ideal S512x1024 .f32) (r : Fin 512) (d : Fin 1024) :
    k0_pay83 (F := Ideal) a w y w' x (ix2 r d) = x (ix2 r d) + ((∑ e : Fin 512, a (ix2 r e) * w (ix2 e d)) + ∑ e : Fin 512, y (ix2 r e) * w' (ix2 e d)) := by
  pointwise [k0_pay83]

theorem pay85_at (a : Vec Ideal S512x512 .bf16) (w : Vec Ideal S512x1024 .bf16) (y : Vec Ideal S512x512 .bf16) (w' : Vec Ideal S512x1024 .bf16) (x : Vec Ideal S512x1024 .f32) (g : Vec Ideal S1x1024 .f32)
    (r : Fin 512) (d : Fin 1024) :
    k0_pay85 (F := Ideal) (k0_pay83 a w y w' x) (k0_pay84 a w y w' x) g (ix2 r d) = rms (fun d => k0_pay83 (F := Ideal) a w y w' x (ix2 r d)) (fun d => g (ix2 (0 : Fin 1) d)) d := by
  unfold k0_pay84
  generalize k0_pay83 (F := Ideal) a w y w' x = p
  pointwise [k0_pay85]
  rfl

end Cert.MixAt

end
-- ==== Proof.MixRef.lean ====
/- The reference's arrays of the token mixing, read at an element. -/
module

public import proofs.«01_k».proof.Proof.Gen.MixRefIdeal.Read
public import proofs.«01_k».proof.Proof.MixAt
public import Idealize.ShloMosaic.Lib.Pipeline.ValueKit
public import Idealize.ShloMosaic.Lib.Pointwise.Tactic

@[expose] public section

set_option maxRecDepth 16384

noncomputable section

namespace Cert.MixRef

open Cert.MixRefIdeal Cert.MixRefIdeal.Gen Cert.MixRefIdeal.Read
open Cert.MixAt (layernorm silu rms mean add_eq)
open Idealize.ShloMosaic Idealize.ShloMosaic.TcCoe

variable (x0 x1 : FVec Ideal S4x8192x512 .f32) (x2 : FVec Ideal S31x1x512 .f32) (x3 x4 x5 : FVec Ideal S512 .f32) (x6 : FVec Ideal S1024x1024 .f32) (x7 : FVec Ideal S4x8192x1024 .f32) (x8 : FVec Ideal S1024 .f32)

/-- The padded sequence: fifteen rows of zeros before it and after it. -/
theorem pad_in (b : Fin 4) (p : Fin 8222) (q : Fin 512) (s : Fin 8192) (h : p.val = s.val + 15) : val_main_v0 (F := Ideal) x1 (ix3 b p q) = x1 (ix3 b s q) := by
  pointwise [val_main_v0]
  exact (dif_pos (by omega)).trans (congrArg (fun a => x1 (ix3 b a q)) (Fin.ext (by dsimp only; omega)))
theorem pad_out (b : Fin 4) (p : Fin 8222) (q : Fin 512) (h : p.val < 15 ∨ 8207 ≤ p.val) : val_main_v0 (F := Ideal) x1 (ix3 b p q) = 0 := by
  pointwise [val_main_v0]
  refine (dif_neg (by omega)).trans ?_
  have z : (FloatOps.sitofp (F := Ideal) .f32 0#32 : EReal) = 0 := by simp [FloatOps.sitofp]
  exact z

/-- One tap of the convolution. -/
theorem tap_at (k : ℕ) (h : S4x8222x512.Slices ![0, k, 0] S4x8192x512) (h' : S31x1x512.Slices ![k, 0, 0] S1x1x512) (hk : k < 31) (b : Fin 4) (s : Fin 8192) (q : Fin 512) (f : ℕ → EReal)
    (hf : ∀ (k : ℕ) (hk : k < 31), val_main_v0 (F := Ideal) x1 (ix3 b (⟨s.val + k, by omega⟩ : Fin 8222) q) * x2 (ix3 (⟨k, hk⟩ : Fin 31) (0 : Fin 1) q) = f k) :
    mulf (extractStridedSlice S4x8192x512 ![0, k, 0] (val_main_v0 (F := Ideal) x1) h)
      (broadcastInDim S4x8192x512 ![0, 1, 2] bcast_S1x1x512_S4x8192x512_0_1_2 (broadcastInDim S1x1x512 ![2] bcast_S512_S1x1x512_2
        (shapeCast S512 (extractStridedSlice S1x1x512 ![k, 0, 0] x2 h') shapeCasts_S1x1x512_S512))) (ix3 b s q) = f k := by
  refine Eq.trans ?_ (hf k hk)
  generalize val_main_v0 (F := Ideal) x1 = P
  pointwise
  exact congrArg (fun a => P (ix3 b a q) * x2 (ix3 (⟨k, hk⟩ : Fin 31) (0 : Fin 1) q)) (Fin.ext (by dsimp only; omega))

theorem tap_order (f : ℕ → EReal) : f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ k ∈ Finset.range 31, f k := by
  simp only [Finset.sum_range_succ, Finset.sum_range_zero, zero_add]

/-- The convolution is the sum over the taps. -/
theorem conv_at (b : Fin 4) (s : Fin 8192) (q : Fin 512) (f : ℕ → EReal)
    (hf : ∀ (k : ℕ) (hk : k < 31), val_main_v0 (F := Ideal) x1 (ix3 b (⟨s.val + k, by omega⟩ : Fin 8222) q) * x2 (ix3 (⟨k, hk⟩ : Fin 31) (0 : Fin 1) q) = f k) :
    val_main_v216 (F := Ideal) x1 x2 (ix3 b s q) = ∑ k ∈ Finset.range 31, f k := by
  refine Eq.trans ?_ (tap_order f)
  exact (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (add_eq (tap_at x1 x2 0 _ _ (by decide) b s q f hf)
    (tap_at x1 x2 1 _ _ (by decide) b s q f hf))
    (tap_at x1 x2 2 _ _ (by decide) b s q f hf))
    (tap_at x1 x2 3 _ _ (by decide) b s q f hf))
    (tap_at x1 x2 4 _ _ (by decide) b s q f hf))
    (tap_at x1 x2 5 _ _ (by decide) b s q f hf))
    (tap_at x1 x2 6 _ _ (by decide) b s q f hf))
    (tap_at x1 x2 7 _ _ (by decide) b s q f hf))
    (tap_at x1 x2 8 _ _ (by decide) b s q f hf))
    (tap_at x1 x2 9 _ _ (by decide) b s q f hf))
    (tap_at x1 x2 10 _ _ (by decide) b s q f hf))
    (tap_at x1 x2 11 _ _ (by decide) b s q f hf))
    (tap_at x1 x2 12 _ _ (by decide) b s q f hf))
    (tap_at x1 x2 13 _ _ (by decide) b s q f hf))
    (tap_at x1 x2 14 _ _ (by decide) b s q f hf))
    (tap_at x1 x2 15 _ _ (by decide) b s q f hf))
    (tap_at x1 x2 16 _ _ (by decide) b s q f hf))
    (tap_at x1 x2 17 _ _ (by decide) b s q f hf))
    (tap_at x1 x2 18 _ _ (by decide) b s q f hf))
    (tap_at x1 x2 19 _ _ (by decide) b s q f hf))
    (tap_at x1 x2 20 _ _ (by decide) b s q f hf))
    (tap_at x1 x2 21 _ _ (by decide) b s q f hf))
    (tap_at x1 x2 22 _ _ (by decide) b s q f hf))
    (tap_at x1 x2 23 _ _ (by decide) b s q f hf))
    (tap_at x1 x2 24 _ _ (by decide) b s q f hf))
    (tap_at x1 x2 25 _ _ (by decide) b s q f hf))
    (tap_at x1 x2 26 _ _ (by decide) b s q f hf))
    (tap_at x1 x2 27 _ _ (by decide) b s q f hf))
    (tap_at x1 x2 28 _ _ (by decide) b s q f hf))
    (tap_at x1 x2 29 _ _ (by decide) b s q f hf))
    (tap_at x1 x2 30 _ _ (by decide) b s q f hf))

/-- The normalised and gated convolution. -/
theorem y_at (b : Fin 4) (s : Fin 8192) (q : Fin 512) :
    val_main_v244 (F := Ideal) x1 x2 x3 x4 x5 (ix3 b s q)
      = silu (layernorm (fun q => val_main_v216 (F := Ideal) x1 x2 (ix3 b s q) + x3 (ix1 q)) (fun q => x4 (ix1 q)) (fun q => x5 (ix1 q)) q) := by
  pointwise [val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_call1_v5, val_main_call1_v4, val_main_call1_v3, val_main_call1_v2, val_main_call1_v1, val_main_call1_v0, val_main_call1_cst, val_main_call1_cst_0, val_main_cst, val_main_cst_0, val_main_cst_1, val_main_cst_2, val_main_cst_3]
  rfl

/-- The residual rows: the product over the joined lanes is the sum of the two halves' products. -/
theorem x_at (b : Fin 4) (s : Fin 8192) (d : Fin 1024) :
    val_main_v247 (F := Ideal) x0 x1 x2 x3 x4 x5 x6 x7 (ix3 b s d)
      = x7 (ix3 b s d) + ((∑ e : Fin 512, x0 (ix3 b s e) * x6 (ix2 (⟨e.val, by omega⟩ : Fin 1024) d))
        + ∑ e : Fin 512, val_main_v244 (F := Ideal) x1 x2 x3 x4 x5 (ix3 b s e) * x6 (ix2 (⟨512 + e.val, by omega⟩ : Fin 1024) d)) := by
  pointwise [val_main_v247, val_main_v246, val_main_v245]

theorem n_at (b : Fin 4) (s : Fin 8192) (d : Fin 1024) :
    val_main_v260 (F := Ideal) x0 x1 x2 x3 x4 x5 x6 x7 x8 (ix3 b s d) = rms (fun d => val_main_v247 (F := Ideal) x0 x1 x2 x3 x4 x5 x6 x7 (ix3 b s d)) (fun d => x8 (ix1 d)) d := by
  pointwise [val_main_v260, val_main_v259, val_main_v258, val_main_v257, val_main_v256, val_main_v255, val_main_v254, val_main_v253, val_main_v252, val_main_v251, val_main_v250, val_main_v249, val_main_v248, val_main_cst_4, val_main_cst_5, val_main_cst_6]
  rfl

/-! ## The three results -/

theorem ref_x (b : Fin 4) (s : Fin 8192) (d : Fin 1024) :
    val_main_v265 (F := Ideal) x0 x1 x2 x3 x4 x5 x6 x7 (ix2 (⟨b.val * 8192 + s.val, by omega⟩ : Fin 32768) d) = val_main_v247 (F := Ideal) x0 x1 x2 x3 x4 x5 x6 x7 (ix3 b s d) := by
  pointwise [val_main_v265]
theorem ref_n (b : Fin 4) (s : Fin 8192) (d : Fin 1024) :
    val_main_v261 (F := Ideal) x0 x1 x2 x3 x4 x5 x6 x7 x8 (ix2 (⟨b.val * 8192 + s.val, by omega⟩ : Fin 32768) d) = val_main_v260 (F := Ideal) x0 x1 x2 x3 x4 x5 x6 x7 x8 (ix3 b s d) := by
  pointwise [val_main_v261]
theorem ref_t (r : Fin 32768) (u : Fin 8) (j : Fin 128) :
    val_main_v264 (F := Ideal) x0 x1 x2 x3 x4 x5 x6 x7 x8 (ix3 r u j)
      = val_main_v261 (F := Ideal) x0 x1 x2 x3 x4 x5 x6 x7 x8 (ix2 r (⟨u.val % 2 * 512 + u.val / 2 * 128 + j.val, by omega⟩ : Fin 1024)) := by
  pointwise [val_main_v264, val_main_v263, val_main_v262]

end Cert.MixRef

end
-- ==== Proof.MixRun.lean ====
/- What one grid point of the token mixing writes, against the reference's arrays. -/
module

public import proofs.«01_k».proof.Proof.MixHost
public import proofs.«01_k».proof.Proof.MixRef

@[expose] public section

set_option maxRecDepth 16384

noncomputable section

namespace Cert.MixRun

open Cert.MixIdeal Cert.MixIdeal.Gen Cert.MixHost Cert.MixBody Cert.MixLoop Cert.MixAt
open Idealize.ShloMosaic Idealize.ShloMosaic.TcCoe Idealize.SL.Sem

variable (m : (ℓ : Loc nD τ sig) → Buf (Elt Ideal) ℓ) (c : Dev nD)

/-- Point `t` is the tile `t % 16` of sequence `t / 16`; its neighbour blocks are the sixteen rows before the tile and after it. -/
theorem idx : ∀ t : Fin cfg0.N, win0_0.index t = ![t.val, 0] ∧ win0_1.index t = ![t.val, 0] ∧ win0_2.index t = ![t.val * 32 - 1, 0] ∧ win0_3.index t = ![min ((t.val + 1) * 32) 2047, 0]
    ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![0, 0]
    ∧ win0_11.index t = ![t.val, 0] ∧ win0_12.index t = ![t.val, 0] ∧ win0_13.index t = ![t.val, 0, 0] :=
  (by decide +kernel : ∀ t : Fin grid0.N, _)

theorem coord : ∀ t : Fin cfg0.N, (grid0.coords t 0).val = t.val := (by decide +kernel : ∀ t : Fin grid0.N, _)

theorem lt64 (t : Fin cfg0.N) : t.val < 64 := lt_of_lt_of_eq t.isLt N_0

abbrev batch (t : Fin cfg0.N) : Fin 4 := ⟨t.val / 16, by have := lt64 t; omega⟩
abbrev tok (t : Fin cfg0.N) (r : Fin 512) : Fin 8192 := ⟨t.val % 16 * 512 + r.val, by omega⟩

/-! ## The blocks a point reads -/

theorem blkA (t : Fin cfg0.N) (r q : Fin 512) : (show FVec Ideal S512x512 .bf16 from iblk m c 0 t) (ix2 r q) = A m c (ix3 (batch t) (tok t r) q) := by
  refine Eq.trans ?_ (a_at m c (batch t) (tok t r) q)
  have := lt64 t
  blk_ext [iblk, idx t]
theorem blkH (t : Fin cfg0.N) (r q : Fin 512) : (show FVec Ideal S512x512 .f32 from iblk m c 1 t) (ix2 r q) = H m c (ix3 (batch t) (tok t r) q) := by
  refine Eq.trans ?_ (h_at m c (batch t) (tok t r) q)
  have := lt64 t
  blk_ext [iblk, idx t]
theorem blkP (t : Fin cfg0.N) (ht : t.val % 16 ≠ 0) (r : Fin 16) (q : Fin 512) :
    (show FVec Ideal S16x512 .f32 from iblk m c 2 t) (ix2 r q) = H m c (ix3 (batch t) (⟨t.val % 16 * 512 + r.val - 16, by omega⟩ : Fin 8192) q) := by
  refine Eq.trans ?_ (h_at m c (batch t) _ q)
  have := lt64 t
  blk_ext [iblk, idx t]
theorem blkN (t : Fin cfg0.N) (ht : t.val % 16 ≠ 15) (r : Fin 16) (q : Fin 512) :
    (show FVec Ideal S16x512 .f32 from iblk m c 3 t) (ix2 r q) = H m c (ix3 (batch t) (⟨t.val % 16 * 512 + r.val + 512, by omega⟩ : Fin 8192) q) := by
  refine Eq.trans ?_ (h_at m c (batch t) _ q)
  have := lt64 t
  blk_ext [iblk, idx t]
theorem blkCW (t : Fin cfg0.N) (k : ℕ) (hk : k < 31) (q : Fin 512) : (show FVec Ideal S32x512 .f32 from iblk m c 4 t) (ix2 (⟨k, by omega⟩ : Fin 32) q) = CW m c (ix3 (⟨k, hk⟩ : Fin 31) (0 : Fin 1) q) := by
  refine Eq.trans ?_ (cw_at m c k hk q)
  blk_ext [iblk, idx t]
theorem blkCB (t : Fin cfg0.N) (q : Fin 512) : (show FVec Ideal S1x512 .f32 from iblk m c 5 t) (ix2 (0 : Fin 1) q) = CB m c (ix1 q) := by
  refine Eq.trans ?_ (cb_at m c q)
  blk_ext [iblk, idx t]
theorem blkLG (t : Fin cfg0.N) (q : Fin 512) : (show FVec Ideal S1x512 .f32 from iblk m c 6 t) (ix2 (0 : Fin 1) q) = LG m c (ix1 q) := by
  refine Eq.trans ?_ (lg_at m c q)
  blk_ext [iblk, idx t]
theorem blkLB (t : Fin cfg0.N) (q : Fin 512) : (show FVec Ideal S1x512 .f32 from iblk m c 7 t) (ix2 (0 : Fin 1) q) = LB m c (ix1 q) := by
  refine Eq.trans ?_ (lb_at m c q)
  blk_ext [iblk, idx t]
theorem blkW (t : Fin cfg0.N) (e d : Fin 1024) : (show FVec Ideal S1024x1024 .bf16 from iblk m c 8 t) (ix2 e d) = W m c (ix2 e d) := by
  refine Eq.trans ?_ (w_at m c e d)
  blk_ext [iblk, idx t]
theorem blkX (t : Fin cfg0.N) (r : Fin 512) (d : Fin 1024) : (show FVec Ideal S512x1024 .f32 from iblk m c 9 t) (ix2 r d) = X m c (ix3 (batch t) (tok t r) d) := by
  refine Eq.trans ?_ (x_at m c (batch t) (tok t r) d)
  have := lt64 t
  blk_ext [iblk, idx t]
theorem blkG (t : Fin cfg0.N) (d : Fin 1024) : (show FVec Ideal S1x1024 .f32 from iblk m c 10 t) (ix2 (0 : Fin 1) d) = G m c (ix1 d) := by
  refine Eq.trans ?_ (g_at m c d)
  blk_ext [iblk, idx t]

/-! ## The same values in the reference -/

/-- Row `p` of a point's extended rows is row `p - 1` of the padded sequence from the tile's first token. -/
theorem ext_at (t : Fin cfg0.N) (p : Fin 544) (q : Fin 512) (P : Fin 8222) (hp : t.val % 16 * 512 + p.val = P.val + 1) :
    ext (F := Ideal) (grid0.coords t) (iblk m c 1 t) (iblk m c 2 t) (iblk m c 3 t) (ix2 p q) = Cert.MixRefIdeal.Read.val_main_v0 (F := Ideal) (H m c) (ix3 (batch t) P q) := by
  have ht := lt64 t
  have hc := coord t
  unfold ext
  by_cases h : p.val < 16
  · refine (dif_pos h).trans ((pay75_at _ _ _ _).trans ?_)
    by_cases h0 : t.val % 16 = 0
    · exact (if_pos (by omega)).trans (MixRef.pad_out (H m c) (batch t) P q (by omega)).symm
    · refine (if_neg (by omega)).trans ((blkP m c t h0 _ q).trans (MixRef.pad_in (H m c) (batch t) P q _ ?_).symm)
      dsimp only
      show P.val = t.val % 16 * 512 + p.val - 16 + 15
      omega
  · refine (dif_neg h).trans ?_
    by_cases h' : p.val < 528
    · refine (dif_pos h').trans ((congrFun (pay76_at _) _).trans ((blkH m c t _ q).trans (MixRef.pad_in (H m c) (batch t) P q _ ?_).symm))
      show P.val = t.val % 16 * 512 + (p.val - 16) + 15
      omega
    · refine (dif_neg h').trans ((pay77_at _ _ _ _).trans ?_)
      by_cases h0 : t.val % 16 = 15
      · exact (if_pos (by omega)).trans (MixRef.pad_out (H m c) (batch t) P q (by omega)).symm
      · refine (if_neg (by omega)).trans ((blkN m c t h0 _ q).trans (MixRef.pad_in (H m c) (batch t) P q _ ?_).symm)
        show P.val = t.val % 16 * 512 + (p.val - 528) + 512 + 15
        omega

theorem norm_congr {p p' g g' b b' : Fin 512 → EReal} (hp : p = p') (hg : g = g') (hb : b = b') (q : Fin 512) : silu (layernorm p g b q) = silu (layernorm p' g' b' q) := by rw [hp, hg, hb]

/-- The convolution block is a block of the reference's normalised and gated convolution. -/
theorem conv_ref (t : Fin cfg0.N) (r q : Fin 512) :
    conv (F := Ideal) (grid0.coords t) (iblk m c 1 t) (iblk m c 2 t) (iblk m c 3 t) (iblk m c 4 t) (iblk m c 5 t) (iblk m c 6 t) (iblk m c 7 t) (ix2 r q)
      = Cert.MixRefIdeal.Read.val_main_v244 (F := Ideal) (H m c) (CW m c) (CB m c) (LG m c) (LB m c) (ix3 (batch t) (tok t r) q) := by
  let f : Fin 512 → ℕ → EReal := fun q k =>
    if hk : k < 31 then Cert.MixRefIdeal.Read.val_main_v0 (F := Ideal) (H m c) (ix3 (batch t) (⟨(tok t r).val + k, by omega⟩ : Fin 8222) q) * CW m c (ix3 (⟨k, hk⟩ : Fin 31) (0 : Fin 1) q) else 0
  have hf (q : Fin 512) (k : ℕ) (hk : k < 31) :
      f q k = Cert.MixRefIdeal.Read.val_main_v0 (F := Ideal) (H m c) (ix3 (batch t) (⟨(tok t r).val + k, by omega⟩ : Fin 8222) q) * CW m c (ix3 (⟨k, hk⟩ : Fin 31) (0 : Fin 1) q) := dif_pos hk
  refine (rows_at _ _ _ _ _ r q f fun q k hk => ?_).trans (Eq.trans (norm_congr ?_ ?_ ?_ q) (MixRef.y_at (H m c) (CW m c) (CB m c) (LG m c) (LB m c) (batch t) (tok t r) q).symm)
  · exact (congrArg₂ (fun a b : EReal => a * b) (ext_at m c t _ q (⟨(tok t r).val + k, by omega⟩ : Fin 8222) (by dsimp only; omega)) (blkCW m c t k hk q)).trans (hf q k hk).symm
  · funext q
    exact add_eq (MixRef.conv_at (H m c) (CW m c) (batch t) (tok t r) q (f q) fun k hk => (hf q k hk).symm).symm (blkCB m c t q)
  · exact funext fun q => blkLG m c t q
  · exact funext fun q => blkLB m c t q

/-- The residual block. -/
abbrev pX (t : Fin cfg0.N) : FVec Ideal S512x1024 .f32 :=
  outX (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev pN (t : Fin cfg0.N) : FVec Ideal S512x1024 .f32 :=
  outN (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev pT (t : Fin cfg0.N) : FVec Ideal S512x8x128 .f32 :=
  outT (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem x_ref (t : Fin cfg0.N) (r : Fin 512) (d : Fin 1024) :
    pX m c t (ix2 r d) = Cert.MixRefIdeal.Read.val_main_v247 (F := Ideal) (A m c) (H m c) (CW m c) (CB m c) (LG m c) (LB m c) (W m c) (X m c) (ix3 (batch t) (tok t r) d) := by
  refine (pay83_at _ _ _ _ _ r d).trans (Eq.trans ?_ (MixRef.x_at _ _ _ _ _ _ _ _ (batch t) (tok t r) d).symm)
  refine add_eq (blkX m c t r d) (add_eq (Finset.sum_congr rfl fun e _ => ?_) (Finset.sum_congr rfl fun e _ => ?_))
  · exact congrArg₂ (fun a b : EReal => a * b) (blkA m c t r e) (blkW m c t _ d)
  · exact congrArg₂ (fun a b : EReal => a * b) (conv_ref m c t r e) (blkW m c t _ d)

theorem n_ref (t : Fin cfg0.N) (r : Fin 512) (d : Fin 1024) :
    pN m c t (ix2 r d) = Cert.MixRefIdeal.Read.val_main_v260 (F := Ideal) (A m c) (H m c) (CW m c) (CB m c) (LG m c) (LB m c) (W m c) (X m c) (G m c) (ix3 (batch t) (tok t r) d) := by
  refine (pay85_at _ _ _ _ _ _ r d).trans (Eq.trans ?_ (MixRef.n_at _ _ _ _ _ _ _ _ _ (batch t) (tok t r) d).symm)
  have h (p p' g g' : Fin 1024 → EReal) (hp : p = p') (hg : g = g') : rms p g d = rms p' g' d := by rw [hp, hg]
  exact h _ _ _ _ (funext fun d => x_ref m c t r d) (funext fun d => blkG m c t d)

/-! ## What a point leaves in the three output blocks -/

theorem outs11 (t : Fin cfg0.N) : (outsAt0 m c t).1 = pX m c t := by
  dsimp only [outsAt0]
  rw [out11]
theorem outs12 (t : Fin cfg0.N) : (outsAt0 m c t).2.1 = pN m c t := by
  dsimp only [outsAt0]
  rw [out12]
theorem outs13 (t : Fin cfg0.N) : (outsAt0 m c t).2.2 = pT m c t := by
  dsimp only [outsAt0]
  rw [out13]

/-- The row of a point's token among all tokens. -/
abbrev row (t : Fin cfg0.N) (r : Fin 512) : Fin 32768 := ⟨(batch t).val * 8192 + (tok t r).val, by have := lt64 t; dsimp only; omega⟩

theorem point11 (t : Fin cfg0.N) (r : Fin 512) (d : Fin 1024) :
    (outsAt0 m c t).1 (ix2 r d) = Cert.MixRefIdeal.Read.val_main_v265 (F := Ideal) (A m c) (H m c) (CW m c) (CB m c) (LG m c) (LB m c) (W m c) (X m c) (ix2 (row t r) d) := by
  rw [outs11]
  exact (x_ref m c t r d).trans (MixRef.ref_x _ _ _ _ _ _ _ _ (batch t) (tok t r) d).symm
theorem point12 (t : Fin cfg0.N) (r : Fin 512) (d : Fin 1024) :
    (outsAt0 m c t).2.1 (ix2 r d) = Cert.MixRefIdeal.Read.val_main_v261 (F := Ideal) (A m c) (H m c) (CW m c) (CB m c) (LG m c) (LB m c) (W m c) (X m c) (G m c) (ix2 (row t r) d) := by
  rw [outs12]
  exact (n_ref m c t r d).trans (MixRef.ref_n _ _ _ _ _ _ _ _ _ (batch t) (tok t r) d).symm
theorem point13 (t : Fin cfg0.N) (r : Fin 512) (u : Fin 8) (j : Fin 128) :
    (outsAt0 m c t).2.2 (ix3 r u j) = Cert.MixRefIdeal.Read.val_main_v264 (F := Ideal) (A m c) (H m c) (CW m c) (CB m c) (LG m c) (LB m c) (W m c) (X m c) (G m c) (ix3 (row t r) u j) := by
  rw [outs13]
  exact (n_ref m c t r _).trans ((MixRef.ref_n _ _ _ _ _ _ _ _ _ (batch t) (tok t r) _).symm.trans (MixRef.ref_t _ _ _ _ _ _ _ _ _ (row t r) u j).symm)

/-! ## The three arrays -/

variable {m c}

/-- The residual rows. -/
theorem final11 : (dats m 0 c).arrAt 11 cfg0.N = Cert.MixRefIdeal.Read.val_main_v265 (F := Ideal) (A m c) (H m c) (CW m c) (CB m c) (LG m c) (LB m c) (W m c) (X m c) := by
  refine (dats m 0 c).arrAt_eq_of_covers 11 _ (by decide +kernel) fun t _ y => ?_
  blk_simp
  rw [after0_11]
  refine (congrArg (outsAt0 m c t).1 (by blk_ext : _ = ix2 (y 0 : Fin 512) (y 1 : Fin 1024))).trans ((point11 m c t (y 0) (y 1)).trans (congrArg _ ?_))
  blk_ext [idx t]

/-- The normalised rows. -/
theorem final12 : (dats m 0 c).arrAt 12 cfg0.N = Cert.MixRefIdeal.Read.val_main_v261 (F := Ideal) (A m c) (H m c) (CW m c) (CB m c) (LG m c) (LB m c) (W m c) (X m c) (G m c) := by
  refine (dats m 0 c).arrAt_eq_of_covers 12 _ (by decide +kernel) fun t _ y => ?_
  blk_simp
  rw [after0_12]
  refine (congrArg (outsAt0 m c t).2.1 (by blk_ext : _ = ix2 (y 0 : Fin 512) (y 1 : Fin 1024))).trans ((point12 m c t (y 0) (y 1)).trans (congrArg _ ?_))
  blk_ext [idx t]

/-- The normalised rows by lane tiles. -/
theorem final13 : (dats m 0 c).arrAt 13 cfg0.N = Cert.MixRefIdeal.Read.val_main_v264 (F := Ideal) (A m c) (H m c) (CW m c) (CB m c) (LG m c) (LB m c) (W m c) (X m c) (G m c) := by
  refine (dats m 0 c).arrAt_eq_of_covers 13 _ (by decide +kernel) fun t _ y => ?_
  blk_simp
  rw [after0_13]
  refine (congrArg (outsAt0 m c t).2.2 (by blk_ext : _ = ix3 (y 0 : Fin 512) (y 1 : Fin 8) (y 2 : Fin 128))).trans ((point13 m c t (y 0) (y 1) (y 2)).trans (congrArg _ ?_))
  blk_ext [idx t]

end Cert.MixRun

end
-- ==== Proof.lean ====
module

public import proofs.«01_k».proof.Defs
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackRef.Run
public import proofs.«01_k».proof.Proof.Gen.PackRef.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.PackRef
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.PackEq
public import proofs.«01_k».proof.Proof.AttnRun
public import proofs.«01_k».proof.Proof.AttnEq
public import proofs.«01_k».proof.Proof.InEq
public import proofs.«01_k».proof.Proof.MixRun
public import proofs.«01_k».proof.Proof.Gen.Route
public import proofs.«01_k».proof.Proof.Gen.Route.Frame
public import proofs.«01_k».proof.Proof.Gen.RouteIdeal
public import proofs.«01_k».proof.Proof.Gen.RouteIdeal.Frame
public import Idealize.ShloMosaic.Lib.Quiescent
public import Idealize.ShloMosaic.Adequacy
public import Idealize.ShloMosaic.Init

@[expose] public section

noncomputable section

namespace Cert.Proof

open Idealize.ShloMosaic Idealize.SL.Sem

/-- The packing kernel's frame. -/
theorem frame_pack : quiescent_Pack (hPack := Cert.Pack.Gen.facts) := fun m ρ _ => Cert.PackBody.frame m ρ

/-- The packing reference's frame: it declares no semaphore. -/
theorem frame_pack_ref : quiescent_PackRef (hPackRef := Cert.PackRef.Gen.facts) := fun m ρ _ =>
  (θ_run Cert.PackRef.defs _ _).mono (fun r h => ⟨fun c => (h c).2, sem_eq_zero_of_no_sems (by decide) r.2⟩)
    (Cert.PackRef.Value.run (F := Bits) m ρ)

/-- The attention reference's frame: it declares no semaphore. -/
theorem frame_attn_ref : quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The packing kernel and its reference end with the same words. -/
theorem bitexact_pack : bitexact_Pack_PackRef (hPack := Cert.Pack.Gen.facts) (hPackRef := Cert.PackRef.Gen.facts) :=
  fun m g m' g' _ hagree =>
    ⟨fun c => Cert.PackBody.packed (m ((c.tc : Thread Cert.Pack.nD Cert.Pack.τ).loc Cert.Pack.main_arg0)), Cert.PackBody.run m g,
      (θ_run Cert.PackRef.defs _ _).mono (fun r h c => ⟨by
          rw [(h c).1, hagree c]
          exact (Cert.PackEq.packed_eq _).symm, (h c).2⟩)
        (Cert.PackRef.Value.run (F := Bits) m' g')⟩

/-- The precondition's shape facts. -/
theorem pre_facts : Cert.Pre_finite_queries_keys.Facts := ⟨by decide, by decide⟩

/-- On finite queries and keys the attention kernel and its reference end with the same values. -/
theorem algebraic_attn : algebraic_AttnIdeal_AttnRefIdeal_pre_finite_queries_keys (hAttnIdeal := Cert.AttnIdeal.Gen.facts)
    (hAttnRefIdeal := Cert.AttnRefIdeal.Gen.facts) (hPre_finite_queries_keys := pre_facts) :=
  fun m g m' g' hpre hagree =>
    ⟨fun c => Cert.AttnIdeal.Value.G3 m c, Cert.AttnIdeal.Value.run m g,
      (θ_run Cert.AttnRefIdeal.defs _ _).mono (fun r h c => ⟨by
          rw [(h c).1, (hagree c).1, (hagree c).2.1, (hagree c).2.2]
          exact (letI := pre_facts; Cert.AttnEq.eq_ref m c (hpre c)).symm, (h c).2⟩)
        (Cert.AttnRefIdeal.Value.run (F := Ideal) m' g')⟩

/-- The input projection's reference's frame: it declares no semaphore. -/
theorem frame_in_ref : quiescent_InProjRefIdeal (hInProjRefIdeal := Cert.InProjRefIdeal.Gen.facts) := fun m ρ _ =>
  (θ_run Cert.InProjRefIdeal.defs _ _).mono (fun r h => ⟨fun c => (h c).2.2.2.2, sem_eq_zero_of_no_sems (by decide) r.2⟩)
    (Cert.InProjRefIdeal.Value.run (F := Ideal) m ρ)

/-- The shape facts of the precondition on the weights. -/
theorem pre_weights_facts : Cert.Pre_finite_weights.Facts := ⟨by decide, by decide⟩

/-- On finite weights the input projection and its reference end with the same four arrays. -/
theorem algebraic_in : algebraic_InProjIdeal_InProjRefIdeal_pre_finite_weights (hInProjIdeal := Cert.InProjIdeal.Gen.facts)
    (hInProjRefIdeal := Cert.InProjRefIdeal.Gen.facts) (hPre_finite_weights := pre_weights_facts) :=
  fun m g m' g' hpre hagree =>
    ⟨fun c => (Cert.InProjIdeal.Gen.dats m 0 c).arrAt 8 Cert.InProjIdeal.cfg0.N, fun c => (Cert.InProjIdeal.Gen.dats m 0 c).arrAt 9 Cert.InProjIdeal.cfg0.N,
      fun c => (Cert.InProjIdeal.Gen.dats m 0 c).arrAt 10 Cert.InProjIdeal.cfg0.N, fun c => (Cert.InProjIdeal.Gen.dats m 0 c).arrAt 11 Cert.InProjIdeal.cfg0.N,
      Cert.InProjIdeal.Value.run_blocks m g,
      (θ_run Cert.InProjRefIdeal.defs _ _).mono (fun r h c => by
          have hr := letI := pre_weights_facts; Cert.InRun.reals m c (hpre c)
          obtain ⟨a0, a1, a2, a3, a4⟩ := hagree c
          refine ⟨?_, ?_, ?_, ?_, (h c).2.2.2.2⟩
          · refine Eq.trans ?_ (Cert.InRun.final8 hr).symm
            refine (h c).1.trans ((Cert.InProjRefIdeal.Read.val_main_v179_eq (StableHlo.launchContents m' c)).trans ?_)
            exact congr (congr (congr (congrArg _ a0) a1) a2) a3
          · refine Eq.trans ?_ (Cert.InRun.final9 hr).symm
            refine (h c).2.1.trans ((Cert.InProjRefIdeal.Read.val_main_v187_eq (StableHlo.launchContents m' c)).trans ?_)
            exact congr (congr (congr (congrArg _ a0) a1) a2) a4
          · refine Eq.trans ?_ (Cert.InRun.final10).symm
            refine (h c).2.2.1.trans ((Cert.InProjRefIdeal.Read.val_main_v185_eq (StableHlo.launchContents m' c)).trans ?_)
            exact congr (congr (congrArg _ a0) a1) a2
          · refine Eq.trans ?_ (Cert.InRun.final11).symm
            refine (h c).2.2.2.1.trans ((Cert.InProjRefIdeal.Read.val_main_v188_eq (StableHlo.launchContents m' c)).trans ?_)
            exact congr (congr (congrArg _ a0) a1) a2)
        (Cert.InProjRefIdeal.Value.run (F := Ideal) m' g')⟩

/-- The mixing's reference's frame: it declares no semaphore. -/
theorem frame_mix_ref : quiescent_MixRefIdeal (hMixRefIdeal := Cert.MixRefIdeal.Gen.facts) := fun m ρ _ =>
  (θ_run Cert.MixRefIdeal.defs _ _).mono (fun r h => ⟨fun c => (h c).2.2.2, sem_eq_zero_of_no_sems (by decide) r.2⟩)
    (Cert.MixRefIdeal.Value.run (F := Ideal) m ρ)

/-- The mixing and its reference end with the same three arrays. -/
theorem algebraic_mix : algebraic_MixIdeal_MixRefIdeal (hMixIdeal := Cert.MixIdeal.Gen.facts) (hMixRefIdeal := Cert.MixRefIdeal.Gen.facts) :=
  fun m g m' g' _ hagree =>
    ⟨fun c => (Cert.MixIdeal.Gen.dats m 0 c).arrAt 11 Cert.MixIdeal.cfg0.N, fun c => (Cert.MixIdeal.Gen.dats m 0 c).arrAt 12 Cert.MixIdeal.cfg0.N,
      fun c => (Cert.MixIdeal.Gen.dats m 0 c).arrAt 13 Cert.MixIdeal.cfg0.N,
      Cert.MixIdeal.Value.run_blocks m g,
      (θ_run Cert.MixRefIdeal.defs _ _).mono (fun r h c => by
          obtain ⟨a0, a1, a2, a3, a4, a5, a6, a7, a8⟩ := hagree c
          refine ⟨?_, ?_, ?_, (h c).2.2.2⟩
          · refine Eq.trans ?_ (Cert.MixRun.final11).symm
            refine (h c).1.trans ((Cert.MixRefIdeal.Read.val_main_v265_eq (StableHlo.launchContents m' c)).trans ?_)
            exact congr (congr (congr (congr (congr (congr (congr (congrArg _ a0) a1) a2) a3) a4) a5) a6) a7
          · refine Eq.trans ?_ (Cert.MixRun.final12).symm
            refine (h c).2.1.trans ((Cert.MixRefIdeal.Read.val_main_v261_eq (StableHlo.launchContents m' c)).trans ?_)
            exact congr (congr (congr (congr (congr (congr (congr (congr (congrArg _ a0) a1) a2) a3) a4) a5) a6) a7) a8
          · refine Eq.trans ?_ (Cert.MixRun.final13).symm
            refine (h c).2.2.1.trans ((Cert.MixRefIdeal.Read.val_main_v264_eq (StableHlo.launchContents m' c)).trans ?_)
            exact congr (congr (congr (congr (congr (congr (congr (congr (congrArg _ a0) a1) a2) a3) a4) a5) a6) a7) a8)
        (Cert.MixRefIdeal.Value.run (F := Ideal) m' g')⟩

theorem claim : Cert.Claim := ⟨Cert.Pack.Gen.facts, Cert.PackRef.Gen.facts, Cert.Attn.Gen.facts, Cert.AttnIdeal.Gen.facts, Cert.AttnRefIdeal.Gen.facts,
  Cert.InProj.Gen.facts, Cert.InProjIdeal.Gen.facts, Cert.InProjRefIdeal.Gen.facts, Cert.Mix.Gen.facts, Cert.MixIdeal.Gen.facts, Cert.MixRefIdeal.Gen.facts, Cert.Route.Gen.facts, Cert.RouteIdeal.Gen.facts, pre_facts, pre_weights_facts,
  frame_pack, frame_pack_ref, fun m ρ _ => Cert.Attn.Gen.frame m ρ, fun m ρ _ => Cert.AttnIdeal.Gen.frame m ρ,
  fun m ρ _ => Cert.AttnIdeal.Gen.frame m ρ, frame_attn_ref, fun m ρ _ => frame_attn_ref m ρ trivial,
  fun m ρ _ => Cert.InProj.Gen.frame m ρ, fun m ρ _ => Cert.InProjIdeal.Gen.frame m ρ, fun m ρ _ => Cert.InProjIdeal.Gen.frame m ρ,
  frame_in_ref, fun m ρ _ => frame_in_ref m ρ trivial,
  fun m ρ _ => Cert.Mix.Gen.frame m ρ, fun m ρ _ => Cert.MixIdeal.Gen.frame m ρ, frame_mix_ref,
  fun m ρ _ => Cert.Route.Gen.frame m ρ, fun m ρ _ => Cert.RouteIdeal.Gen.frame m ρ, bitexact_pack, trivial, algebraic_attn, trivial, algebraic_in, trivial, algebraic_mix, trivial⟩

end Cert.Proof

end
